-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 2048]⟩ ⟨2, ![4096, 2048]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2x2048 : Shape := ⟨2, ![2, 2048]⟩
abbrev S256x2048 : Shape := ⟨2, ![256, 2048]⟩
abbrev S16x2x2048 : Shape := ⟨3, ![16, 2, 2048]⟩
abbrev S4 : Shape := ⟨1, ![4]⟩
abbrev S16 : Shape := ⟨1, ![16]⟩
abbrev S_ : Shape := ⟨0, ![]⟩
abbrev S1 : Shape := ⟨1, ![1]⟩
abbrev S128x2048 : Shape := ⟨2, ![128, 2048]⟩
abbrev S2048 : Shape := ⟨1, ![2048]⟩
abbrev S128 : Shape := ⟨1, ![128]⟩
abbrev S128x1 : Shape := ⟨2, ![128, 1]⟩
abbrev S1x1x2048 : Shape := ⟨3, ![1, 1, 2048]⟩
abbrev S1x2x2048 : Shape := ⟨3, ![1, 2, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2x2048, .f32⟩
  | .local _ .vmem, ⟨0, _⟩ => ⟨S2x2048, .f32⟩
  | .local _ .vmem, ⟨1, _⟩ => ⟨S256x2048, .f32⟩
  | .local _ .vmem, ⟨2, _⟩ => ⟨S256x2048, .f32⟩
  | .local _ .vmem, ⟨3, _⟩ => ⟨S16x2x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_5 : BitVec 32 := 1#32
  let v17 : BitVec 32 := Scalar.addi v12 c1_i32_5
  let c16_i32 : BitVec 32 := 16#32
  let c0_i32 : BitVec 32 := 0#32
  let v18 : BitVec 1 := Scalar.cmpi .eq c16_i32 c0_i32
  let c1_i32_6 : BitVec 32 := 1#32
  let v19 : BitVec 32 := Scalar.select v18 c1_i32_6 c16_i32
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c8_i32_10 : BitVec 32 := 8#32
  let c0_i32_13 : BitVec 32 := 0#32
  let v34 : BitVec 1 := Scalar.cmpi .sgt c8_i32_10 c0_i32_13
  let v35 : BitVec 32 := Scalar.extui v34
  let c0_i32_14 : BitVec 32 := 0#32
  let v36 : BitVec 1 := Scalar.cmpi .slt c8_i32_10 c0_i32_14
  let v37 : BitVec 32 := Scalar.extui v36
  let v38 : BitVec 32 := Scalar.subi v35 v37
  let v39 : BitVec 1 := Scalar.cmpi .ne v33 v38
  let v40 : BitVec 32 := Scalar.remsi v27 c8_i32_10
  let c0_i32_15 : BitVec 32 := 0#32
  let v41 : BitVec 1 := Scalar.cmpi .ne v40 c0_i32_15
  let v42 : BitVec 1 := Scalar.andi v39 v41
  let v28 : BitVec 32 := Scalar.divsi v27 c8_i32_10
  let c1_i32_16 : BitVec 32 := 1#32
  let v43 : BitVec 32 := Scalar.subi v28 c1_i32_16
  let v44 : BitVec 32 := Scalar.select v42 v43 v28
  let c8_i32_37 : BitVec 32 := 8#32
  let v82 : BitVec 32 := Scalar.muli v44 c8_i32_37
  let v83 : BitVec 32 := Scalar.addi c0_i32_38 v82
  let c8_i32_17 : BitVec 32 := 8#32
  let c0_i32_18 : BitVec 32 := 0#32
  let v45 : BitVec 1 := Scalar.cmpi .eq c8_i32_17 c0_i32_18
  let c1_i32_19 : BitVec 32 := 1#32
  let v46 : BitVec 32 := Scalar.select v45 c1_i32_19 c8_i32_17
  let v47 : BitVec 32 := Scalar.remsi v27 v46
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let c0_i32_20 : BitVec 32 := 0#32
  let v48 : BitVec 1 := Scalar.cmpi .ne v47 c0_i32_20
  let v52 : BitVec 1 := Scalar.andi v51 v48
  let v53 : BitVec 32 := Scalar.addi v47 v46
  let v54 : BitVec 32 := Scalar.select v52 v53 v47
  let c0_i32_24 : BitVec 32 := 0#32
  let v56 : BitVec 1 := Scalar.cmpi .sgt v54 c0_i32_24
  let v57 : BitVec 32 := Scalar.extui v56
  let c0_i32_25 : BitVec 32 := 0#32
  let v58 : BitVec 1 := Scalar.cmpi .slt v54 c0_i32_25
  let v59 : BitVec 32 := Scalar.extui v58
  let v60 : BitVec 32 := Scalar.subi v57 v59
  let c4_i32_23 : BitVec 32 := 4#32
  let c0_i32_26 : BitVec 32 := 0#32
  let v61 : BitVec 1 := Scalar.cmpi .sgt c4_i32_23 c0_i32_26
  let v62 : BitVec 32 := Scalar.extui v61
  let c0_i32_27 : BitVec 32 := 0#32
  let v63 : BitVec 1 := Scalar.cmpi .slt c4_i32_23 c0_i32_27
  let v64 : BitVec 32 := Scalar.extui v63
  let v65 : BitVec 32 := Scalar.subi v62 v64
  let v66 : BitVec 1 := Scalar.cmpi .ne v60 v65
  let v67 : BitVec 32 := Scalar.remsi v54 c4_i32_23
  let c0_i32_28 : BitVec 32 := 0#32
  let v68 : BitVec 1 := Scalar.cmpi .ne v67 c0_i32_28
  let v69 : BitVec 1 := Scalar.andi v66 v68
  let v55 : BitVec 32 := Scalar.divsi v54 c4_i32_23
  let c1_i32_29 : BitVec 32 := 1#32
  let v70 : BitVec 32 := Scalar.subi v55 c1_i32_29
  let v71 : BitVec 32 := Scalar.select v69 v70 v55
  let c4_i32_39 : BitVec 32 := 4#32
  let v84 : BitVec 32 := Scalar.muli v71 c4_i32_39
  let v85 : BitVec 32 := Scalar.addi v83 v84
  let c4_i32_30 : BitVec 32 := 4#32
  let c0_i32_31 : BitVec 32 := 0#32
  let v72 : BitVec 1 := Scalar.cmpi .eq c4_i32_30 c0_i32_31
  let c1_i32_32 : BitVec 32 := 1#32
  let v73 : BitVec 32 := Scalar.select v72 c1_i32_32 c4_i32_30
  let v74 : BitVec 32 := Scalar.remsi v27 v73
  let c0_i32_34 : BitVec 32 := 0#32
  let v76 : BitVec 1 := Scalar.cmpi .slt v74 c0_i32_34
  let c0_i32_35 : BitVec 32 := 0#32
  let v77 : BitVec 1 := Scalar.cmpi .slt v73 c0_i32_35
  let v78 : BitVec 1 := Scalar.xori v76 v77
  let c0_i32_33 : BitVec 32 := 0#32
  let v75 : BitVec 1 := Scalar.cmpi .ne v74 c0_i32_33
  let v79 : BitVec 1 := Scalar.andi v78 v75
  let v80 : BitVec 32 := Scalar.addi v74 v73
  let v81 : BitVec 32 := Scalar.select v79 v80 v74
  let c1_i32_40 : BitVec 32 := 1#32
  let v86 : BitVec 32 := Scalar.muli v81 c1_i32_40
  let v87 : BitVec 32 := Scalar.addi v85 v86
  v87.toNat
def k0_dev2 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_41 : BitVec 32 := 2#32
  let v88 : BitVec 32 := Scalar.addi v12 c2_i32_41
  let c16_i32_42 : BitVec 32 := 16#32
  let c0_i32_43 : BitVec 32 := 0#32
  let v89 : BitVec 1 := Scalar.cmpi .eq c16_i32_42 c0_i32_43
  let c1_i32_44 : BitVec 32 := 1#32
  let v90 : BitVec 32 := Scalar.select v89 c1_i32_44 c16_i32_42
  let v91 : BitVec 32 := Scalar.remsi v88 v90
  let c0_i32_46 : BitVec 32 := 0#32
  let v93 : BitVec 1 := Scalar.cmpi .slt v91 c0_i32_46
  let c0_i32_47 : BitVec 32 := 0#32
  let v94 : BitVec 1 := Scalar.cmpi .slt v90 c0_i32_47
  let v95 : BitVec 1 := Scalar.xori v93 v94
  let c0_i32_45 : BitVec 32 := 0#32
  let v92 : BitVec 1 := Scalar.cmpi .ne v91 c0_i32_45
  let v96 : BitVec 1 := Scalar.andi v95 v92
  let v97 : BitVec 32 := Scalar.addi v91 v90
  let v98 : BitVec 32 := Scalar.select v96 v97 v91
  let c0_i32_49 : BitVec 32 := 0#32
  let v100 : BitVec 1 := Scalar.cmpi .sgt v98 c0_i32_49
  let v101 : BitVec 32 := Scalar.extui v100
  let c0_i32_50 : BitVec 32 := 0#32
  let v102 : BitVec 1 := Scalar.cmpi .slt v98 c0_i32_50
  let v103 : BitVec 32 := Scalar.extui v102
  let v104 : BitVec 32 := Scalar.subi v101 v103
  let c8_i32_48 : BitVec 32 := 8#32
  let c0_i32_51 : BitVec 32 := 0#32
  let v105 : BitVec 1 := Scalar.cmpi .sgt c8_i32_48 c0_i32_51
  let v106 : BitVec 32 := Scalar.extui v105
  let c0_i32_52 : BitVec 32 := 0#32
  let v107 : BitVec 1 := Scalar.cmpi .slt c8_i32_48 c0_i32_52
  let v108 : BitVec 32 := Scalar.extui v107
  let v109 : BitVec 32 := Scalar.subi v106 v108
  let v110 : BitVec 1 := Scalar.cmpi .ne v104 v109
  let v111 : BitVec 32 := Scalar.remsi v98 c8_i32_48
  let c0_i32_53 : BitVec 32 := 0#32
  let v112 : BitVec 1 := Scalar.cmpi .ne v111 c0_i32_53
  let v113 : BitVec 1 := Scalar.andi v110 v112
  let v99 : BitVec 32 := Scalar.divsi v98 c8_i32_48
  let c1_i32_54 : BitVec 32 := 1#32
  let v114 : BitVec 32 := Scalar.subi v99 c1_i32_54
  let v115 : BitVec 32 := Scalar.select v113 v114 v99
  let c8_i32_75 : BitVec 32 := 8#32
  let v153 : BitVec 32 := Scalar.muli v115 c8_i32_75
  let v154 : BitVec 32 := Scalar.addi c0_i32_76 v153
  let c8_i32_55 : BitVec 32 := 8#32
  let c0_i32_56 : BitVec 32 := 0#32
  let v116 : BitVec 1 := Scalar.cmpi .eq c8_i32_55 c0_i32_56
  let c1_i32_57 : BitVec 32 := 1#32
  let v117 : BitVec 32 := Scalar.select v116 c1_i32_57 c8_i32_55
  let v118 : BitVec 32 := Scalar.remsi v98 v117
  let c0_i32_59 : BitVec 32 := 0#32
  let v120 : BitVec 1 := Scalar.cmpi .slt v118 c0_i32_59
  let c0_i32_60 : BitVec 32 := 0#32
  let v121 : BitVec 1 := Scalar.cmpi .slt v117 c0_i32_60
  let v122 : BitVec 1 := Scalar.xori v120 v121
  let c0_i32_58 : BitVec 32 := 0#32
  let v119 : BitVec 1 := Scalar.cmpi .ne v118 c0_i32_58
  let v123 : BitVec 1 := Scalar.andi v122 v119
  let v124 : BitVec 32 := Scalar.addi v118 v117
  let v125 : BitVec 32 := Scalar.select v123 v124 v118
  let c0_i32_62 : BitVec 32 := 0#32
  let v127 : BitVec 1 := Scalar.cmpi .sgt v125 c0_i32_62
  let v128 : BitVec 32 := Scalar.extui v127
  let c0_i32_63 : BitVec 32 := 0#32
  let v129 : BitVec 1 := Scalar.cmpi .slt v125 c0_i32_63
  let v130 : BitVec 32 := Scalar.extui v129
  let v131 : BitVec 32 := Scalar.subi v128 v130
  let c4_i32_61 : BitVec 32 := 4#32
  let c0_i32_64 : BitVec 32 := 0#32
  let v132 : BitVec 1 := Scalar.cmpi .sgt c4_i32_61 c0_i32_64
  let v133 : BitVec 32 := Scalar.extui v132
  let c0_i32_65 : BitVec 32 := 0#32
  let v134 : BitVec 1 := Scalar.cmpi .slt c4_i32_61 c0_i32_65
  let v135 : BitVec 32 := Scalar.extui v134
  let v136 : BitVec 32 := Scalar.subi v133 v135
  let v137 : BitVec 1 := Scalar.cmpi .ne v131 v136
  let v138 : BitVec 32 := Scalar.remsi v125 c4_i32_61
  let c0_i32_66 : BitVec 32 := 0#32
  let v139 : BitVec 1 := Scalar.cmpi .ne v138 c0_i32_66
  let v140 : BitVec 1 := Scalar.andi v137 v139
  let v126 : BitVec 32 := Scalar.divsi v125 c4_i32_61
  let c1_i32_67 : BitVec 32 := 1#32
  let v141 : BitVec 32 := Scalar.subi v126 c1_i32_67
  let v142 : BitVec 32 := Scalar.select v140 v141 v126
  let c4_i32_77 : BitVec 32 := 4#32
  let v155 : BitVec 32 := Scalar.muli v142 c4_i32_77
  let v156 : BitVec 32 := Scalar.addi v154 v155
  let c4_i32_68 : BitVec 32 := 4#32
  let c0_i32_69 : BitVec 32 := 0#32
  let v143 : BitVec 1 := Scalar.cmpi .eq c4_i32_68 c0_i32_69
  let c1_i32_70 : BitVec 32 := 1#32
  let v144 : BitVec 32 := Scalar.select v143 c1_i32_70 c4_i32_68
  let v145 : BitVec 32 := Scalar.remsi v98 v144
  let c0_i32_72 : BitVec 32 := 0#32
  let v147 : BitVec 1 := Scalar.cmpi .slt v145 c0_i32_72
  let c0_i32_73 : BitVec 32 := 0#32
  let v148 : BitVec 1 := Scalar.cmpi .slt v144 c0_i32_73
  let v149 : BitVec 1 := Scalar.xori v147 v148
  let c0_i32_71 : BitVec 32 := 0#32
  let v146 : BitVec 1 := Scalar.cmpi .ne v145 c0_i32_71
  let v150 : BitVec 1 := Scalar.andi v149 v146
  let v151 : BitVec 32 := Scalar.addi v145 v144
  let v152 : BitVec 32 := Scalar.select v150 v151 v145
  let c1_i32_78 : BitVec 32 := 1#32
  let v157 : BitVec 32 := Scalar.muli v152 c1_i32_78
  let v158 : BitVec 32 := Scalar.addi v156 v157
  v158.toNat
def k0_dev3 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32 : BitVec 32 := 3#32
  let v159 : BitVec 32 := Scalar.addi v12 c3_i32
  let c16_i32_79 : BitVec 32 := 16#32
  let c0_i32_80 : BitVec 32 := 0#32
  let v160 : BitVec 1 := Scalar.cmpi .eq c16_i32_79 c0_i32_80
  let c1_i32_81 : BitVec 32 := 1#32
  let v161 : BitVec 32 := Scalar.select v160 c1_i32_81 c16_i32_79
  let v162 : BitVec 32 := Scalar.remsi v159 v161
  let c0_i32_83 : BitVec 32 := 0#32
  let v164 : BitVec 1 := Scalar.cmpi .slt v162 c0_i32_83
  let c0_i32_84 : BitVec 32 := 0#32
  let v165 : BitVec 1 := Scalar.cmpi .slt v161 c0_i32_84
  let v166 : BitVec 1 := Scalar.xori v164 v165
  let c0_i32_82 : BitVec 32 := 0#32
  let v163 : BitVec 1 := Scalar.cmpi .ne v162 c0_i32_82
  let v167 : BitVec 1 := Scalar.andi v166 v163
  let v168 : BitVec 32 := Scalar.addi v162 v161
  let v169 : BitVec 32 := Scalar.select v167 v168 v162
  let c0_i32_86 : BitVec 32 := 0#32
  let v171 : BitVec 1 := Scalar.cmpi .sgt v169 c0_i32_86
  let v172 : BitVec 32 := Scalar.extui v171
  let c0_i32_87 : BitVec 32 := 0#32
  let v173 : BitVec 1 := Scalar.cmpi .slt v169 c0_i32_87
  let v174 : BitVec 32 := Scalar.extui v173
  let v175 : BitVec 32 := Scalar.subi v172 v174
  let c8_i32_85 : BitVec 32 := 8#32
  let c0_i32_88 : BitVec 32 := 0#32
  let v176 : BitVec 1 := Scalar.cmpi .sgt c8_i32_85 c0_i32_88
  let v177 : BitVec 32 := Scalar.extui v176
  let c0_i32_89 : BitVec 32 := 0#32
  let v178 : BitVec 1 := Scalar.cmpi .slt c8_i32_85 c0_i32_89
  let v179 : BitVec 32 := Scalar.extui v178
  let v180 : BitVec 32 := Scalar.subi v177 v179
  let v181 : BitVec 1 := Scalar.cmpi .ne v175 v180
  let v182 : BitVec 32 := Scalar.remsi v169 c8_i32_85
  let c0_i32_90 : BitVec 32 := 0#32
  let v183 : BitVec 1 := Scalar.cmpi .ne v182 c0_i32_90
  let v184 : BitVec 1 := Scalar.andi v181 v183
  let v170 : BitVec 32 := Scalar.divsi v169 c8_i32_85
  let c1_i32_91 : BitVec 32 := 1#32
  let v185 : BitVec 32 := Scalar.subi v170 c1_i32_91
  let v186 : BitVec 32 := Scalar.select v184 v185 v170
  let c8_i32_112 : BitVec 32 := 8#32
  let v224 : BitVec 32 := Scalar.muli v186 c8_i32_112
  let v225 : BitVec 32 := Scalar.addi c0_i32_113 v224
  let c8_i32_92 : BitVec 32 := 8#32
  let c0_i32_93 : BitVec 32 := 0#32
  let v187 : BitVec 1 := Scalar.cmpi .eq c8_i32_92 c0_i32_93
  let c1_i32_94 : BitVec 32 := 1#32
  let v188 : BitVec 32 := Scalar.select v187 c1_i32_94 c8_i32_92
  let v189 : BitVec 32 := Scalar.remsi v169 v188
  let c0_i32_96 : BitVec 32 := 0#32
  let v191 : BitVec 1 := Scalar.cmpi .slt v189 c0_i32_96
  let c0_i32_97 : BitVec 32 := 0#32
  let v192 : BitVec 1 := Scalar.cmpi .slt v188 c0_i32_97
  let v193 : BitVec 1 := Scalar.xori v191 v192
  let c0_i32_95 : BitVec 32 := 0#32
  let v190 : BitVec 1 := Scalar.cmpi .ne v189 c0_i32_95
  let v194 : BitVec 1 := Scalar.andi v193 v190
  let v195 : BitVec 32 := Scalar.addi v189 v188
  let v196 : BitVec 32 := Scalar.select v194 v195 v189
  let c0_i32_99 : BitVec 32 := 0#32
  let v198 : BitVec 1 := Scalar.cmpi .sgt v196 c0_i32_99
  let v199 : BitVec 32 := Scalar.extui v198
  let c0_i32_100 : BitVec 32 := 0#32
  let v200 : BitVec 1 := Scalar.cmpi .slt v196 c0_i32_100
  let v201 : BitVec 32 := Scalar.extui v200
  let v202 : BitVec 32 := Scalar.subi v199 v201
  let c4_i32_98 : BitVec 32 := 4#32
  let c0_i32_101 : BitVec 32 := 0#32
  let v203 : BitVec 1 := Scalar.cmpi .sgt c4_i32_98 c0_i32_101
  let v204 : BitVec 32 := Scalar.extui v203
  let c0_i32_102 : BitVec 32 := 0#32
  let v205 : BitVec 1 := Scalar.cmpi .slt c4_i32_98 c0_i32_102
  let v206 : BitVec 32 := Scalar.extui v205
  let v207 : BitVec 32 := Scalar.subi v204 v206
  let v208 : BitVec 1 := Scalar.cmpi .ne v202 v207
  let v209 : BitVec 32 := Scalar.remsi v196 c4_i32_98
  let c0_i32_103 : BitVec 32 := 0#32
  let v210 : BitVec 1 := Scalar.cmpi .ne v209 c0_i32_103
  let v211 : BitVec 1 := Scalar.andi v208 v210
  let v197 : BitVec 32 := Scalar.divsi v196 c4_i32_98
  let c1_i32_104 : BitVec 32 := 1#32
  let v212 : BitVec 32 := Scalar.subi v197 c1_i32_104
  let v213 : BitVec 32 := Scalar.select v211 v212 v197
  let c4_i32_114 : BitVec 32 := 4#32
  let v226 : BitVec 32 := Scalar.muli v213 c4_i32_114
  let v227 : BitVec 32 := Scalar.addi v225 v226
  let c4_i32_105 : BitVec 32 := 4#32
  let c0_i32_106 : BitVec 32 := 0#32
  let v214 : BitVec 1 := Scalar.cmpi .eq c4_i32_105 c0_i32_106
  let c1_i32_107 : BitVec 32 := 1#32
  let v215 : BitVec 32 := Scalar.select v214 c1_i32_107 c4_i32_105
  let v216 : BitVec 32 := Scalar.remsi v169 v215
  let c0_i32_109 : BitVec 32 := 0#32
  let v218 : BitVec 1 := Scalar.cmpi .slt v216 c0_i32_109
  let c0_i32_110 : BitVec 32 := 0#32
  let v219 : BitVec 1 := Scalar.cmpi .slt v215 c0_i32_110
  let v220 : BitVec 1 := Scalar.xori v218 v219
  let c0_i32_108 : BitVec 32 := 0#32
  let v217 : BitVec 1 := Scalar.cmpi .ne v216 c0_i32_108
  let v221 : BitVec 1 := Scalar.andi v220 v217
  let v222 : BitVec 32 := Scalar.addi v216 v215
  let v223 : BitVec 32 := Scalar.select v221 v222 v216
  let c1_i32_115 : BitVec 32 := 1#32
  let v228 : BitVec 32 := Scalar.muli v223 c1_i32_115
  let v229 : BitVec 32 := Scalar.addi v227 v228
  v229.toNat
def k0_dev4 (d0 : Dev nD) : Nat :=
  let c0_i32_151 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_116 : BitVec 32 := 4#32
  let v230 : BitVec 32 := Scalar.addi v12 c4_i32_116
  let c16_i32_117 : BitVec 32 := 16#32
  let c0_i32_118 : BitVec 32 := 0#32
  let v231 : BitVec 1 := Scalar.cmpi .eq c16_i32_117 c0_i32_118
  let c1_i32_119 : BitVec 32 := 1#32
  let v232 : BitVec 32 := Scalar.select v231 c1_i32_119 c16_i32_117
  let v233 : BitVec 32 := Scalar.remsi v230 v232
  let c0_i32_121 : BitVec 32 := 0#32
  let v235 : BitVec 1 := Scalar.cmpi .slt v233 c0_i32_121
  let c0_i32_122 : BitVec 32 := 0#32
  let v236 : BitVec 1 := Scalar.cmpi .slt v232 c0_i32_122
  let v237 : BitVec 1 := Scalar.xori v235 v236
  let c0_i32_120 : BitVec 32 := 0#32
  let v234 : BitVec 1 := Scalar.cmpi .ne v233 c0_i32_120
  let v238 : BitVec 1 := Scalar.andi v237 v234
  let v239 : BitVec 32 := Scalar.addi v233 v232
  let v240 : BitVec 32 := Scalar.select v238 v239 v233
  let c0_i32_124 : BitVec 32 := 0#32
  let v242 : BitVec 1 := Scalar.cmpi .sgt v240 c0_i32_124
  let v243 : BitVec 32 := Scalar.extui v242
  let c0_i32_125 : BitVec 32 := 0#32
  let v244 : BitVec 1 := Scalar.cmpi .slt v240 c0_i32_125
  let v245 : BitVec 32 := Scalar.extui v244
  let v246 : BitVec 32 := Scalar.subi v243 v245
  let c8_i32_123 : BitVec 32 := 8#32
  let c0_i32_126 : BitVec 32 := 0#32
  let v247 : BitVec 1 := Scalar.cmpi .sgt c8_i32_123 c0_i32_126
  let v248 : BitVec 32 := Scalar.extui v247
  let c0_i32_127 : BitVec 32 := 0#32
  let v249 : BitVec 1 := Scalar.cmpi .slt c8_i32_123 c0_i32_127
  let v250 : BitVec 32 := Scalar.extui v249
  let v251 : BitVec 32 := Scalar.subi v248 v250
  let v252 : BitVec 1 := Scalar.cmpi .ne v246 v251
  let v253 : BitVec 32 := Scalar.remsi v240 c8_i32_123
  let c0_i32_128 : BitVec 32 := 0#32
  let v254 : BitVec 1 := Scalar.cmpi .ne v253 c0_i32_128
  let v255 : BitVec 1 := Scalar.andi v252 v254
  let v241 : BitVec 32 := Scalar.divsi v240 c8_i32_123
  let c1_i32_129 : BitVec 32 := 1#32
  let v256 : BitVec 32 := Scalar.subi v241 c1_i32_129
  let v257 : BitVec 32 := Scalar.select v255 v256 v241
  let c8_i32_150 : BitVec 32 := 8#32
  let v295 : BitVec 32 := Scalar.muli v257 c8_i32_150
  let v296 : BitVec 32 := Scalar.addi c0_i32_151 v295
  let c8_i32_130 : BitVec 32 := 8#32
  let c0_i32_131 : BitVec 32 := 0#32
  let v258 : BitVec 1 := Scalar.cmpi .eq c8_i32_130 c0_i32_131
  let c1_i32_132 : BitVec 32 := 1#32
  let v259 : BitVec 32 := Scalar.select v258 c1_i32_132 c8_i32_130
  let v260 : BitVec 32 := Scalar.remsi v240 v259
  let c0_i32_134 : BitVec 32 := 0#32
  let v262 : BitVec 1 := Scalar.cmpi .slt v260 c0_i32_134
  let c0_i32_135 : BitVec 32 := 0#32
  let v263 : BitVec 1 := Scalar.cmpi .slt v259 c0_i32_135
  let v264 : BitVec 1 := Scalar.xori v262 v263
  let c0_i32_133 : BitVec 32 := 0#32
  let v261 : BitVec 1 := Scalar.cmpi .ne v260 c0_i32_133
  let v265 : BitVec 1 := Scalar.andi v264 v261
  let v266 : BitVec 32 := Scalar.addi v260 v259
  let v267 : BitVec 32 := Scalar.select v265 v266 v260
  let c0_i32_137 : BitVec 32 := 0#32
  let v269 : BitVec 1 := Scalar.cmpi .sgt v267 c0_i32_137
  let v270 : BitVec 32 := Scalar.extui v269
  let c0_i32_138 : BitVec 32 := 0#32
  let v271 : BitVec 1 := Scalar.cmpi .slt v267 c0_i32_138
  let v272 : BitVec 32 := Scalar.extui v271
  let v273 : BitVec 32 := Scalar.subi v270 v272
  let c4_i32_136 : BitVec 32 := 4#32
  let c0_i32_139 : BitVec 32 := 0#32
  let v274 : BitVec 1 := Scalar.cmpi .sgt c4_i32_136 c0_i32_139
  let v275 : BitVec 32 := Scalar.extui v274
  let c0_i32_140 : BitVec 32 := 0#32
  let v276 : BitVec 1 := Scalar.cmpi .slt c4_i32_136 c0_i32_140
  let v277 : BitVec 32 := Scalar.extui v276
  let v278 : BitVec 32 := Scalar.subi v275 v277
  let v279 : BitVec 1 := Scalar.cmpi .ne v273 v278
  let v280 : BitVec 32 := Scalar.remsi v267 c4_i32_136
  let c0_i32_141 : BitVec 32 := 0#32
  let v281 : BitVec 1 := Scalar.cmpi .ne v280 c0_i32_141
  let v282 : BitVec 1 := Scalar.andi v279 v281
  let v268 : BitVec 32 := Scalar.divsi v267 c4_i32_136
  let c1_i32_142 : BitVec 32 := 1#32
  let v283 : BitVec 32 := Scalar.subi v268 c1_i32_142
  let v284 : BitVec 32 := Scalar.select v282 v283 v268
  let c4_i32_152 : BitVec 32 := 4#32
  let v297 : BitVec 32 := Scalar.muli v284 c4_i32_152
  let v298 : BitVec 32 := Scalar.addi v296 v297
  let c4_i32_143 : BitVec 32 := 4#32
  let c0_i32_144 : BitVec 32 := 0#32
  let v285 : BitVec 1 := Scalar.cmpi .eq c4_i32_143 c0_i32_144
  let c1_i32_145 : BitVec 32 := 1#32
  let v286 : BitVec 32 := Scalar.select v285 c1_i32_145 c4_i32_143
  let v287 : BitVec 32 := Scalar.remsi v240 v286
  let c0_i32_147 : BitVec 32 := 0#32
  let v289 : BitVec 1 := Scalar.cmpi .slt v287 c0_i32_147
  let c0_i32_148 : BitVec 32 := 0#32
  let v290 : BitVec 1 := Scalar.cmpi .slt v286 c0_i32_148
  let v291 : BitVec 1 := Scalar.xori v289 v290
  let c0_i32_146 : BitVec 32 := 0#32
  let v288 : BitVec 1 := Scalar.cmpi .ne v287 c0_i32_146
  let v292 : BitVec 1 := Scalar.andi v291 v288
  let v293 : BitVec 32 := Scalar.addi v287 v286
  let v294 : BitVec 32 := Scalar.select v292 v293 v287
  let c1_i32_153 : BitVec 32 := 1#32
  let v299 : BitVec 32 := Scalar.muli v294 c1_i32_153
  let v300 : BitVec 32 := Scalar.addi v298 v299
  v300.toNat
def k0_dev5 (d0 : Dev nD) : Nat :=
  let c0_i32_188 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32 : BitVec 32 := 5#32
  let v301 : BitVec 32 := Scalar.addi v12 c5_i32
  let c16_i32_154 : BitVec 32 := 16#32
  let c0_i32_155 : BitVec 32 := 0#32
  let v302 : BitVec 1 := Scalar.cmpi .eq c16_i32_154 c0_i32_155
  let c1_i32_156 : BitVec 32 := 1#32
  let v303 : BitVec 32 := Scalar.select v302 c1_i32_156 c16_i32_154
  let v304 : BitVec 32 := Scalar.remsi v301 v303
  let c0_i32_158 : BitVec 32 := 0#32
  let v306 : BitVec 1 := Scalar.cmpi .slt v304 c0_i32_158
  let c0_i32_159 : BitVec 32 := 0#32
  let v307 : BitVec 1 := Scalar.cmpi .slt v303 c0_i32_159
  let v308 : BitVec 1 := Scalar.xori v306 v307
  let c0_i32_157 : BitVec 32 := 0#32
  let v305 : BitVec 1 := Scalar.cmpi .ne v304 c0_i32_157
  let v309 : BitVec 1 := Scalar.andi v308 v305
  let v310 : BitVec 32 := Scalar.addi v304 v303
  let v311 : BitVec 32 := Scalar.select v309 v310 v304
  let c0_i32_161 : BitVec 32 := 0#32
  let v313 : BitVec 1 := Scalar.cmpi .sgt v311 c0_i32_161
  let v314 : BitVec 32 := Scalar.extui v313
  let c0_i32_162 : BitVec 32 := 0#32
  let v315 : BitVec 1 := Scalar.cmpi .slt v311 c0_i32_162
  let v316 : BitVec 32 := Scalar.extui v315
  let v317 : BitVec 32 := Scalar.subi v314 v316
  let c8_i32_160 : BitVec 32 := 8#32
  let c0_i32_163 : BitVec 32 := 0#32
  let v318 : BitVec 1 := Scalar.cmpi .sgt c8_i32_160 c0_i32_163
  let v319 : BitVec 32 := Scalar.extui v318
  let c0_i32_164 : BitVec 32 := 0#32
  let v320 : BitVec 1 := Scalar.cmpi .slt c8_i32_160 c0_i32_164
  let v321 : BitVec 32 := Scalar.extui v320
  let v322 : BitVec 32 := Scalar.subi v319 v321
  let v323 : BitVec 1 := Scalar.cmpi .ne v317 v322
  let v324 : BitVec 32 := Scalar.remsi v311 c8_i32_160
  let c0_i32_165 : BitVec 32 := 0#32
  let v325 : BitVec 1 := Scalar.cmpi .ne v324 c0_i32_165
  let v326 : BitVec 1 := Scalar.andi v323 v325
  let v312 : BitVec 32 := Scalar.divsi v311 c8_i32_160
  let c1_i32_166 : BitVec 32 := 1#32
  let v327 : BitVec 32 := Scalar.subi v312 c1_i32_166
  let v328 : BitVec 32 := Scalar.select v326 v327 v312
  let c8_i32_187 : BitVec 32 := 8#32
  let v366 : BitVec 32 := Scalar.muli v328 c8_i32_187
  let v367 : BitVec 32 := Scalar.addi c0_i32_188 v366
  let c8_i32_167 : BitVec 32 := 8#32
  let c0_i32_168 : BitVec 32 := 0#32
  let v329 : BitVec 1 := Scalar.cmpi .eq c8_i32_167 c0_i32_168
  let c1_i32_169 : BitVec 32 := 1#32
  let v330 : BitVec 32 := Scalar.select v329 c1_i32_169 c8_i32_167
  let v331 : BitVec 32 := Scalar.remsi v311 v330
  let c0_i32_171 : BitVec 32 := 0#32
  let v333 : BitVec 1 := Scalar.cmpi .slt v331 c0_i32_171
  let c0_i32_172 : BitVec 32 := 0#32
  let v334 : BitVec 1 := Scalar.cmpi .slt v330 c0_i32_172
  let v335 : BitVec 1 := Scalar.xori v333 v334
  let c0_i32_170 : BitVec 32 := 0#32
  let v332 : BitVec 1 := Scalar.cmpi .ne v331 c0_i32_170
  let v336 : BitVec 1 := Scalar.andi v335 v332
  let v337 : BitVec 32 := Scalar.addi v331 v330
  let v338 : BitVec 32 := Scalar.select v336 v337 v331
  let c0_i32_174 : BitVec 32 := 0#32
  let v340 : BitVec 1 := Scalar.cmpi .sgt v338 c0_i32_174
  let v341 : BitVec 32 := Scalar.extui v340
  let c0_i32_175 : BitVec 32 := 0#32
  let v342 : BitVec 1 := Scalar.cmpi .slt v338 c0_i32_175
  let v343 : BitVec 32 := Scalar.extui v342
  let v344 : BitVec 32 := Scalar.subi v341 v343
  let c4_i32_173 : BitVec 32 := 4#32
  let c0_i32_176 : BitVec 32 := 0#32
  let v345 : BitVec 1 := Scalar.cmpi .sgt c4_i32_173 c0_i32_176
  let v346 : BitVec 32 := Scalar.extui v345
  let c0_i32_177 : BitVec 32 := 0#32
  let v347 : BitVec 1 := Scalar.cmpi .slt c4_i32_173 c0_i32_177
  let v348 : BitVec 32 := Scalar.extui v347
  let v349 : BitVec 32 := Scalar.subi v346 v348
  let v350 : BitVec 1 := Scalar.cmpi .ne v344 v349
  let v351 : BitVec 32 := Scalar.remsi v338 c4_i32_173
  let c0_i32_178 : BitVec 32 := 0#32
  let v352 : BitVec 1 := Scalar.cmpi .ne v351 c0_i32_178
  let v353 : BitVec 1 := Scalar.andi v350 v352
  let v339 : BitVec 32 := Scalar.divsi v338 c4_i32_173
  let c1_i32_179 : BitVec 32 := 1#32
  let v354 : BitVec 32 := Scalar.subi v339 c1_i32_179
  let v355 : BitVec 32 := Scalar.select v353 v354 v339
  let c4_i32_189 : BitVec 32 := 4#32
  let v368 : BitVec 32 := Scalar.muli v355 c4_i32_189
  let v369 : BitVec 32 := Scalar.addi v367 v368
  let c4_i32_180 : BitVec 32 := 4#32
  let c0_i32_181 : BitVec 32 := 0#32
  let v356 : BitVec 1 := Scalar.cmpi .eq c4_i32_180 c0_i32_181
  let c1_i32_182 : BitVec 32 := 1#32
  let v357 : BitVec 32 := Scalar.select v356 c1_i32_182 c4_i32_180
  let v358 : BitVec 32 := Scalar.remsi v311 v357
  let c0_i32_184 : BitVec 32 := 0#32
  let v360 : BitVec 1 := Scalar.cmpi .slt v358 c0_i32_184
  let c0_i32_185 : BitVec 32 := 0#32
  let v361 : BitVec 1 := Scalar.cmpi .slt v357 c0_i32_185
  let v362 : BitVec 1 := Scalar.xori v360 v361
  let c0_i32_183 : BitVec 32 := 0#32
  let v359 : BitVec 1 := Scalar.cmpi .ne v358 c0_i32_183
  let v363 : BitVec 1 := Scalar.andi v362 v359
  let v364 : BitVec 32 := Scalar.addi v358 v357
  let v365 : BitVec 32 := Scalar.select v363 v364 v358
  let c1_i32_190 : BitVec 32 := 1#32
  let v370 : BitVec 32 := Scalar.muli v365 c1_i32_190
  let v371 : BitVec 32 := Scalar.addi v369 v370
  v371.toNat
def k0_dev6 (d0 : Dev nD) : Nat :=
  let c0_i32_225 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32 : BitVec 32 := 6#32
  let v372 : BitVec 32 := Scalar.addi v12 c6_i32
  let c16_i32_191 : BitVec 32 := 16#32
  let c0_i32_192 : BitVec 32 := 0#32
  let v373 : BitVec 1 := Scalar.cmpi .eq c16_i32_191 c0_i32_192
  let c1_i32_193 : BitVec 32 := 1#32
  let v374 : BitVec 32 := Scalar.select v373 c1_i32_193 c16_i32_191
  let v375 : BitVec 32 := Scalar.remsi v372 v374
  let c0_i32_195 : BitVec 32 := 0#32
  let v377 : BitVec 1 := Scalar.cmpi .slt v375 c0_i32_195
  let c0_i32_196 : BitVec 32 := 0#32
  let v378 : BitVec 1 := Scalar.cmpi .slt v374 c0_i32_196
  let v379 : BitVec 1 := Scalar.xori v377 v378
  let c0_i32_194 : BitVec 32 := 0#32
  let v376 : BitVec 1 := Scalar.cmpi .ne v375 c0_i32_194
  let v380 : BitVec 1 := Scalar.andi v379 v376
  let v381 : BitVec 32 := Scalar.addi v375 v374
  let v382 : BitVec 32 := Scalar.select v380 v381 v375
  let c0_i32_198 : BitVec 32 := 0#32
  let v384 : BitVec 1 := Scalar.cmpi .sgt v382 c0_i32_198
  let v385 : BitVec 32 := Scalar.extui v384
  let c0_i32_199 : BitVec 32 := 0#32
  let v386 : BitVec 1 := Scalar.cmpi .slt v382 c0_i32_199
  let v387 : BitVec 32 := Scalar.extui v386
  let v388 : BitVec 32 := Scalar.subi v385 v387
  let c8_i32_197 : BitVec 32 := 8#32
  let c0_i32_200 : BitVec 32 := 0#32
  let v389 : BitVec 1 := Scalar.cmpi .sgt c8_i32_197 c0_i32_200
  let v390 : BitVec 32 := Scalar.extui v389
  let c0_i32_201 : BitVec 32 := 0#32
  let v391 : BitVec 1 := Scalar.cmpi .slt c8_i32_197 c0_i32_201
  let v392 : BitVec 32 := Scalar.extui v391
  let v393 : BitVec 32 := Scalar.subi v390 v392
  let v394 : BitVec 1 := Scalar.cmpi .ne v388 v393
  let v395 : BitVec 32 := Scalar.remsi v382 c8_i32_197
  let c0_i32_202 : BitVec 32 := 0#32
  let v396 : BitVec 1 := Scalar.cmpi .ne v395 c0_i32_202
  let v397 : BitVec 1 := Scalar.andi v394 v396
  let v383 : BitVec 32 := Scalar.divsi v382 c8_i32_197
  let c1_i32_203 : BitVec 32 := 1#32
  let v398 : BitVec 32 := Scalar.subi v383 c1_i32_203
  let v399 : BitVec 32 := Scalar.select v397 v398 v383
  let c8_i32_224 : BitVec 32 := 8#32
  let v437 : BitVec 32 := Scalar.muli v399 c8_i32_224
  let v438 : BitVec 32 := Scalar.addi c0_i32_225 v437
  let c8_i32_204 : BitVec 32 := 8#32
  let c0_i32_205 : BitVec 32 := 0#32
  let v400 : BitVec 1 := Scalar.cmpi .eq c8_i32_204 c0_i32_205
  let c1_i32_206 : BitVec 32 := 1#32
  let v401 : BitVec 32 := Scalar.select v400 c1_i32_206 c8_i32_204
  let v402 : BitVec 32 := Scalar.remsi v382 v401
  let c0_i32_208 : BitVec 32 := 0#32
  let v404 : BitVec 1 := Scalar.cmpi .slt v402 c0_i32_208
  let c0_i32_209 : BitVec 32 := 0#32
  let v405 : BitVec 1 := Scalar.cmpi .slt v401 c0_i32_209
  let v406 : BitVec 1 := Scalar.xori v404 v405
  let c0_i32_207 : BitVec 32 := 0#32
  let v403 : BitVec 1 := Scalar.cmpi .ne v402 c0_i32_207
  let v407 : BitVec 1 := Scalar.andi v406 v403
  let v408 : BitVec 32 := Scalar.addi v402 v401
  let v409 : BitVec 32 := Scalar.select v407 v408 v402
  let c0_i32_211 : BitVec 32 := 0#32
  let v411 : BitVec 1 := Scalar.cmpi .sgt v409 c0_i32_211
  let v412 : BitVec 32 := Scalar.extui v411
  let c0_i32_212 : BitVec 32 := 0#32
  let v413 : BitVec 1 := Scalar.cmpi .slt v409 c0_i32_212
  let v414 : BitVec 32 := Scalar.extui v413
  let v415 : BitVec 32 := Scalar.subi v412 v414
  let c4_i32_210 : BitVec 32 := 4#32
  let c0_i32_213 : BitVec 32 := 0#32
  let v416 : BitVec 1 := Scalar.cmpi .sgt c4_i32_210 c0_i32_213
  let v417 : BitVec 32 := Scalar.extui v416
  let c0_i32_214 : BitVec 32 := 0#32
  let v418 : BitVec 1 := Scalar.cmpi .slt c4_i32_210 c0_i32_214
  let v419 : BitVec 32 := Scalar.extui v418
  let v420 : BitVec 32 := Scalar.subi v417 v419
  let v421 : BitVec 1 := Scalar.cmpi .ne v415 v420
  let v422 : BitVec 32 := Scalar.remsi v409 c4_i32_210
  let c0_i32_215 : BitVec 32 := 0#32
  let v423 : BitVec 1 := Scalar.cmpi .ne v422 c0_i32_215
  let v424 : BitVec 1 := Scalar.andi v421 v423
  let v410 : BitVec 32 := Scalar.divsi v409 c4_i32_210
  let c1_i32_216 : BitVec 32 := 1#32
  let v425 : BitVec 32 := Scalar.subi v410 c1_i32_216
  let v426 : BitVec 32 := Scalar.select v424 v425 v410
  let c4_i32_226 : BitVec 32 := 4#32
  let v439 : BitVec 32 := Scalar.muli v426 c4_i32_226
  let v440 : BitVec 32 := Scalar.addi v438 v439
  let c4_i32_217 : BitVec 32 := 4#32
  let c0_i32_218 : BitVec 32 := 0#32
  let v427 : BitVec 1 := Scalar.cmpi .eq c4_i32_217 c0_i32_218
  let c1_i32_219 : BitVec 32 := 1#32
  let v428 : BitVec 32 := Scalar.select v427 c1_i32_219 c4_i32_217
  let v429 : BitVec 32 := Scalar.remsi v382 v428
  let c0_i32_221 : BitVec 32 := 0#32
  let v431 : BitVec 1 := Scalar.cmpi .slt v429 c0_i32_221
  let c0_i32_222 : BitVec 32 := 0#32
  let v432 : BitVec 1 := Scalar.cmpi .slt v428 c0_i32_222
  let v433 : BitVec 1 := Scalar.xori v431 v432
  let c0_i32_220 : BitVec 32 := 0#32
  let v430 : BitVec 1 := Scalar.cmpi .ne v429 c0_i32_220
  let v434 : BitVec 1 := Scalar.andi v433 v430
  let v435 : BitVec 32 := Scalar.addi v429 v428
  let v436 : BitVec 32 := Scalar.select v434 v435 v429
  let c1_i32_227 : BitVec 32 := 1#32
  let v441 : BitVec 32 := Scalar.muli v436 c1_i32_227
  let v442 : BitVec 32 := Scalar.addi v440 v441
  v442.toNat
def k0_dev7 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32 : BitVec 32 := 7#32
  let v443 : BitVec 32 := Scalar.addi v12 c7_i32
  let c16_i32_228 : BitVec 32 := 16#32
  let c0_i32_229 : BitVec 32 := 0#32
  let v444 : BitVec 1 := Scalar.cmpi .eq c16_i32_228 c0_i32_229
  let c1_i32_230 : BitVec 32 := 1#32
  let v445 : BitVec 32 := Scalar.select v444 c1_i32_230 c16_i32_228
  let v446 : BitVec 32 := Scalar.remsi v443 v445
  let c0_i32_232 : BitVec 32 := 0#32
  let v448 : BitVec 1 := Scalar.cmpi .slt v446 c0_i32_232
  let c0_i32_233 : BitVec 32 := 0#32
  let v449 : BitVec 1 := Scalar.cmpi .slt v445 c0_i32_233
  let v450 : BitVec 1 := Scalar.xori v448 v449
  let c0_i32_231 : BitVec 32 := 0#32
  let v447 : BitVec 1 := Scalar.cmpi .ne v446 c0_i32_231
  let v451 : BitVec 1 := Scalar.andi v450 v447
  let v452 : BitVec 32 := Scalar.addi v446 v445
  let v453 : BitVec 32 := Scalar.select v451 v452 v446
  let c0_i32_235 : BitVec 32 := 0#32
  let v455 : BitVec 1 := Scalar.cmpi .sgt v453 c0_i32_235
  let v456 : BitVec 32 := Scalar.extui v455
  let c0_i32_236 : BitVec 32 := 0#32
  let v457 : BitVec 1 := Scalar.cmpi .slt v453 c0_i32_236
  let v458 : BitVec 32 := Scalar.extui v457
  let v459 : BitVec 32 := Scalar.subi v456 v458
  let c8_i32_234 : BitVec 32 := 8#32
  let c0_i32_237 : BitVec 32 := 0#32
  let v460 : BitVec 1 := Scalar.cmpi .sgt c8_i32_234 c0_i32_237
  let v461 : BitVec 32 := Scalar.extui v460
  let c0_i32_238 : BitVec 32 := 0#32
  let v462 : BitVec 1 := Scalar.cmpi .slt c8_i32_234 c0_i32_238
  let v463 : BitVec 32 := Scalar.extui v462
  let v464 : BitVec 32 := Scalar.subi v461 v463
  let v465 : BitVec 1 := Scalar.cmpi .ne v459 v464
  let v466 : BitVec 32 := Scalar.remsi v453 c8_i32_234
  let c0_i32_239 : BitVec 32 := 0#32
  let v467 : BitVec 1 := Scalar.cmpi .ne v466 c0_i32_239
  let v468 : BitVec 1 := Scalar.andi v465 v467
  let v454 : BitVec 32 := Scalar.divsi v453 c8_i32_234
  let c1_i32_240 : BitVec 32 := 1#32
  let v469 : BitVec 32 := Scalar.subi v454 c1_i32_240
  let v470 : BitVec 32 := Scalar.select v468 v469 v454
  let c8_i32_261 : BitVec 32 := 8#32
  let v508 : BitVec 32 := Scalar.muli v470 c8_i32_261
  let v509 : BitVec 32 := Scalar.addi c0_i32_262 v508
  let c8_i32_241 : BitVec 32 := 8#32
  let c0_i32_242 : BitVec 32 := 0#32
  let v471 : BitVec 1 := Scalar.cmpi .eq c8_i32_241 c0_i32_242
  let c1_i32_243 : BitVec 32 := 1#32
  let v472 : BitVec 32 := Scalar.select v471 c1_i32_243 c8_i32_241
  let v473 : BitVec 32 := Scalar.remsi v453 v472
  let c0_i32_245 : BitVec 32 := 0#32
  let v475 : BitVec 1 := Scalar.cmpi .slt v473 c0_i32_245
  let c0_i32_246 : BitVec 32 := 0#32
  let v476 : BitVec 1 := Scalar.cmpi .slt v472 c0_i32_246
  let v477 : BitVec 1 := Scalar.xori v475 v476
  let c0_i32_244 : BitVec 32 := 0#32
  let v474 : BitVec 1 := Scalar.cmpi .ne v473 c0_i32_244
  let v478 : BitVec 1 := Scalar.andi v477 v474
  let v479 : BitVec 32 := Scalar.addi v473 v472
  let v480 : BitVec 32 := Scalar.select v478 v479 v473
  let c0_i32_248 : BitVec 32 := 0#32
  let v482 : BitVec 1 := Scalar.cmpi .sgt v480 c0_i32_248
  let v483 : BitVec 32 := Scalar.extui v482
  let c0_i32_249 : BitVec 32 := 0#32
  let v484 : BitVec 1 := Scalar.cmpi .slt v480 c0_i32_249
  let v485 : BitVec 32 := Scalar.extui v484
  let v486 : BitVec 32 := Scalar.subi v483 v485
  let c4_i32_247 : BitVec 32 := 4#32
  let c0_i32_250 : BitVec 32 := 0#32
  let v487 : BitVec 1 := Scalar.cmpi .sgt c4_i32_247 c0_i32_250
  let v488 : BitVec 32 := Scalar.extui v487
  let c0_i32_251 : BitVec 32 := 0#32
  let v489 : BitVec 1 := Scalar.cmpi .slt c4_i32_247 c0_i32_251
  let v490 : BitVec 32 := Scalar.extui v489
  let v491 : BitVec 32 := Scalar.subi v488 v490
  let v492 : BitVec 1 := Scalar.cmpi .ne v486 v491
  let v493 : BitVec 32 := Scalar.remsi v480 c4_i32_247
  let c0_i32_252 : BitVec 32 := 0#32
  let v494 : BitVec 1 := Scalar.cmpi .ne v493 c0_i32_252
  let v495 : BitVec 1 := Scalar.andi v492 v494
  let v481 : BitVec 32 := Scalar.divsi v480 c4_i32_247
  let c1_i32_253 : BitVec 32 := 1#32
  let v496 : BitVec 32 := Scalar.subi v481 c1_i32_253
  let v497 : BitVec 32 := Scalar.select v495 v496 v481
  let c4_i32_263 : BitVec 32 := 4#32
  let v510 : BitVec 32 := Scalar.muli v497 c4_i32_263
  let v511 : BitVec 32 := Scalar.addi v509 v510
  let c4_i32_254 : BitVec 32 := 4#32
  let c0_i32_255 : BitVec 32 := 0#32
  let v498 : BitVec 1 := Scalar.cmpi .eq c4_i32_254 c0_i32_255
  let c1_i32_256 : BitVec 32 := 1#32
  let v499 : BitVec 32 := Scalar.select v498 c1_i32_256 c4_i32_254
  let v500 : BitVec 32 := Scalar.remsi v453 v499
  let c0_i32_258 : BitVec 32 := 0#32
  let v502 : BitVec 1 := Scalar.cmpi .slt v500 c0_i32_258
  let c0_i32_259 : BitVec 32 := 0#32
  let v503 : BitVec 1 := Scalar.cmpi .slt v499 c0_i32_259
  let v504 : BitVec 1 := Scalar.xori v502 v503
  let c0_i32_257 : BitVec 32 := 0#32
  let v501 : BitVec 1 := Scalar.cmpi .ne v500 c0_i32_257
  let v505 : BitVec 1 := Scalar.andi v504 v501
  let v506 : BitVec 32 := Scalar.addi v500 v499
  let v507 : BitVec 32 := Scalar.select v505 v506 v500
  let c1_i32_264 : BitVec 32 := 1#32
  let v512 : BitVec 32 := Scalar.muli v507 c1_i32_264
  let v513 : BitVec 32 := Scalar.addi v511 v512
  v513.toNat
def k0_dev8 (d0 : Dev nD) : Nat :=
  let c0_i32_300 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_265 : BitVec 32 := 8#32
  let v514 : BitVec 32 := Scalar.addi v12 c8_i32_265
  let c16_i32_266 : BitVec 32 := 16#32
  let c0_i32_267 : BitVec 32 := 0#32
  let v515 : BitVec 1 := Scalar.cmpi .eq c16_i32_266 c0_i32_267
  let c1_i32_268 : BitVec 32 := 1#32
  let v516 : BitVec 32 := Scalar.select v515 c1_i32_268 c16_i32_266
  let v517 : BitVec 32 := Scalar.remsi v514 v516
  let c0_i32_270 : BitVec 32 := 0#32
  let v519 : BitVec 1 := Scalar.cmpi .slt v517 c0_i32_270
  let c0_i32_271 : BitVec 32 := 0#32
  let v520 : BitVec 1 := Scalar.cmpi .slt v516 c0_i32_271
  let v521 : BitVec 1 := Scalar.xori v519 v520
  let c0_i32_269 : BitVec 32 := 0#32
  let v518 : BitVec 1 := Scalar.cmpi .ne v517 c0_i32_269
  let v522 : BitVec 1 := Scalar.andi v521 v518
  let v523 : BitVec 32 := Scalar.addi v517 v516
  let v524 : BitVec 32 := Scalar.select v522 v523 v517
  let c0_i32_273 : BitVec 32 := 0#32
  let v526 : BitVec 1 := Scalar.cmpi .sgt v524 c0_i32_273
  let v527 : BitVec 32 := Scalar.extui v526
  let c0_i32_274 : BitVec 32 := 0#32
  let v528 : BitVec 1 := Scalar.cmpi .slt v524 c0_i32_274
  let v529 : BitVec 32 := Scalar.extui v528
  let v530 : BitVec 32 := Scalar.subi v527 v529
  let c8_i32_272 : BitVec 32 := 8#32
  let c0_i32_275 : BitVec 32 := 0#32
  let v531 : BitVec 1 := Scalar.cmpi .sgt c8_i32_272 c0_i32_275
  let v532 : BitVec 32 := Scalar.extui v531
  let c0_i32_276 : BitVec 32 := 0#32
  let v533 : BitVec 1 := Scalar.cmpi .slt c8_i32_272 c0_i32_276
  let v534 : BitVec 32 := Scalar.extui v533
  let v535 : BitVec 32 := Scalar.subi v532 v534
  let v536 : BitVec 1 := Scalar.cmpi .ne v530 v535
  let v537 : BitVec 32 := Scalar.remsi v524 c8_i32_272
  let c0_i32_277 : BitVec 32 := 0#32
  let v538 : BitVec 1 := Scalar.cmpi .ne v537 c0_i32_277
  let v539 : BitVec 1 := Scalar.andi v536 v538
  let v525 : BitVec 32 := Scalar.divsi v524 c8_i32_272
  let c1_i32_278 : BitVec 32 := 1#32
  let v540 : BitVec 32 := Scalar.subi v525 c1_i32_278
  let v541 : BitVec 32 := Scalar.select v539 v540 v525
  let c8_i32_299 : BitVec 32 := 8#32
  let v579 : BitVec 32 := Scalar.muli v541 c8_i32_299
  let v580 : BitVec 32 := Scalar.addi c0_i32_300 v579
  let c8_i32_279 : BitVec 32 := 8#32
  let c0_i32_280 : BitVec 32 := 0#32
  let v542 : BitVec 1 := Scalar.cmpi .eq c8_i32_279 c0_i32_280
  let c1_i32_281 : BitVec 32 := 1#32
  let v543 : BitVec 32 := Scalar.select v542 c1_i32_281 c8_i32_279
  let v544 : BitVec 32 := Scalar.remsi v524 v543
  let c0_i32_283 : BitVec 32 := 0#32
  let v546 : BitVec 1 := Scalar.cmpi .slt v544 c0_i32_283
  let c0_i32_284 : BitVec 32 := 0#32
  let v547 : BitVec 1 := Scalar.cmpi .slt v543 c0_i32_284
  let v548 : BitVec 1 := Scalar.xori v546 v547
  let c0_i32_282 : BitVec 32 := 0#32
  let v545 : BitVec 1 := Scalar.cmpi .ne v544 c0_i32_282
  let v549 : BitVec 1 := Scalar.andi v548 v545
  let v550 : BitVec 32 := Scalar.addi v544 v543
  let v551 : BitVec 32 := Scalar.select v549 v550 v544
  let c0_i32_286 : BitVec 32 := 0#32
  let v553 : BitVec 1 := Scalar.cmpi .sgt v551 c0_i32_286
  let v554 : BitVec 32 := Scalar.extui v553
  let c0_i32_287 : BitVec 32 := 0#32
  let v555 : BitVec 1 := Scalar.cmpi .slt v551 c0_i32_287
  let v556 : BitVec 32 := Scalar.extui v555
  let v557 : BitVec 32 := Scalar.subi v554 v556
  let c4_i32_285 : BitVec 32 := 4#32
  let c0_i32_288 : BitVec 32 := 0#32
  let v558 : BitVec 1 := Scalar.cmpi .sgt c4_i32_285 c0_i32_288
  let v559 : BitVec 32 := Scalar.extui v558
  let c0_i32_289 : BitVec 32 := 0#32
  let v560 : BitVec 1 := Scalar.cmpi .slt c4_i32_285 c0_i32_289
  let v561 : BitVec 32 := Scalar.extui v560
  let v562 : BitVec 32 := Scalar.subi v559 v561
  let v563 : BitVec 1 := Scalar.cmpi .ne v557 v562
  let v564 : BitVec 32 := Scalar.remsi v551 c4_i32_285
  let c0_i32_290 : BitVec 32 := 0#32
  let v565 : BitVec 1 := Scalar.cmpi .ne v564 c0_i32_290
  let v566 : BitVec 1 := Scalar.andi v563 v565
  let v552 : BitVec 32 := Scalar.divsi v551 c4_i32_285
  let c1_i32_291 : BitVec 32 := 1#32
  let v567 : BitVec 32 := Scalar.subi v552 c1_i32_291
  let v568 : BitVec 32 := Scalar.select v566 v567 v552
  let c4_i32_301 : BitVec 32 := 4#32
  let v581 : BitVec 32 := Scalar.muli v568 c4_i32_301
  let v582 : BitVec 32 := Scalar.addi v580 v581
  let c4_i32_292 : BitVec 32 := 4#32
  let c0_i32_293 : BitVec 32 := 0#32
  let v569 : BitVec 1 := Scalar.cmpi .eq c4_i32_292 c0_i32_293
  let c1_i32_294 : BitVec 32 := 1#32
  let v570 : BitVec 32 := Scalar.select v569 c1_i32_294 c4_i32_292
  let v571 : BitVec 32 := Scalar.remsi v524 v570
  let c0_i32_296 : BitVec 32 := 0#32
  let v573 : BitVec 1 := Scalar.cmpi .slt v571 c0_i32_296
  let c0_i32_297 : BitVec 32 := 0#32
  let v574 : BitVec 1 := Scalar.cmpi .slt v570 c0_i32_297
  let v575 : BitVec 1 := Scalar.xori v573 v574
  let c0_i32_295 : BitVec 32 := 0#32
  let v572 : BitVec 1 := Scalar.cmpi .ne v571 c0_i32_295
  let v576 : BitVec 1 := Scalar.andi v575 v572
  let v577 : BitVec 32 := Scalar.addi v571 v570
  let v578 : BitVec 32 := Scalar.select v576 v577 v571
  let c1_i32_302 : BitVec 32 := 1#32
  let v583 : BitVec 32 := Scalar.muli v578 c1_i32_302
  let v584 : BitVec 32 := Scalar.addi v582 v583
  v584.toNat
def k0_dev9 (d0 : Dev nD) : Nat :=
  let c0_i32_337 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32 : BitVec 32 := 9#32
  let v585 : BitVec 32 := Scalar.addi v12 c9_i32
  let c16_i32_303 : BitVec 32 := 16#32
  let c0_i32_304 : BitVec 32 := 0#32
  let v586 : BitVec 1 := Scalar.cmpi .eq c16_i32_303 c0_i32_304
  let c1_i32_305 : BitVec 32 := 1#32
  let v587 : BitVec 32 := Scalar.select v586 c1_i32_305 c16_i32_303
  let v588 : BitVec 32 := Scalar.remsi v585 v587
  let c0_i32_307 : BitVec 32 := 0#32
  let v590 : BitVec 1 := Scalar.cmpi .slt v588 c0_i32_307
  let c0_i32_308 : BitVec 32 := 0#32
  let v591 : BitVec 1 := Scalar.cmpi .slt v587 c0_i32_308
  let v592 : BitVec 1 := Scalar.xori v590 v591
  let c0_i32_306 : BitVec 32 := 0#32
  let v589 : BitVec 1 := Scalar.cmpi .ne v588 c0_i32_306
  let v593 : BitVec 1 := Scalar.andi v592 v589
  let v594 : BitVec 32 := Scalar.addi v588 v587
  let v595 : BitVec 32 := Scalar.select v593 v594 v588
  let c0_i32_310 : BitVec 32 := 0#32
  let v597 : BitVec 1 := Scalar.cmpi .sgt v595 c0_i32_310
  let v598 : BitVec 32 := Scalar.extui v597
  let c0_i32_311 : BitVec 32 := 0#32
  let v599 : BitVec 1 := Scalar.cmpi .slt v595 c0_i32_311
  let v600 : BitVec 32 := Scalar.extui v599
  let v601 : BitVec 32 := Scalar.subi v598 v600
  let c8_i32_309 : BitVec 32 := 8#32
  let c0_i32_312 : BitVec 32 := 0#32
  let v602 : BitVec 1 := Scalar.cmpi .sgt c8_i32_309 c0_i32_312
  let v603 : BitVec 32 := Scalar.extui v602
  let c0_i32_313 : BitVec 32 := 0#32
  let v604 : BitVec 1 := Scalar.cmpi .slt c8_i32_309 c0_i32_313
  let v605 : BitVec 32 := Scalar.extui v604
  let v606 : BitVec 32 := Scalar.subi v603 v605
  let v607 : BitVec 1 := Scalar.cmpi .ne v601 v606
  let v608 : BitVec 32 := Scalar.remsi v595 c8_i32_309
  let c0_i32_314 : BitVec 32 := 0#32
  let v609 : BitVec 1 := Scalar.cmpi .ne v608 c0_i32_314
  let v610 : BitVec 1 := Scalar.andi v607 v609
  let v596 : BitVec 32 := Scalar.divsi v595 c8_i32_309
  let c1_i32_315 : BitVec 32 := 1#32
  let v611 : BitVec 32 := Scalar.subi v596 c1_i32_315
  let v612 : BitVec 32 := Scalar.select v610 v611 v596
  let c8_i32_336 : BitVec 32 := 8#32
  let v650 : BitVec 32 := Scalar.muli v612 c8_i32_336
  let v651 : BitVec 32 := Scalar.addi c0_i32_337 v650
  let c8_i32_316 : BitVec 32 := 8#32
  let c0_i32_317 : BitVec 32 := 0#32
  let v613 : BitVec 1 := Scalar.cmpi .eq c8_i32_316 c0_i32_317
  let c1_i32_318 : BitVec 32 := 1#32
  let v614 : BitVec 32 := Scalar.select v613 c1_i32_318 c8_i32_316
  let v615 : BitVec 32 := Scalar.remsi v595 v614
  let c0_i32_320 : BitVec 32 := 0#32
  let v617 : BitVec 1 := Scalar.cmpi .slt v615 c0_i32_320
  let c0_i32_321 : BitVec 32 := 0#32
  let v618 : BitVec 1 := Scalar.cmpi .slt v614 c0_i32_321
  let v619 : BitVec 1 := Scalar.xori v617 v618
  let c0_i32_319 : BitVec 32 := 0#32
  let v616 : BitVec 1 := Scalar.cmpi .ne v615 c0_i32_319
  let v620 : BitVec 1 := Scalar.andi v619 v616
  let v621 : BitVec 32 := Scalar.addi v615 v614
  let v622 : BitVec 32 := Scalar.select v620 v621 v615
  let c0_i32_323 : BitVec 32 := 0#32
  let v624 : BitVec 1 := Scalar.cmpi .sgt v622 c0_i32_323
  let v625 : BitVec 32 := Scalar.extui v624
  let c0_i32_324 : BitVec 32 := 0#32
  let v626 : BitVec 1 := Scalar.cmpi .slt v622 c0_i32_324
  let v627 : BitVec 32 := Scalar.extui v626
  let v628 : BitVec 32 := Scalar.subi v625 v627
  let c4_i32_322 : BitVec 32 := 4#32
  let c0_i32_325 : BitVec 32 := 0#32
  let v629 : BitVec 1 := Scalar.cmpi .sgt c4_i32_322 c0_i32_325
  let v630 : BitVec 32 := Scalar.extui v629
  let c0_i32_326 : BitVec 32 := 0#32
  let v631 : BitVec 1 := Scalar.cmpi .slt c4_i32_322 c0_i32_326
  let v632 : BitVec 32 := Scalar.extui v631
  let v633 : BitVec 32 := Scalar.subi v630 v632
  let v634 : BitVec 1 := Scalar.cmpi .ne v628 v633
  let v635 : BitVec 32 := Scalar.remsi v622 c4_i32_322
  let c0_i32_327 : BitVec 32 := 0#32
  let v636 : BitVec 1 := Scalar.cmpi .ne v635 c0_i32_327
  let v637 : BitVec 1 := Scalar.andi v634 v636
  let v623 : BitVec 32 := Scalar.divsi v622 c4_i32_322
  let c1_i32_328 : BitVec 32 := 1#32
  let v638 : BitVec 32 := Scalar.subi v623 c1_i32_328
  let v639 : BitVec 32 := Scalar.select v637 v638 v623
  let c4_i32_338 : BitVec 32 := 4#32
  let v652 : BitVec 32 := Scalar.muli v639 c4_i32_338
  let v653 : BitVec 32 := Scalar.addi v651 v652
  let c4_i32_329 : BitVec 32 := 4#32
  let c0_i32_330 : BitVec 32 := 0#32
  let v640 : BitVec 1 := Scalar.cmpi .eq c4_i32_329 c0_i32_330
  let c1_i32_331 : BitVec 32 := 1#32
  let v641 : BitVec 32 := Scalar.select v640 c1_i32_331 c4_i32_329
  let v642 : BitVec 32 := Scalar.remsi v595 v641
  let c0_i32_333 : BitVec 32 := 0#32
  let v644 : BitVec 1 := Scalar.cmpi .slt v642 c0_i32_333
  let c0_i32_334 : BitVec 32 := 0#32
  let v645 : BitVec 1 := Scalar.cmpi .slt v641 c0_i32_334
  let v646 : BitVec 1 := Scalar.xori v644 v645
  let c0_i32_332 : BitVec 32 := 0#32
  let v643 : BitVec 1 := Scalar.cmpi .ne v642 c0_i32_332
  let v647 : BitVec 1 := Scalar.andi v646 v643
  let v648 : BitVec 32 := Scalar.addi v642 v641
  let v649 : BitVec 32 := Scalar.select v647 v648 v642
  let c1_i32_339 : BitVec 32 := 1#32
  let v654 : BitVec 32 := Scalar.muli v649 c1_i32_339
  let v655 : BitVec 32 := Scalar.addi v653 v654
  v655.toNat
def k0_dev10 (d0 : Dev nD) : Nat :=
  let c0_i32_374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32 : BitVec 32 := 10#32
  let v656 : BitVec 32 := Scalar.addi v12 c10_i32
  let c16_i32_340 : BitVec 32 := 16#32
  let c0_i32_341 : BitVec 32 := 0#32
  let v657 : BitVec 1 := Scalar.cmpi .eq c16_i32_340 c0_i32_341
  let c1_i32_342 : BitVec 32 := 1#32
  let v658 : BitVec 32 := Scalar.select v657 c1_i32_342 c16_i32_340
  let v659 : BitVec 32 := Scalar.remsi v656 v658
  let c0_i32_344 : BitVec 32 := 0#32
  let v661 : BitVec 1 := Scalar.cmpi .slt v659 c0_i32_344
  let c0_i32_345 : BitVec 32 := 0#32
  let v662 : BitVec 1 := Scalar.cmpi .slt v658 c0_i32_345
  let v663 : BitVec 1 := Scalar.xori v661 v662
  let c0_i32_343 : BitVec 32 := 0#32
  let v660 : BitVec 1 := Scalar.cmpi .ne v659 c0_i32_343
  let v664 : BitVec 1 := Scalar.andi v663 v660
  let v665 : BitVec 32 := Scalar.addi v659 v658
  let v666 : BitVec 32 := Scalar.select v664 v665 v659
  let c0_i32_347 : BitVec 32 := 0#32
  let v668 : BitVec 1 := Scalar.cmpi .sgt v666 c0_i32_347
  let v669 : BitVec 32 := Scalar.extui v668
  let c0_i32_348 : BitVec 32 := 0#32
  let v670 : BitVec 1 := Scalar.cmpi .slt v666 c0_i32_348
  let v671 : BitVec 32 := Scalar.extui v670
  let v672 : BitVec 32 := Scalar.subi v669 v671
  let c8_i32_346 : BitVec 32 := 8#32
  let c0_i32_349 : BitVec 32 := 0#32
  let v673 : BitVec 1 := Scalar.cmpi .sgt c8_i32_346 c0_i32_349
  let v674 : BitVec 32 := Scalar.extui v673
  let c0_i32_350 : BitVec 32 := 0#32
  let v675 : BitVec 1 := Scalar.cmpi .slt c8_i32_346 c0_i32_350
  let v676 : BitVec 32 := Scalar.extui v675
  let v677 : BitVec 32 := Scalar.subi v674 v676
  let v678 : BitVec 1 := Scalar.cmpi .ne v672 v677
  let v679 : BitVec 32 := Scalar.remsi v666 c8_i32_346
  let c0_i32_351 : BitVec 32 := 0#32
  let v680 : BitVec 1 := Scalar.cmpi .ne v679 c0_i32_351
  let v681 : BitVec 1 := Scalar.andi v678 v680
  let v667 : BitVec 32 := Scalar.divsi v666 c8_i32_346
  let c1_i32_352 : BitVec 32 := 1#32
  let v682 : BitVec 32 := Scalar.subi v667 c1_i32_352
  let v683 : BitVec 32 := Scalar.select v681 v682 v667
  let c8_i32_373 : BitVec 32 := 8#32
  let v721 : BitVec 32 := Scalar.muli v683 c8_i32_373
  let v722 : BitVec 32 := Scalar.addi c0_i32_374 v721
  let c8_i32_353 : BitVec 32 := 8#32
  let c0_i32_354 : BitVec 32 := 0#32
  let v684 : BitVec 1 := Scalar.cmpi .eq c8_i32_353 c0_i32_354
  let c1_i32_355 : BitVec 32 := 1#32
  let v685 : BitVec 32 := Scalar.select v684 c1_i32_355 c8_i32_353
  let v686 : BitVec 32 := Scalar.remsi v666 v685
  let c0_i32_357 : BitVec 32 := 0#32
  let v688 : BitVec 1 := Scalar.cmpi .slt v686 c0_i32_357
  let c0_i32_358 : BitVec 32 := 0#32
  let v689 : BitVec 1 := Scalar.cmpi .slt v685 c0_i32_358
  let v690 : BitVec 1 := Scalar.xori v688 v689
  let c0_i32_356 : BitVec 32 := 0#32
  let v687 : BitVec 1 := Scalar.cmpi .ne v686 c0_i32_356
  let v691 : BitVec 1 := Scalar.andi v690 v687
  let v692 : BitVec 32 := Scalar.addi v686 v685
  let v693 : BitVec 32 := Scalar.select v691 v692 v686
  let c0_i32_360 : BitVec 32 := 0#32
  let v695 : BitVec 1 := Scalar.cmpi .sgt v693 c0_i32_360
  let v696 : BitVec 32 := Scalar.extui v695
  let c0_i32_361 : BitVec 32 := 0#32
  let v697 : BitVec 1 := Scalar.cmpi .slt v693 c0_i32_361
  let v698 : BitVec 32 := Scalar.extui v697
  let v699 : BitVec 32 := Scalar.subi v696 v698
  let c4_i32_359 : BitVec 32 := 4#32
  let c0_i32_362 : BitVec 32 := 0#32
  let v700 : BitVec 1 := Scalar.cmpi .sgt c4_i32_359 c0_i32_362
  let v701 : BitVec 32 := Scalar.extui v700
  let c0_i32_363 : BitVec 32 := 0#32
  let v702 : BitVec 1 := Scalar.cmpi .slt c4_i32_359 c0_i32_363
  let v703 : BitVec 32 := Scalar.extui v702
  let v704 : BitVec 32 := Scalar.subi v701 v703
  let v705 : BitVec 1 := Scalar.cmpi .ne v699 v704
  let v706 : BitVec 32 := Scalar.remsi v693 c4_i32_359
  let c0_i32_364 : BitVec 32 := 0#32
  let v707 : BitVec 1 := Scalar.cmpi .ne v706 c0_i32_364
  let v708 : BitVec 1 := Scalar.andi v705 v707
  let v694 : BitVec 32 := Scalar.divsi v693 c4_i32_359
  let c1_i32_365 : BitVec 32 := 1#32
  let v709 : BitVec 32 := Scalar.subi v694 c1_i32_365
  let v710 : BitVec 32 := Scalar.select v708 v709 v694
  let c4_i32_375 : BitVec 32 := 4#32
  let v723 : BitVec 32 := Scalar.muli v710 c4_i32_375
  let v724 : BitVec 32 := Scalar.addi v722 v723
  let c4_i32_366 : BitVec 32 := 4#32
  let c0_i32_367 : BitVec 32 := 0#32
  let v711 : BitVec 1 := Scalar.cmpi .eq c4_i32_366 c0_i32_367
  let c1_i32_368 : BitVec 32 := 1#32
  let v712 : BitVec 32 := Scalar.select v711 c1_i32_368 c4_i32_366
  let v713 : BitVec 32 := Scalar.remsi v666 v712
  let c0_i32_370 : BitVec 32 := 0#32
  let v715 : BitVec 1 := Scalar.cmpi .slt v713 c0_i32_370
  let c0_i32_371 : BitVec 32 := 0#32
  let v716 : BitVec 1 := Scalar.cmpi .slt v712 c0_i32_371
  let v717 : BitVec 1 := Scalar.xori v715 v716
  let c0_i32_369 : BitVec 32 := 0#32
  let v714 : BitVec 1 := Scalar.cmpi .ne v713 c0_i32_369
  let v718 : BitVec 1 := Scalar.andi v717 v714
  let v719 : BitVec 32 := Scalar.addi v713 v712
  let v720 : BitVec 32 := Scalar.select v718 v719 v713
  let c1_i32_376 : BitVec 32 := 1#32
  let v725 : BitVec 32 := Scalar.muli v720 c1_i32_376
  let v726 : BitVec 32 := Scalar.addi v724 v725
  v726.toNat
def k0_dev11 (d0 : Dev nD) : Nat :=
  let c0_i32_411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32 : BitVec 32 := 11#32
  let v727 : BitVec 32 := Scalar.addi v12 c11_i32
  let c16_i32_377 : BitVec 32 := 16#32
  let c0_i32_378 : BitVec 32 := 0#32
  let v728 : BitVec 1 := Scalar.cmpi .eq c16_i32_377 c0_i32_378
  let c1_i32_379 : BitVec 32 := 1#32
  let v729 : BitVec 32 := Scalar.select v728 c1_i32_379 c16_i32_377
  let v730 : BitVec 32 := Scalar.remsi v727 v729
  let c0_i32_381 : BitVec 32 := 0#32
  let v732 : BitVec 1 := Scalar.cmpi .slt v730 c0_i32_381
  let c0_i32_382 : BitVec 32 := 0#32
  let v733 : BitVec 1 := Scalar.cmpi .slt v729 c0_i32_382
  let v734 : BitVec 1 := Scalar.xori v732 v733
  let c0_i32_380 : BitVec 32 := 0#32
  let v731 : BitVec 1 := Scalar.cmpi .ne v730 c0_i32_380
  let v735 : BitVec 1 := Scalar.andi v734 v731
  let v736 : BitVec 32 := Scalar.addi v730 v729
  let v737 : BitVec 32 := Scalar.select v735 v736 v730
  let c0_i32_384 : BitVec 32 := 0#32
  let v739 : BitVec 1 := Scalar.cmpi .sgt v737 c0_i32_384
  let v740 : BitVec 32 := Scalar.extui v739
  let c0_i32_385 : BitVec 32 := 0#32
  let v741 : BitVec 1 := Scalar.cmpi .slt v737 c0_i32_385
  let v742 : BitVec 32 := Scalar.extui v741
  let v743 : BitVec 32 := Scalar.subi v740 v742
  let c8_i32_383 : BitVec 32 := 8#32
  let c0_i32_386 : BitVec 32 := 0#32
  let v744 : BitVec 1 := Scalar.cmpi .sgt c8_i32_383 c0_i32_386
  let v745 : BitVec 32 := Scalar.extui v744
  let c0_i32_387 : BitVec 32 := 0#32
  let v746 : BitVec 1 := Scalar.cmpi .slt c8_i32_383 c0_i32_387
  let v747 : BitVec 32 := Scalar.extui v746
  let v748 : BitVec 32 := Scalar.subi v745 v747
  let v749 : BitVec 1 := Scalar.cmpi .ne v743 v748
  let v750 : BitVec 32 := Scalar.remsi v737 c8_i32_383
  let c0_i32_388 : BitVec 32 := 0#32
  let v751 : BitVec 1 := Scalar.cmpi .ne v750 c0_i32_388
  let v752 : BitVec 1 := Scalar.andi v749 v751
  let v738 : BitVec 32 := Scalar.divsi v737 c8_i32_383
  let c1_i32_389 : BitVec 32 := 1#32
  let v753 : BitVec 32 := Scalar.subi v738 c1_i32_389
  let v754 : BitVec 32 := Scalar.select v752 v753 v738
  let c8_i32_410 : BitVec 32 := 8#32
  let v792 : BitVec 32 := Scalar.muli v754 c8_i32_410
  let v793 : BitVec 32 := Scalar.addi c0_i32_411 v792
  let c8_i32_390 : BitVec 32 := 8#32
  let c0_i32_391 : BitVec 32 := 0#32
  let v755 : BitVec 1 := Scalar.cmpi .eq c8_i32_390 c0_i32_391
  let c1_i32_392 : BitVec 32 := 1#32
  let v756 : BitVec 32 := Scalar.select v755 c1_i32_392 c8_i32_390
  let v757 : BitVec 32 := Scalar.remsi v737 v756
  let c0_i32_394 : BitVec 32 := 0#32
  let v759 : BitVec 1 := Scalar.cmpi .slt v757 c0_i32_394
  let c0_i32_395 : BitVec 32 := 0#32
  let v760 : BitVec 1 := Scalar.cmpi .slt v756 c0_i32_395
  let v761 : BitVec 1 := Scalar.xori v759 v760
  let c0_i32_393 : BitVec 32 := 0#32
  let v758 : BitVec 1 := Scalar.cmpi .ne v757 c0_i32_393
  let v762 : BitVec 1 := Scalar.andi v761 v758
  let v763 : BitVec 32 := Scalar.addi v757 v756
  let v764 : BitVec 32 := Scalar.select v762 v763 v757
  let c0_i32_397 : BitVec 32 := 0#32
  let v766 : BitVec 1 := Scalar.cmpi .sgt v764 c0_i32_397
  let v767 : BitVec 32 := Scalar.extui v766
  let c0_i32_398 : BitVec 32 := 0#32
  let v768 : BitVec 1 := Scalar.cmpi .slt v764 c0_i32_398
  let v769 : BitVec 32 := Scalar.extui v768
  let v770 : BitVec 32 := Scalar.subi v767 v769
  let c4_i32_396 : BitVec 32 := 4#32
  let c0_i32_399 : BitVec 32 := 0#32
  let v771 : BitVec 1 := Scalar.cmpi .sgt c4_i32_396 c0_i32_399
  let v772 : BitVec 32 := Scalar.extui v771
  let c0_i32_400 : BitVec 32 := 0#32
  let v773 : BitVec 1 := Scalar.cmpi .slt c4_i32_396 c0_i32_400
  let v774 : BitVec 32 := Scalar.extui v773
  let v775 : BitVec 32 := Scalar.subi v772 v774
  let v776 : BitVec 1 := Scalar.cmpi .ne v770 v775
  let v777 : BitVec 32 := Scalar.remsi v764 c4_i32_396
  let c0_i32_401 : BitVec 32 := 0#32
  let v778 : BitVec 1 := Scalar.cmpi .ne v777 c0_i32_401
  let v779 : BitVec 1 := Scalar.andi v776 v778
  let v765 : BitVec 32 := Scalar.divsi v764 c4_i32_396
  let c1_i32_402 : BitVec 32 := 1#32
  let v780 : BitVec 32 := Scalar.subi v765 c1_i32_402
  let v781 : BitVec 32 := Scalar.select v779 v780 v765
  let c4_i32_412 : BitVec 32 := 4#32
  let v794 : BitVec 32 := Scalar.muli v781 c4_i32_412
  let v795 : BitVec 32 := Scalar.addi v793 v794
  let c4_i32_403 : BitVec 32 := 4#32
  let c0_i32_404 : BitVec 32 := 0#32
  let v782 : BitVec 1 := Scalar.cmpi .eq c4_i32_403 c0_i32_404
  let c1_i32_405 : BitVec 32 := 1#32
  let v783 : BitVec 32 := Scalar.select v782 c1_i32_405 c4_i32_403
  let v784 : BitVec 32 := Scalar.remsi v737 v783
  let c0_i32_407 : BitVec 32 := 0#32
  let v786 : BitVec 1 := Scalar.cmpi .slt v784 c0_i32_407
  let c0_i32_408 : BitVec 32 := 0#32
  let v787 : BitVec 1 := Scalar.cmpi .slt v783 c0_i32_408
  let v788 : BitVec 1 := Scalar.xori v786 v787
  let c0_i32_406 : BitVec 32 := 0#32
  let v785 : BitVec 1 := Scalar.cmpi .ne v784 c0_i32_406
  let v789 : BitVec 1 := Scalar.andi v788 v785
  let v790 : BitVec 32 := Scalar.addi v784 v783
  let v791 : BitVec 32 := Scalar.select v789 v790 v784
  let c1_i32_413 : BitVec 32 := 1#32
  let v796 : BitVec 32 := Scalar.muli v791 c1_i32_413
  let v797 : BitVec 32 := Scalar.addi v795 v796
  v797.toNat
def k0_dev12 (d0 : Dev nD) : Nat :=
  let c0_i32_448 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32 : BitVec 32 := 12#32
  let v798 : BitVec 32 := Scalar.addi v12 c12_i32
  let c16_i32_414 : BitVec 32 := 16#32
  let c0_i32_415 : BitVec 32 := 0#32
  let v799 : BitVec 1 := Scalar.cmpi .eq c16_i32_414 c0_i32_415
  let c1_i32_416 : BitVec 32 := 1#32
  let v800 : BitVec 32 := Scalar.select v799 c1_i32_416 c16_i32_414
  let v801 : BitVec 32 := Scalar.remsi v798 v800
  let c0_i32_418 : BitVec 32 := 0#32
  let v803 : BitVec 1 := Scalar.cmpi .slt v801 c0_i32_418
  let c0_i32_419 : BitVec 32 := 0#32
  let v804 : BitVec 1 := Scalar.cmpi .slt v800 c0_i32_419
  let v805 : BitVec 1 := Scalar.xori v803 v804
  let c0_i32_417 : BitVec 32 := 0#32
  let v802 : BitVec 1 := Scalar.cmpi .ne v801 c0_i32_417
  let v806 : BitVec 1 := Scalar.andi v805 v802
  let v807 : BitVec 32 := Scalar.addi v801 v800
  let v808 : BitVec 32 := Scalar.select v806 v807 v801
  let c0_i32_421 : BitVec 32 := 0#32
  let v810 : BitVec 1 := Scalar.cmpi .sgt v808 c0_i32_421
  let v811 : BitVec 32 := Scalar.extui v810
  let c0_i32_422 : BitVec 32 := 0#32
  let v812 : BitVec 1 := Scalar.cmpi .slt v808 c0_i32_422
  let v813 : BitVec 32 := Scalar.extui v812
  let v814 : BitVec 32 := Scalar.subi v811 v813
  let c8_i32_420 : BitVec 32 := 8#32
  let c0_i32_423 : BitVec 32 := 0#32
  let v815 : BitVec 1 := Scalar.cmpi .sgt c8_i32_420 c0_i32_423
  let v816 : BitVec 32 := Scalar.extui v815
  let c0_i32_424 : BitVec 32 := 0#32
  let v817 : BitVec 1 := Scalar.cmpi .slt c8_i32_420 c0_i32_424
  let v818 : BitVec 32 := Scalar.extui v817
  let v819 : BitVec 32 := Scalar.subi v816 v818
  let v820 : BitVec 1 := Scalar.cmpi .ne v814 v819
  let v821 : BitVec 32 := Scalar.remsi v808 c8_i32_420
  let c0_i32_425 : BitVec 32 := 0#32
  let v822 : BitVec 1 := Scalar.cmpi .ne v821 c0_i32_425
  let v823 : BitVec 1 := Scalar.andi v820 v822
  let v809 : BitVec 32 := Scalar.divsi v808 c8_i32_420
  let c1_i32_426 : BitVec 32 := 1#32
  let v824 : BitVec 32 := Scalar.subi v809 c1_i32_426
  let v825 : BitVec 32 := Scalar.select v823 v824 v809
  let c8_i32_447 : BitVec 32 := 8#32
  let v863 : BitVec 32 := Scalar.muli v825 c8_i32_447
  let v864 : BitVec 32 := Scalar.addi c0_i32_448 v863
  let c8_i32_427 : BitVec 32 := 8#32
  let c0_i32_428 : BitVec 32 := 0#32
  let v826 : BitVec 1 := Scalar.cmpi .eq c8_i32_427 c0_i32_428
  let c1_i32_429 : BitVec 32 := 1#32
  let v827 : BitVec 32 := Scalar.select v826 c1_i32_429 c8_i32_427
  let v828 : BitVec 32 := Scalar.remsi v808 v827
  let c0_i32_431 : BitVec 32 := 0#32
  let v830 : BitVec 1 := Scalar.cmpi .slt v828 c0_i32_431
  let c0_i32_432 : BitVec 32 := 0#32
  let v831 : BitVec 1 := Scalar.cmpi .slt v827 c0_i32_432
  let v832 : BitVec 1 := Scalar.xori v830 v831
  let c0_i32_430 : BitVec 32 := 0#32
  let v829 : BitVec 1 := Scalar.cmpi .ne v828 c0_i32_430
  let v833 : BitVec 1 := Scalar.andi v832 v829
  let v834 : BitVec 32 := Scalar.addi v828 v827
  let v835 : BitVec 32 := Scalar.select v833 v834 v828
  let c0_i32_434 : BitVec 32 := 0#32
  let v837 : BitVec 1 := Scalar.cmpi .sgt v835 c0_i32_434
  let v838 : BitVec 32 := Scalar.extui v837
  let c0_i32_435 : BitVec 32 := 0#32
  let v839 : BitVec 1 := Scalar.cmpi .slt v835 c0_i32_435
  let v840 : BitVec 32 := Scalar.extui v839
  let v841 : BitVec 32 := Scalar.subi v838 v840
  let c4_i32_433 : BitVec 32 := 4#32
  let c0_i32_436 : BitVec 32 := 0#32
  let v842 : BitVec 1 := Scalar.cmpi .sgt c4_i32_433 c0_i32_436
  let v843 : BitVec 32 := Scalar.extui v842
  let c0_i32_437 : BitVec 32 := 0#32
  let v844 : BitVec 1 := Scalar.cmpi .slt c4_i32_433 c0_i32_437
  let v845 : BitVec 32 := Scalar.extui v844
  let v846 : BitVec 32 := Scalar.subi v843 v845
  let v847 : BitVec 1 := Scalar.cmpi .ne v841 v846
  let v848 : BitVec 32 := Scalar.remsi v835 c4_i32_433
  let c0_i32_438 : BitVec 32 := 0#32
  let v849 : BitVec 1 := Scalar.cmpi .ne v848 c0_i32_438
  let v850 : BitVec 1 := Scalar.andi v847 v849
  let v836 : BitVec 32 := Scalar.divsi v835 c4_i32_433
  let c1_i32_439 : BitVec 32 := 1#32
  let v851 : BitVec 32 := Scalar.subi v836 c1_i32_439
  let v852 : BitVec 32 := Scalar.select v850 v851 v836
  let c4_i32_449 : BitVec 32 := 4#32
  let v865 : BitVec 32 := Scalar.muli v852 c4_i32_449
  let v866 : BitVec 32 := Scalar.addi v864 v865
  let c4_i32_440 : BitVec 32 := 4#32
  let c0_i32_441 : BitVec 32 := 0#32
  let v853 : BitVec 1 := Scalar.cmpi .eq c4_i32_440 c0_i32_441
  let c1_i32_442 : BitVec 32 := 1#32
  let v854 : BitVec 32 := Scalar.select v853 c1_i32_442 c4_i32_440
  let v855 : BitVec 32 := Scalar.remsi v808 v854
  let c0_i32_444 : BitVec 32 := 0#32
  let v857 : BitVec 1 := Scalar.cmpi .slt v855 c0_i32_444
  let c0_i32_445 : BitVec 32 := 0#32
  let v858 : BitVec 1 := Scalar.cmpi .slt v854 c0_i32_445
  let v859 : BitVec 1 := Scalar.xori v857 v858
  let c0_i32_443 : BitVec 32 := 0#32
  let v856 : BitVec 1 := Scalar.cmpi .ne v855 c0_i32_443
  let v860 : BitVec 1 := Scalar.andi v859 v856
  let v861 : BitVec 32 := Scalar.addi v855 v854
  let v862 : BitVec 32 := Scalar.select v860 v861 v855
  let c1_i32_450 : BitVec 32 := 1#32
  let v867 : BitVec 32 := Scalar.muli v862 c1_i32_450
  let v868 : BitVec 32 := Scalar.addi v866 v867
  v868.toNat
def k0_dev13 (d0 : Dev nD) : Nat :=
  let c0_i32_485 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32 : BitVec 32 := 13#32
  let v869 : BitVec 32 := Scalar.addi v12 c13_i32
  let c16_i32_451 : BitVec 32 := 16#32
  let c0_i32_452 : BitVec 32 := 0#32
  let v870 : BitVec 1 := Scalar.cmpi .eq c16_i32_451 c0_i32_452
  let c1_i32_453 : BitVec 32 := 1#32
  let v871 : BitVec 32 := Scalar.select v870 c1_i32_453 c16_i32_451
  let v872 : BitVec 32 := Scalar.remsi v869 v871
  let c0_i32_455 : BitVec 32 := 0#32
  let v874 : BitVec 1 := Scalar.cmpi .slt v872 c0_i32_455
  let c0_i32_456 : BitVec 32 := 0#32
  let v875 : BitVec 1 := Scalar.cmpi .slt v871 c0_i32_456
  let v876 : BitVec 1 := Scalar.xori v874 v875
  let c0_i32_454 : BitVec 32 := 0#32
  let v873 : BitVec 1 := Scalar.cmpi .ne v872 c0_i32_454
  let v877 : BitVec 1 := Scalar.andi v876 v873
  let v878 : BitVec 32 := Scalar.addi v872 v871
  let v879 : BitVec 32 := Scalar.select v877 v878 v872
  let c0_i32_458 : BitVec 32 := 0#32
  let v881 : BitVec 1 := Scalar.cmpi .sgt v879 c0_i32_458
  let v882 : BitVec 32 := Scalar.extui v881
  let c0_i32_459 : BitVec 32 := 0#32
  let v883 : BitVec 1 := Scalar.cmpi .slt v879 c0_i32_459
  let v884 : BitVec 32 := Scalar.extui v883
  let v885 : BitVec 32 := Scalar.subi v882 v884
  let c8_i32_457 : BitVec 32 := 8#32
  let c0_i32_460 : BitVec 32 := 0#32
  let v886 : BitVec 1 := Scalar.cmpi .sgt c8_i32_457 c0_i32_460
  let v887 : BitVec 32 := Scalar.extui v886
  let c0_i32_461 : BitVec 32 := 0#32
  let v888 : BitVec 1 := Scalar.cmpi .slt c8_i32_457 c0_i32_461
  let v889 : BitVec 32 := Scalar.extui v888
  let v890 : BitVec 32 := Scalar.subi v887 v889
  let v891 : BitVec 1 := Scalar.cmpi .ne v885 v890
  let v892 : BitVec 32 := Scalar.remsi v879 c8_i32_457
  let c0_i32_462 : BitVec 32 := 0#32
  let v893 : BitVec 1 := Scalar.cmpi .ne v892 c0_i32_462
  let v894 : BitVec 1 := Scalar.andi v891 v893
  let v880 : BitVec 32 := Scalar.divsi v879 c8_i32_457
  let c1_i32_463 : BitVec 32 := 1#32
  let v895 : BitVec 32 := Scalar.subi v880 c1_i32_463
  let v896 : BitVec 32 := Scalar.select v894 v895 v880
  let c8_i32_484 : BitVec 32 := 8#32
  let v934 : BitVec 32 := Scalar.muli v896 c8_i32_484
  let v935 : BitVec 32 := Scalar.addi c0_i32_485 v934
  let c8_i32_464 : BitVec 32 := 8#32
  let c0_i32_465 : BitVec 32 := 0#32
  let v897 : BitVec 1 := Scalar.cmpi .eq c8_i32_464 c0_i32_465
  let c1_i32_466 : BitVec 32 := 1#32
  let v898 : BitVec 32 := Scalar.select v897 c1_i32_466 c8_i32_464
  let v899 : BitVec 32 := Scalar.remsi v879 v898
  let c0_i32_468 : BitVec 32 := 0#32
  let v901 : BitVec 1 := Scalar.cmpi .slt v899 c0_i32_468
  let c0_i32_469 : BitVec 32 := 0#32
  let v902 : BitVec 1 := Scalar.cmpi .slt v898 c0_i32_469
  let v903 : BitVec 1 := Scalar.xori v901 v902
  let c0_i32_467 : BitVec 32 := 0#32
  let v900 : BitVec 1 := Scalar.cmpi .ne v899 c0_i32_467
  let v904 : BitVec 1 := Scalar.andi v903 v900
  let v905 : BitVec 32 := Scalar.addi v899 v898
  let v906 : BitVec 32 := Scalar.select v904 v905 v899
  let c0_i32_471 : BitVec 32 := 0#32
  let v908 : BitVec 1 := Scalar.cmpi .sgt v906 c0_i32_471
  let v909 : BitVec 32 := Scalar.extui v908
  let c0_i32_472 : BitVec 32 := 0#32
  let v910 : BitVec 1 := Scalar.cmpi .slt v906 c0_i32_472
  let v911 : BitVec 32 := Scalar.extui v910
  let v912 : BitVec 32 := Scalar.subi v909 v911
  let c4_i32_470 : BitVec 32 := 4#32
  let c0_i32_473 : BitVec 32 := 0#32
  let v913 : BitVec 1 := Scalar.cmpi .sgt c4_i32_470 c0_i32_473
  let v914 : BitVec 32 := Scalar.extui v913
  let c0_i32_474 : BitVec 32 := 0#32
  let v915 : BitVec 1 := Scalar.cmpi .slt c4_i32_470 c0_i32_474
  let v916 : BitVec 32 := Scalar.extui v915
  let v917 : BitVec 32 := Scalar.subi v914 v916
  let v918 : BitVec 1 := Scalar.cmpi .ne v912 v917
  let v919 : BitVec 32 := Scalar.remsi v906 c4_i32_470
  let c0_i32_475 : BitVec 32 := 0#32
  let v920 : BitVec 1 := Scalar.cmpi .ne v919 c0_i32_475
  let v921 : BitVec 1 := Scalar.andi v918 v920
  let v907 : BitVec 32 := Scalar.divsi v906 c4_i32_470
  let c1_i32_476 : BitVec 32 := 1#32
  let v922 : BitVec 32 := Scalar.subi v907 c1_i32_476
  let v923 : BitVec 32 := Scalar.select v921 v922 v907
  let c4_i32_486 : BitVec 32 := 4#32
  let v936 : BitVec 32 := Scalar.muli v923 c4_i32_486
  let v937 : BitVec 32 := Scalar.addi v935 v936
  let c4_i32_477 : BitVec 32 := 4#32
  let c0_i32_478 : BitVec 32 := 0#32
  let v924 : BitVec 1 := Scalar.cmpi .eq c4_i32_477 c0_i32_478
  let c1_i32_479 : BitVec 32 := 1#32
  let v925 : BitVec 32 := Scalar.select v924 c1_i32_479 c4_i32_477
  let v926 : BitVec 32 := Scalar.remsi v879 v925
  let c0_i32_481 : BitVec 32 := 0#32
  let v928 : BitVec 1 := Scalar.cmpi .slt v926 c0_i32_481
  let c0_i32_482 : BitVec 32 := 0#32
  let v929 : BitVec 1 := Scalar.cmpi .slt v925 c0_i32_482
  let v930 : BitVec 1 := Scalar.xori v928 v929
  let c0_i32_480 : BitVec 32 := 0#32
  let v927 : BitVec 1 := Scalar.cmpi .ne v926 c0_i32_480
  let v931 : BitVec 1 := Scalar.andi v930 v927
  let v932 : BitVec 32 := Scalar.addi v926 v925
  let v933 : BitVec 32 := Scalar.select v931 v932 v926
  let c1_i32_487 : BitVec 32 := 1#32
  let v938 : BitVec 32 := Scalar.muli v933 c1_i32_487
  let v939 : BitVec 32 := Scalar.addi v937 v938
  v939.toNat
def k0_dev14 (d0 : Dev nD) : Nat :=
  let c0_i32_522 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32 : BitVec 32 := 14#32
  let v940 : BitVec 32 := Scalar.addi v12 c14_i32
  let c16_i32_488 : BitVec 32 := 16#32
  let c0_i32_489 : BitVec 32 := 0#32
  let v941 : BitVec 1 := Scalar.cmpi .eq c16_i32_488 c0_i32_489
  let c1_i32_490 : BitVec 32 := 1#32
  let v942 : BitVec 32 := Scalar.select v941 c1_i32_490 c16_i32_488
  let v943 : BitVec 32 := Scalar.remsi v940 v942
  let c0_i32_492 : BitVec 32 := 0#32
  let v945 : BitVec 1 := Scalar.cmpi .slt v943 c0_i32_492
  let c0_i32_493 : BitVec 32 := 0#32
  let v946 : BitVec 1 := Scalar.cmpi .slt v942 c0_i32_493
  let v947 : BitVec 1 := Scalar.xori v945 v946
  let c0_i32_491 : BitVec 32 := 0#32
  let v944 : BitVec 1 := Scalar.cmpi .ne v943 c0_i32_491
  let v948 : BitVec 1 := Scalar.andi v947 v944
  let v949 : BitVec 32 := Scalar.addi v943 v942
  let v950 : BitVec 32 := Scalar.select v948 v949 v943
  let c0_i32_495 : BitVec 32 := 0#32
  let v952 : BitVec 1 := Scalar.cmpi .sgt v950 c0_i32_495
  let v953 : BitVec 32 := Scalar.extui v952
  let c0_i32_496 : BitVec 32 := 0#32
  let v954 : BitVec 1 := Scalar.cmpi .slt v950 c0_i32_496
  let v955 : BitVec 32 := Scalar.extui v954
  let v956 : BitVec 32 := Scalar.subi v953 v955
  let c8_i32_494 : BitVec 32 := 8#32
  let c0_i32_497 : BitVec 32 := 0#32
  let v957 : BitVec 1 := Scalar.cmpi .sgt c8_i32_494 c0_i32_497
  let v958 : BitVec 32 := Scalar.extui v957
  let c0_i32_498 : BitVec 32 := 0#32
  let v959 : BitVec 1 := Scalar.cmpi .slt c8_i32_494 c0_i32_498
  let v960 : BitVec 32 := Scalar.extui v959
  let v961 : BitVec 32 := Scalar.subi v958 v960
  let v962 : BitVec 1 := Scalar.cmpi .ne v956 v961
  let v963 : BitVec 32 := Scalar.remsi v950 c8_i32_494
  let c0_i32_499 : BitVec 32 := 0#32
  let v964 : BitVec 1 := Scalar.cmpi .ne v963 c0_i32_499
  let v965 : BitVec 1 := Scalar.andi v962 v964
  let v951 : BitVec 32 := Scalar.divsi v950 c8_i32_494
  let c1_i32_500 : BitVec 32 := 1#32
  let v966 : BitVec 32 := Scalar.subi v951 c1_i32_500
  let v967 : BitVec 32 := Scalar.select v965 v966 v951
  let c8_i32_521 : BitVec 32 := 8#32
  let v1005 : BitVec 32 := Scalar.muli v967 c8_i32_521
  let v1006 : BitVec 32 := Scalar.addi c0_i32_522 v1005
  let c8_i32_501 : BitVec 32 := 8#32
  let c0_i32_502 : BitVec 32 := 0#32
  let v968 : BitVec 1 := Scalar.cmpi .eq c8_i32_501 c0_i32_502
  let c1_i32_503 : BitVec 32 := 1#32
  let v969 : BitVec 32 := Scalar.select v968 c1_i32_503 c8_i32_501
  let v970 : BitVec 32 := Scalar.remsi v950 v969
  let c0_i32_505 : BitVec 32 := 0#32
  let v972 : BitVec 1 := Scalar.cmpi .slt v970 c0_i32_505
  let c0_i32_506 : BitVec 32 := 0#32
  let v973 : BitVec 1 := Scalar.cmpi .slt v969 c0_i32_506
  let v974 : BitVec 1 := Scalar.xori v972 v973
  let c0_i32_504 : BitVec 32 := 0#32
  let v971 : BitVec 1 := Scalar.cmpi .ne v970 c0_i32_504
  let v975 : BitVec 1 := Scalar.andi v974 v971
  let v976 : BitVec 32 := Scalar.addi v970 v969
  let v977 : BitVec 32 := Scalar.select v975 v976 v970
  let c0_i32_508 : BitVec 32 := 0#32
  let v979 : BitVec 1 := Scalar.cmpi .sgt v977 c0_i32_508
  let v980 : BitVec 32 := Scalar.extui v979
  let c0_i32_509 : BitVec 32 := 0#32
  let v981 : BitVec 1 := Scalar.cmpi .slt v977 c0_i32_509
  let v982 : BitVec 32 := Scalar.extui v981
  let v983 : BitVec 32 := Scalar.subi v980 v982
  let c4_i32_507 : BitVec 32 := 4#32
  let c0_i32_510 : BitVec 32 := 0#32
  let v984 : BitVec 1 := Scalar.cmpi .sgt c4_i32_507 c0_i32_510
  let v985 : BitVec 32 := Scalar.extui v984
  let c0_i32_511 : BitVec 32 := 0#32
  let v986 : BitVec 1 := Scalar.cmpi .slt c4_i32_507 c0_i32_511
  let v987 : BitVec 32 := Scalar.extui v986
  let v988 : BitVec 32 := Scalar.subi v985 v987
  let v989 : BitVec 1 := Scalar.cmpi .ne v983 v988
  let v990 : BitVec 32 := Scalar.remsi v977 c4_i32_507
  let c0_i32_512 : BitVec 32 := 0#32
  let v991 : BitVec 1 := Scalar.cmpi .ne v990 c0_i32_512
  let v992 : BitVec 1 := Scalar.andi v989 v991
  let v978 : BitVec 32 := Scalar.divsi v977 c4_i32_507
  let c1_i32_513 : BitVec 32 := 1#32
  let v993 : BitVec 32 := Scalar.subi v978 c1_i32_513
  let v994 : BitVec 32 := Scalar.select v992 v993 v978
  let c4_i32_523 : BitVec 32 := 4#32
  let v1007 : BitVec 32 := Scalar.muli v994 c4_i32_523
  let v1008 : BitVec 32 := Scalar.addi v1006 v1007
  let c4_i32_514 : BitVec 32 := 4#32
  let c0_i32_515 : BitVec 32 := 0#32
  let v995 : BitVec 1 := Scalar.cmpi .eq c4_i32_514 c0_i32_515
  let c1_i32_516 : BitVec 32 := 1#32
  let v996 : BitVec 32 := Scalar.select v995 c1_i32_516 c4_i32_514
  let v997 : BitVec 32 := Scalar.remsi v950 v996
  let c0_i32_518 : BitVec 32 := 0#32
  let v999 : BitVec 1 := Scalar.cmpi .slt v997 c0_i32_518
  let c0_i32_519 : BitVec 32 := 0#32
  let v1000 : BitVec 1 := Scalar.cmpi .slt v996 c0_i32_519
  let v1001 : BitVec 1 := Scalar.xori v999 v1000
  let c0_i32_517 : BitVec 32 := 0#32
  let v998 : BitVec 1 := Scalar.cmpi .ne v997 c0_i32_517
  let v1002 : BitVec 1 := Scalar.andi v1001 v998
  let v1003 : BitVec 32 := Scalar.addi v997 v996
  let v1004 : BitVec 32 := Scalar.select v1002 v1003 v997
  let c1_i32_524 : BitVec 32 := 1#32
  let v1009 : BitVec 32 := Scalar.muli v1004 c1_i32_524
  let v1010 : BitVec 32 := Scalar.addi v1008 v1009
  v1010.toNat
def k0_dev15 (d0 : Dev nD) : Nat :=
  let c0_i32_559 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32 : BitVec 32 := 15#32
  let v1011 : BitVec 32 := Scalar.addi v12 c15_i32
  let c16_i32_525 : BitVec 32 := 16#32
  let c0_i32_526 : BitVec 32 := 0#32
  let v1012 : BitVec 1 := Scalar.cmpi .eq c16_i32_525 c0_i32_526
  let c1_i32_527 : BitVec 32 := 1#32
  let v1013 : BitVec 32 := Scalar.select v1012 c1_i32_527 c16_i32_525
  let v1014 : BitVec 32 := Scalar.remsi v1011 v1013
  let c0_i32_529 : BitVec 32 := 0#32
  let v1016 : BitVec 1 := Scalar.cmpi .slt v1014 c0_i32_529
  let c0_i32_530 : BitVec 32 := 0#32
  let v1017 : BitVec 1 := Scalar.cmpi .slt v1013 c0_i32_530
  let v1018 : BitVec 1 := Scalar.xori v1016 v1017
  let c0_i32_528 : BitVec 32 := 0#32
  let v1015 : BitVec 1 := Scalar.cmpi .ne v1014 c0_i32_528
  let v1019 : BitVec 1 := Scalar.andi v1018 v1015
  let v1020 : BitVec 32 := Scalar.addi v1014 v1013
  let v1021 : BitVec 32 := Scalar.select v1019 v1020 v1014
  let c0_i32_532 : BitVec 32 := 0#32
  let v1023 : BitVec 1 := Scalar.cmpi .sgt v1021 c0_i32_532
  let v1024 : BitVec 32 := Scalar.extui v1023
  let c0_i32_533 : BitVec 32 := 0#32
  let v1025 : BitVec 1 := Scalar.cmpi .slt v1021 c0_i32_533
  let v1026 : BitVec 32 := Scalar.extui v1025
  let v1027 : BitVec 32 := Scalar.subi v1024 v1026
  let c8_i32_531 : BitVec 32 := 8#32
  let c0_i32_534 : BitVec 32 := 0#32
  let v1028 : BitVec 1 := Scalar.cmpi .sgt c8_i32_531 c0_i32_534
  let v1029 : BitVec 32 := Scalar.extui v1028
  let c0_i32_535 : BitVec 32 := 0#32
  let v1030 : BitVec 1 := Scalar.cmpi .slt c8_i32_531 c0_i32_535
  let v1031 : BitVec 32 := Scalar.extui v1030
  let v1032 : BitVec 32 := Scalar.subi v1029 v1031
  let v1033 : BitVec 1 := Scalar.cmpi .ne v1027 v1032
  let v1034 : BitVec 32 := Scalar.remsi v1021 c8_i32_531
  let c0_i32_536 : BitVec 32 := 0#32
  let v1035 : BitVec 1 := Scalar.cmpi .ne v1034 c0_i32_536
  let v1036 : BitVec 1 := Scalar.andi v1033 v1035
  let v1022 : BitVec 32 := Scalar.divsi v1021 c8_i32_531
  let c1_i32_537 : BitVec 32 := 1#32
  let v1037 : BitVec 32 := Scalar.subi v1022 c1_i32_537
  let v1038 : BitVec 32 := Scalar.select v1036 v1037 v1022
  let c8_i32_558 : BitVec 32 := 8#32
  let v1076 : BitVec 32 := Scalar.muli v1038 c8_i32_558
  let v1077 : BitVec 32 := Scalar.addi c0_i32_559 v1076
  let c8_i32_538 : BitVec 32 := 8#32
  let c0_i32_539 : BitVec 32 := 0#32
  let v1039 : BitVec 1 := Scalar.cmpi .eq c8_i32_538 c0_i32_539
  let c1_i32_540 : BitVec 32 := 1#32
  let v1040 : BitVec 32 := Scalar.select v1039 c1_i32_540 c8_i32_538
  let v1041 : BitVec 32 := Scalar.remsi v1021 v1040
  let c0_i32_542 : BitVec 32 := 0#32
  let v1043 : BitVec 1 := Scalar.cmpi .slt v1041 c0_i32_542
  let c0_i32_543 : BitVec 32 := 0#32
  let v1044 : BitVec 1 := Scalar.cmpi .slt v1040 c0_i32_543
  let v1045 : BitVec 1 := Scalar.xori v1043 v1044
  let c0_i32_541 : BitVec 32 := 0#32
  let v1042 : BitVec 1 := Scalar.cmpi .ne v1041 c0_i32_541
  let v1046 : BitVec 1 := Scalar.andi v1045 v1042
  let v1047 : BitVec 32 := Scalar.addi v1041 v1040
  let v1048 : BitVec 32 := Scalar.select v1046 v1047 v1041
  let c0_i32_545 : BitVec 32 := 0#32
  let v1050 : BitVec 1 := Scalar.cmpi .sgt v1048 c0_i32_545
  let v1051 : BitVec 32 := Scalar.extui v1050
  let c0_i32_546 : BitVec 32 := 0#32
  let v1052 : BitVec 1 := Scalar.cmpi .slt v1048 c0_i32_546
  let v1053 : BitVec 32 := Scalar.extui v1052
  let v1054 : BitVec 32 := Scalar.subi v1051 v1053
  let c4_i32_544 : BitVec 32 := 4#32
  let c0_i32_547 : BitVec 32 := 0#32
  let v1055 : BitVec 1 := Scalar.cmpi .sgt c4_i32_544 c0_i32_547
  let v1056 : BitVec 32 := Scalar.extui v1055
  let c0_i32_548 : BitVec 32 := 0#32
  let v1057 : BitVec 1 := Scalar.cmpi .slt c4_i32_544 c0_i32_548
  let v1058 : BitVec 32 := Scalar.extui v1057
  let v1059 : BitVec 32 := Scalar.subi v1056 v1058
  let v1060 : BitVec 1 := Scalar.cmpi .ne v1054 v1059
  let v1061 : BitVec 32 := Scalar.remsi v1048 c4_i32_544
  let c0_i32_549 : BitVec 32 := 0#32
  let v1062 : BitVec 1 := Scalar.cmpi .ne v1061 c0_i32_549
  let v1063 : BitVec 1 := Scalar.andi v1060 v1062
  let v1049 : BitVec 32 := Scalar.divsi v1048 c4_i32_544
  let c1_i32_550 : BitVec 32 := 1#32
  let v1064 : BitVec 32 := Scalar.subi v1049 c1_i32_550
  let v1065 : BitVec 32 := Scalar.select v1063 v1064 v1049
  let c4_i32_560 : BitVec 32 := 4#32
  let v1078 : BitVec 32 := Scalar.muli v1065 c4_i32_560
  let v1079 : BitVec 32 := Scalar.addi v1077 v1078
  let c4_i32_551 : BitVec 32 := 4#32
  let c0_i32_552 : BitVec 32 := 0#32
  let v1066 : BitVec 1 := Scalar.cmpi .eq c4_i32_551 c0_i32_552
  let c1_i32_553 : BitVec 32 := 1#32
  let v1067 : BitVec 32 := Scalar.select v1066 c1_i32_553 c4_i32_551
  let v1068 : BitVec 32 := Scalar.remsi v1021 v1067
  let c0_i32_555 : BitVec 32 := 0#32
  let v1070 : BitVec 1 := Scalar.cmpi .slt v1068 c0_i32_555
  let c0_i32_556 : BitVec 32 := 0#32
  let v1071 : BitVec 1 := Scalar.cmpi .slt v1067 c0_i32_556
  let v1072 : BitVec 1 := Scalar.xori v1070 v1071
  let c0_i32_554 : BitVec 32 := 0#32
  let v1069 : BitVec 1 := Scalar.cmpi .ne v1068 c0_i32_554
  let v1073 : BitVec 1 := Scalar.andi v1072 v1069
  let v1074 : BitVec 32 := Scalar.addi v1068 v1067
  let v1075 : BitVec 32 := Scalar.select v1073 v1074 v1068
  let c1_i32_561 : BitVec 32 := 1#32
  let v1080 : BitVec 32 := Scalar.muli v1075 c1_i32_561
  let v1081 : BitVec 32 := Scalar.addi v1079 v1080
  v1081.toNat
def k0_off1 (d0 : Dev nD) (c0_i32_562 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_4 : BitVec 32 := 4#32
  let v13 : BitVec 32 := Scalar.muli v2 c4_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.addi v13 v8
  let c256_i32 : BitVec 32 := 256#32
  let v15 : BitVec 32 := Scalar.muli v14 c256_i32
  let v1082 : BitVec 32 := Scalar.addi v15 c0_i32_562
  let c0_i32_566 : BitVec 32 := 0#32
  ![v1082.toNat, 0]
def k0_off2 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let v1164 : Index := Scalar.indexCast v12
  let c0_616 : Index := 0#32
  let c0_617 : Index := 0#32
  ![v1164.toNat, 0, 0]
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let v1168 : Index := Scalar.indexCast v12
  let c1 : Index := 1#32
  let c0_618 : Index := 0#32
  ![v1168.toNat, 1, 0]
def k0_off4 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_659 : BitVec 32 := 0#32
  let c0_i32_660 : BitVec 32 := 0#32
  ![v12.toNat, 0, 0]
def k0_dev16 (d0 : Dev nD) : Nat :=
  let c0_i32_656 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_620 : BitVec 32 := 1#32
  let v1172 : BitVec 32 := Scalar.addi v12 c1_i32_620
  let c16_i32_621 : BitVec 32 := 16#32
  let c0_i32_622 : BitVec 32 := 0#32
  let v1173 : BitVec 1 := Scalar.cmpi .eq c16_i32_621 c0_i32_622
  let c1_i32_623 : BitVec 32 := 1#32
  let v1174 : BitVec 32 := Scalar.select v1173 c1_i32_623 c16_i32_621
  let v1175 : BitVec 32 := Scalar.remsi v1172 v1174
  let c0_i32_625 : BitVec 32 := 0#32
  let v1177 : BitVec 1 := Scalar.cmpi .slt v1175 c0_i32_625
  let c0_i32_626 : BitVec 32 := 0#32
  let v1178 : BitVec 1 := Scalar.cmpi .slt v1174 c0_i32_626
  let v1179 : BitVec 1 := Scalar.xori v1177 v1178
  let c0_i32_624 : BitVec 32 := 0#32
  let v1176 : BitVec 1 := Scalar.cmpi .ne v1175 c0_i32_624
  let v1180 : BitVec 1 := Scalar.andi v1179 v1176
  let v1181 : BitVec 32 := Scalar.addi v1175 v1174
  let v1182 : BitVec 32 := Scalar.select v1180 v1181 v1175
  let c0_i32_628 : BitVec 32 := 0#32
  let v1184 : BitVec 1 := Scalar.cmpi .sgt v1182 c0_i32_628
  let v1185 : BitVec 32 := Scalar.extui v1184
  let c0_i32_629 : BitVec 32 := 0#32
  let v1186 : BitVec 1 := Scalar.cmpi .slt v1182 c0_i32_629
  let v1187 : BitVec 32 := Scalar.extui v1186
  let v1188 : BitVec 32 := Scalar.subi v1185 v1187
  let c8_i32_627 : BitVec 32 := 8#32
  let c0_i32_630 : BitVec 32 := 0#32
  let v1189 : BitVec 1 := Scalar.cmpi .sgt c8_i32_627 c0_i32_630
  let v1190 : BitVec 32 := Scalar.extui v1189
  let c0_i32_631 : BitVec 32 := 0#32
  let v1191 : BitVec 1 := Scalar.cmpi .slt c8_i32_627 c0_i32_631
  let v1192 : BitVec 32 := Scalar.extui v1191
  let v1193 : BitVec 32 := Scalar.subi v1190 v1192
  let v1194 : BitVec 1 := Scalar.cmpi .ne v1188 v1193
  let v1195 : BitVec 32 := Scalar.remsi v1182 c8_i32_627
  let c0_i32_632 : BitVec 32 := 0#32
  let v1196 : BitVec 1 := Scalar.cmpi .ne v1195 c0_i32_632
  let v1197 : BitVec 1 := Scalar.andi v1194 v1196
  let v1183 : BitVec 32 := Scalar.divsi v1182 c8_i32_627
  let c1_i32_633 : BitVec 32 := 1#32
  let v1198 : BitVec 32 := Scalar.subi v1183 c1_i32_633
  let v1199 : BitVec 32 := Scalar.select v1197 v1198 v1183
  let c8_i32_655 : BitVec 32 := 8#32
  let v1237 : BitVec 32 := Scalar.muli v1199 c8_i32_655
  let v1238 : BitVec 32 := Scalar.addi c0_i32_656 v1237
  let c8_i32_634 : BitVec 32 := 8#32
  let c0_i32_635 : BitVec 32 := 0#32
  let v1200 : BitVec 1 := Scalar.cmpi .eq c8_i32_634 c0_i32_635
  let c1_i32_636 : BitVec 32 := 1#32
  let v1201 : BitVec 32 := Scalar.select v1200 c1_i32_636 c8_i32_634
  let v1202 : BitVec 32 := Scalar.remsi v1182 v1201
  let c0_i32_638 : BitVec 32 := 0#32
  let v1204 : BitVec 1 := Scalar.cmpi .slt v1202 c0_i32_638
  let c0_i32_639 : BitVec 32 := 0#32
  let v1205 : BitVec 1 := Scalar.cmpi .slt v1201 c0_i32_639
  let v1206 : BitVec 1 := Scalar.xori v1204 v1205
  let c0_i32_637 : BitVec 32 := 0#32
  let v1203 : BitVec 1 := Scalar.cmpi .ne v1202 c0_i32_637
  let v1207 : BitVec 1 := Scalar.andi v1206 v1203
  let v1208 : BitVec 32 := Scalar.addi v1202 v1201
  let v1209 : BitVec 32 := Scalar.select v1207 v1208 v1202
  let c0_i32_641 : BitVec 32 := 0#32
  let v1211 : BitVec 1 := Scalar.cmpi .sgt v1209 c0_i32_641
  let v1212 : BitVec 32 := Scalar.extui v1211
  let c0_i32_642 : BitVec 32 := 0#32
  let v1213 : BitVec 1 := Scalar.cmpi .slt v1209 c0_i32_642
  let v1214 : BitVec 32 := Scalar.extui v1213
  let v1215 : BitVec 32 := Scalar.subi v1212 v1214
  let c4_i32_640 : BitVec 32 := 4#32
  let c0_i32_643 : BitVec 32 := 0#32
  let v1216 : BitVec 1 := Scalar.cmpi .sgt c4_i32_640 c0_i32_643
  let v1217 : BitVec 32 := Scalar.extui v1216
  let c0_i32_644 : BitVec 32 := 0#32
  let v1218 : BitVec 1 := Scalar.cmpi .slt c4_i32_640 c0_i32_644
  let v1219 : BitVec 32 := Scalar.extui v1218
  let v1220 : BitVec 32 := Scalar.subi v1217 v1219
  let v1221 : BitVec 1 := Scalar.cmpi .ne v1215 v1220
  let v1222 : BitVec 32 := Scalar.remsi v1209 c4_i32_640
  let c0_i32_645 : BitVec 32 := 0#32
  let v1223 : BitVec 1 := Scalar.cmpi .ne v1222 c0_i32_645
  let v1224 : BitVec 1 := Scalar.andi v1221 v1223
  let v1210 : BitVec 32 := Scalar.divsi v1209 c4_i32_640
  let c1_i32_646 : BitVec 32 := 1#32
  let v1225 : BitVec 32 := Scalar.subi v1210 c1_i32_646
  let v1226 : BitVec 32 := Scalar.select v1224 v1225 v1210
  let c4_i32_657 : BitVec 32 := 4#32
  let v1239 : BitVec 32 := Scalar.muli v1226 c4_i32_657
  let v1240 : BitVec 32 := Scalar.addi v1238 v1239
  let c4_i32_647 : BitVec 32 := 4#32
  let c0_i32_648 : BitVec 32 := 0#32
  let v1227 : BitVec 1 := Scalar.cmpi .eq c4_i32_647 c0_i32_648
  let c1_i32_649 : BitVec 32 := 1#32
  let v1228 : BitVec 32 := Scalar.select v1227 c1_i32_649 c4_i32_647
  let v1229 : BitVec 32 := Scalar.remsi v1182 v1228
  let c0_i32_651 : BitVec 32 := 0#32
  let v1231 : BitVec 1 := Scalar.cmpi .slt v1229 c0_i32_651
  let c0_i32_652 : BitVec 32 := 0#32
  let v1232 : BitVec 1 := Scalar.cmpi .slt v1228 c0_i32_652
  let v1233 : BitVec 1 := Scalar.xori v1231 v1232
  let c0_i32_650 : BitVec 32 := 0#32
  let v1230 : BitVec 1 := Scalar.cmpi .ne v1229 c0_i32_650
  let v1234 : BitVec 1 := Scalar.andi v1233 v1230
  let v1235 : BitVec 32 := Scalar.addi v1229 v1228
  let v1236 : BitVec 32 := Scalar.select v1234 v1235 v1229
  let c1_i32_658 : BitVec 32 := 1#32
  let v1241 : BitVec 32 := Scalar.muli v1236 c1_i32_658
  let v1242 : BitVec 32 := Scalar.addi v1240 v1241
  v1242.toNat
def k0_dev17 (d0 : Dev nD) : Nat :=
  let c0_i32_699 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_663 : BitVec 32 := 2#32
  let v1251 : BitVec 32 := Scalar.addi v12 c2_i32_663
  let c16_i32_664 : BitVec 32 := 16#32
  let c0_i32_665 : BitVec 32 := 0#32
  let v1252 : BitVec 1 := Scalar.cmpi .eq c16_i32_664 c0_i32_665
  let c1_i32_666 : BitVec 32 := 1#32
  let v1253 : BitVec 32 := Scalar.select v1252 c1_i32_666 c16_i32_664
  let v1254 : BitVec 32 := Scalar.remsi v1251 v1253
  let c0_i32_668 : BitVec 32 := 0#32
  let v1256 : BitVec 1 := Scalar.cmpi .slt v1254 c0_i32_668
  let c0_i32_669 : BitVec 32 := 0#32
  let v1257 : BitVec 1 := Scalar.cmpi .slt v1253 c0_i32_669
  let v1258 : BitVec 1 := Scalar.xori v1256 v1257
  let c0_i32_667 : BitVec 32 := 0#32
  let v1255 : BitVec 1 := Scalar.cmpi .ne v1254 c0_i32_667
  let v1259 : BitVec 1 := Scalar.andi v1258 v1255
  let v1260 : BitVec 32 := Scalar.addi v1254 v1253
  let v1261 : BitVec 32 := Scalar.select v1259 v1260 v1254
  let c0_i32_671 : BitVec 32 := 0#32
  let v1263 : BitVec 1 := Scalar.cmpi .sgt v1261 c0_i32_671
  let v1264 : BitVec 32 := Scalar.extui v1263
  let c0_i32_672 : BitVec 32 := 0#32
  let v1265 : BitVec 1 := Scalar.cmpi .slt v1261 c0_i32_672
  let v1266 : BitVec 32 := Scalar.extui v1265
  let v1267 : BitVec 32 := Scalar.subi v1264 v1266
  let c8_i32_670 : BitVec 32 := 8#32
  let c0_i32_673 : BitVec 32 := 0#32
  let v1268 : BitVec 1 := Scalar.cmpi .sgt c8_i32_670 c0_i32_673
  let v1269 : BitVec 32 := Scalar.extui v1268
  let c0_i32_674 : BitVec 32 := 0#32
  let v1270 : BitVec 1 := Scalar.cmpi .slt c8_i32_670 c0_i32_674
  let v1271 : BitVec 32 := Scalar.extui v1270
  let v1272 : BitVec 32 := Scalar.subi v1269 v1271
  let v1273 : BitVec 1 := Scalar.cmpi .ne v1267 v1272
  let v1274 : BitVec 32 := Scalar.remsi v1261 c8_i32_670
  let c0_i32_675 : BitVec 32 := 0#32
  let v1275 : BitVec 1 := Scalar.cmpi .ne v1274 c0_i32_675
  let v1276 : BitVec 1 := Scalar.andi v1273 v1275
  let v1262 : BitVec 32 := Scalar.divsi v1261 c8_i32_670
  let c1_i32_676 : BitVec 32 := 1#32
  let v1277 : BitVec 32 := Scalar.subi v1262 c1_i32_676
  let v1278 : BitVec 32 := Scalar.select v1276 v1277 v1262
  let c8_i32_698 : BitVec 32 := 8#32
  let v1316 : BitVec 32 := Scalar.muli v1278 c8_i32_698
  let v1317 : BitVec 32 := Scalar.addi c0_i32_699 v1316
  let c8_i32_677 : BitVec 32 := 8#32
  let c0_i32_678 : BitVec 32 := 0#32
  let v1279 : BitVec 1 := Scalar.cmpi .eq c8_i32_677 c0_i32_678
  let c1_i32_679 : BitVec 32 := 1#32
  let v1280 : BitVec 32 := Scalar.select v1279 c1_i32_679 c8_i32_677
  let v1281 : BitVec 32 := Scalar.remsi v1261 v1280
  let c0_i32_681 : BitVec 32 := 0#32
  let v1283 : BitVec 1 := Scalar.cmpi .slt v1281 c0_i32_681
  let c0_i32_682 : BitVec 32 := 0#32
  let v1284 : BitVec 1 := Scalar.cmpi .slt v1280 c0_i32_682
  let v1285 : BitVec 1 := Scalar.xori v1283 v1284
  let c0_i32_680 : BitVec 32 := 0#32
  let v1282 : BitVec 1 := Scalar.cmpi .ne v1281 c0_i32_680
  let v1286 : BitVec 1 := Scalar.andi v1285 v1282
  let v1287 : BitVec 32 := Scalar.addi v1281 v1280
  let v1288 : BitVec 32 := Scalar.select v1286 v1287 v1281
  let c0_i32_684 : BitVec 32 := 0#32
  let v1290 : BitVec 1 := Scalar.cmpi .sgt v1288 c0_i32_684
  let v1291 : BitVec 32 := Scalar.extui v1290
  let c0_i32_685 : BitVec 32 := 0#32
  let v1292 : BitVec 1 := Scalar.cmpi .slt v1288 c0_i32_685
  let v1293 : BitVec 32 := Scalar.extui v1292
  let v1294 : BitVec 32 := Scalar.subi v1291 v1293
  let c4_i32_683 : BitVec 32 := 4#32
  let c0_i32_686 : BitVec 32 := 0#32
  let v1295 : BitVec 1 := Scalar.cmpi .sgt c4_i32_683 c0_i32_686
  let v1296 : BitVec 32 := Scalar.extui v1295
  let c0_i32_687 : BitVec 32 := 0#32
  let v1297 : BitVec 1 := Scalar.cmpi .slt c4_i32_683 c0_i32_687
  let v1298 : BitVec 32 := Scalar.extui v1297
  let v1299 : BitVec 32 := Scalar.subi v1296 v1298
  let v1300 : BitVec 1 := Scalar.cmpi .ne v1294 v1299
  let v1301 : BitVec 32 := Scalar.remsi v1288 c4_i32_683
  let c0_i32_688 : BitVec 32 := 0#32
  let v1302 : BitVec 1 := Scalar.cmpi .ne v1301 c0_i32_688
  let v1303 : BitVec 1 := Scalar.andi v1300 v1302
  let v1289 : BitVec 32 := Scalar.divsi v1288 c4_i32_683
  let c1_i32_689 : BitVec 32 := 1#32
  let v1304 : BitVec 32 := Scalar.subi v1289 c1_i32_689
  let v1305 : BitVec 32 := Scalar.select v1303 v1304 v1289
  let c4_i32_700 : BitVec 32 := 4#32
  let v1318 : BitVec 32 := Scalar.muli v1305 c4_i32_700
  let v1319 : BitVec 32 := Scalar.addi v1317 v1318
  let c4_i32_690 : BitVec 32 := 4#32
  let c0_i32_691 : BitVec 32 := 0#32
  let v1306 : BitVec 1 := Scalar.cmpi .eq c4_i32_690 c0_i32_691
  let c1_i32_692 : BitVec 32 := 1#32
  let v1307 : BitVec 32 := Scalar.select v1306 c1_i32_692 c4_i32_690
  let v1308 : BitVec 32 := Scalar.remsi v1261 v1307
  let c0_i32_694 : BitVec 32 := 0#32
  let v1310 : BitVec 1 := Scalar.cmpi .slt v1308 c0_i32_694
  let c0_i32_695 : BitVec 32 := 0#32
  let v1311 : BitVec 1 := Scalar.cmpi .slt v1307 c0_i32_695
  let v1312 : BitVec 1 := Scalar.xori v1310 v1311
  let c0_i32_693 : BitVec 32 := 0#32
  let v1309 : BitVec 1 := Scalar.cmpi .ne v1308 c0_i32_693
  let v1313 : BitVec 1 := Scalar.andi v1312 v1309
  let v1314 : BitVec 32 := Scalar.addi v1308 v1307
  let v1315 : BitVec 32 := Scalar.select v1313 v1314 v1308
  let c1_i32_701 : BitVec 32 := 1#32
  let v1320 : BitVec 32 := Scalar.muli v1315 c1_i32_701
  let v1321 : BitVec 32 := Scalar.addi v1319 v1320
  v1321.toNat
def k0_dev18 (d0 : Dev nD) : Nat :=
  let c0_i32_742 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_706 : BitVec 32 := 3#32
  let v1330 : BitVec 32 := Scalar.addi v12 c3_i32_706
  let c16_i32_707 : BitVec 32 := 16#32
  let c0_i32_708 : BitVec 32 := 0#32
  let v1331 : BitVec 1 := Scalar.cmpi .eq c16_i32_707 c0_i32_708
  let c1_i32_709 : BitVec 32 := 1#32
  let v1332 : BitVec 32 := Scalar.select v1331 c1_i32_709 c16_i32_707
  let v1333 : BitVec 32 := Scalar.remsi v1330 v1332
  let c0_i32_711 : BitVec 32 := 0#32
  let v1335 : BitVec 1 := Scalar.cmpi .slt v1333 c0_i32_711
  let c0_i32_712 : BitVec 32 := 0#32
  let v1336 : BitVec 1 := Scalar.cmpi .slt v1332 c0_i32_712
  let v1337 : BitVec 1 := Scalar.xori v1335 v1336
  let c0_i32_710 : BitVec 32 := 0#32
  let v1334 : BitVec 1 := Scalar.cmpi .ne v1333 c0_i32_710
  let v1338 : BitVec 1 := Scalar.andi v1337 v1334
  let v1339 : BitVec 32 := Scalar.addi v1333 v1332
  let v1340 : BitVec 32 := Scalar.select v1338 v1339 v1333
  let c0_i32_714 : BitVec 32 := 0#32
  let v1342 : BitVec 1 := Scalar.cmpi .sgt v1340 c0_i32_714
  let v1343 : BitVec 32 := Scalar.extui v1342
  let c0_i32_715 : BitVec 32 := 0#32
  let v1344 : BitVec 1 := Scalar.cmpi .slt v1340 c0_i32_715
  let v1345 : BitVec 32 := Scalar.extui v1344
  let v1346 : BitVec 32 := Scalar.subi v1343 v1345
  let c8_i32_713 : BitVec 32 := 8#32
  let c0_i32_716 : BitVec 32 := 0#32
  let v1347 : BitVec 1 := Scalar.cmpi .sgt c8_i32_713 c0_i32_716
  let v1348 : BitVec 32 := Scalar.extui v1347
  let c0_i32_717 : BitVec 32 := 0#32
  let v1349 : BitVec 1 := Scalar.cmpi .slt c8_i32_713 c0_i32_717
  let v1350 : BitVec 32 := Scalar.extui v1349
  let v1351 : BitVec 32 := Scalar.subi v1348 v1350
  let v1352 : BitVec 1 := Scalar.cmpi .ne v1346 v1351
  let v1353 : BitVec 32 := Scalar.remsi v1340 c8_i32_713
  let c0_i32_718 : BitVec 32 := 0#32
  let v1354 : BitVec 1 := Scalar.cmpi .ne v1353 c0_i32_718
  let v1355 : BitVec 1 := Scalar.andi v1352 v1354
  let v1341 : BitVec 32 := Scalar.divsi v1340 c8_i32_713
  let c1_i32_719 : BitVec 32 := 1#32
  let v1356 : BitVec 32 := Scalar.subi v1341 c1_i32_719
  let v1357 : BitVec 32 := Scalar.select v1355 v1356 v1341
  let c8_i32_741 : BitVec 32 := 8#32
  let v1395 : BitVec 32 := Scalar.muli v1357 c8_i32_741
  let v1396 : BitVec 32 := Scalar.addi c0_i32_742 v1395
  let c8_i32_720 : BitVec 32 := 8#32
  let c0_i32_721 : BitVec 32 := 0#32
  let v1358 : BitVec 1 := Scalar.cmpi .eq c8_i32_720 c0_i32_721
  let c1_i32_722 : BitVec 32 := 1#32
  let v1359 : BitVec 32 := Scalar.select v1358 c1_i32_722 c8_i32_720
  let v1360 : BitVec 32 := Scalar.remsi v1340 v1359
  let c0_i32_724 : BitVec 32 := 0#32
  let v1362 : BitVec 1 := Scalar.cmpi .slt v1360 c0_i32_724
  let c0_i32_725 : BitVec 32 := 0#32
  let v1363 : BitVec 1 := Scalar.cmpi .slt v1359 c0_i32_725
  let v1364 : BitVec 1 := Scalar.xori v1362 v1363
  let c0_i32_723 : BitVec 32 := 0#32
  let v1361 : BitVec 1 := Scalar.cmpi .ne v1360 c0_i32_723
  let v1365 : BitVec 1 := Scalar.andi v1364 v1361
  let v1366 : BitVec 32 := Scalar.addi v1360 v1359
  let v1367 : BitVec 32 := Scalar.select v1365 v1366 v1360
  let c0_i32_727 : BitVec 32 := 0#32
  let v1369 : BitVec 1 := Scalar.cmpi .sgt v1367 c0_i32_727
  let v1370 : BitVec 32 := Scalar.extui v1369
  let c0_i32_728 : BitVec 32 := 0#32
  let v1371 : BitVec 1 := Scalar.cmpi .slt v1367 c0_i32_728
  let v1372 : BitVec 32 := Scalar.extui v1371
  let v1373 : BitVec 32 := Scalar.subi v1370 v1372
  let c4_i32_726 : BitVec 32 := 4#32
  let c0_i32_729 : BitVec 32 := 0#32
  let v1374 : BitVec 1 := Scalar.cmpi .sgt c4_i32_726 c0_i32_729
  let v1375 : BitVec 32 := Scalar.extui v1374
  let c0_i32_730 : BitVec 32 := 0#32
  let v1376 : BitVec 1 := Scalar.cmpi .slt c4_i32_726 c0_i32_730
  let v1377 : BitVec 32 := Scalar.extui v1376
  let v1378 : BitVec 32 := Scalar.subi v1375 v1377
  let v1379 : BitVec 1 := Scalar.cmpi .ne v1373 v1378
  let v1380 : BitVec 32 := Scalar.remsi v1367 c4_i32_726
  let c0_i32_731 : BitVec 32 := 0#32
  let v1381 : BitVec 1 := Scalar.cmpi .ne v1380 c0_i32_731
  let v1382 : BitVec 1 := Scalar.andi v1379 v1381
  let v1368 : BitVec 32 := Scalar.divsi v1367 c4_i32_726
  let c1_i32_732 : BitVec 32 := 1#32
  let v1383 : BitVec 32 := Scalar.subi v1368 c1_i32_732
  let v1384 : BitVec 32 := Scalar.select v1382 v1383 v1368
  let c4_i32_743 : BitVec 32 := 4#32
  let v1397 : BitVec 32 := Scalar.muli v1384 c4_i32_743
  let v1398 : BitVec 32 := Scalar.addi v1396 v1397
  let c4_i32_733 : BitVec 32 := 4#32
  let c0_i32_734 : BitVec 32 := 0#32
  let v1385 : BitVec 1 := Scalar.cmpi .eq c4_i32_733 c0_i32_734
  let c1_i32_735 : BitVec 32 := 1#32
  let v1386 : BitVec 32 := Scalar.select v1385 c1_i32_735 c4_i32_733
  let v1387 : BitVec 32 := Scalar.remsi v1340 v1386
  let c0_i32_737 : BitVec 32 := 0#32
  let v1389 : BitVec 1 := Scalar.cmpi .slt v1387 c0_i32_737
  let c0_i32_738 : BitVec 32 := 0#32
  let v1390 : BitVec 1 := Scalar.cmpi .slt v1386 c0_i32_738
  let v1391 : BitVec 1 := Scalar.xori v1389 v1390
  let c0_i32_736 : BitVec 32 := 0#32
  let v1388 : BitVec 1 := Scalar.cmpi .ne v1387 c0_i32_736
  let v1392 : BitVec 1 := Scalar.andi v1391 v1388
  let v1393 : BitVec 32 := Scalar.addi v1387 v1386
  let v1394 : BitVec 32 := Scalar.select v1392 v1393 v1387
  let c1_i32_744 : BitVec 32 := 1#32
  let v1399 : BitVec 32 := Scalar.muli v1394 c1_i32_744
  let v1400 : BitVec 32 := Scalar.addi v1398 v1399
  v1400.toNat
def k0_dev19 (d0 : Dev nD) : Nat :=
  let c0_i32_785 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_749 : BitVec 32 := 4#32
  let v1409 : BitVec 32 := Scalar.addi v12 c4_i32_749
  let c16_i32_750 : BitVec 32 := 16#32
  let c0_i32_751 : BitVec 32 := 0#32
  let v1410 : BitVec 1 := Scalar.cmpi .eq c16_i32_750 c0_i32_751
  let c1_i32_752 : BitVec 32 := 1#32
  let v1411 : BitVec 32 := Scalar.select v1410 c1_i32_752 c16_i32_750
  let v1412 : BitVec 32 := Scalar.remsi v1409 v1411
  let c0_i32_754 : BitVec 32 := 0#32
  let v1414 : BitVec 1 := Scalar.cmpi .slt v1412 c0_i32_754
  let c0_i32_755 : BitVec 32 := 0#32
  let v1415 : BitVec 1 := Scalar.cmpi .slt v1411 c0_i32_755
  let v1416 : BitVec 1 := Scalar.xori v1414 v1415
  let c0_i32_753 : BitVec 32 := 0#32
  let v1413 : BitVec 1 := Scalar.cmpi .ne v1412 c0_i32_753
  let v1417 : BitVec 1 := Scalar.andi v1416 v1413
  let v1418 : BitVec 32 := Scalar.addi v1412 v1411
  let v1419 : BitVec 32 := Scalar.select v1417 v1418 v1412
  let c0_i32_757 : BitVec 32 := 0#32
  let v1421 : BitVec 1 := Scalar.cmpi .sgt v1419 c0_i32_757
  let v1422 : BitVec 32 := Scalar.extui v1421
  let c0_i32_758 : BitVec 32 := 0#32
  let v1423 : BitVec 1 := Scalar.cmpi .slt v1419 c0_i32_758
  let v1424 : BitVec 32 := Scalar.extui v1423
  let v1425 : BitVec 32 := Scalar.subi v1422 v1424
  let c8_i32_756 : BitVec 32 := 8#32
  let c0_i32_759 : BitVec 32 := 0#32
  let v1426 : BitVec 1 := Scalar.cmpi .sgt c8_i32_756 c0_i32_759
  let v1427 : BitVec 32 := Scalar.extui v1426
  let c0_i32_760 : BitVec 32 := 0#32
  let v1428 : BitVec 1 := Scalar.cmpi .slt c8_i32_756 c0_i32_760
  let v1429 : BitVec 32 := Scalar.extui v1428
  let v1430 : BitVec 32 := Scalar.subi v1427 v1429
  let v1431 : BitVec 1 := Scalar.cmpi .ne v1425 v1430
  let v1432 : BitVec 32 := Scalar.remsi v1419 c8_i32_756
  let c0_i32_761 : BitVec 32 := 0#32
  let v1433 : BitVec 1 := Scalar.cmpi .ne v1432 c0_i32_761
  let v1434 : BitVec 1 := Scalar.andi v1431 v1433
  let v1420 : BitVec 32 := Scalar.divsi v1419 c8_i32_756
  let c1_i32_762 : BitVec 32 := 1#32
  let v1435 : BitVec 32 := Scalar.subi v1420 c1_i32_762
  let v1436 : BitVec 32 := Scalar.select v1434 v1435 v1420
  let c8_i32_784 : BitVec 32 := 8#32
  let v1474 : BitVec 32 := Scalar.muli v1436 c8_i32_784
  let v1475 : BitVec 32 := Scalar.addi c0_i32_785 v1474
  let c8_i32_763 : BitVec 32 := 8#32
  let c0_i32_764 : BitVec 32 := 0#32
  let v1437 : BitVec 1 := Scalar.cmpi .eq c8_i32_763 c0_i32_764
  let c1_i32_765 : BitVec 32 := 1#32
  let v1438 : BitVec 32 := Scalar.select v1437 c1_i32_765 c8_i32_763
  let v1439 : BitVec 32 := Scalar.remsi v1419 v1438
  let c0_i32_767 : BitVec 32 := 0#32
  let v1441 : BitVec 1 := Scalar.cmpi .slt v1439 c0_i32_767
  let c0_i32_768 : BitVec 32 := 0#32
  let v1442 : BitVec 1 := Scalar.cmpi .slt v1438 c0_i32_768
  let v1443 : BitVec 1 := Scalar.xori v1441 v1442
  let c0_i32_766 : BitVec 32 := 0#32
  let v1440 : BitVec 1 := Scalar.cmpi .ne v1439 c0_i32_766
  let v1444 : BitVec 1 := Scalar.andi v1443 v1440
  let v1445 : BitVec 32 := Scalar.addi v1439 v1438
  let v1446 : BitVec 32 := Scalar.select v1444 v1445 v1439
  let c0_i32_770 : BitVec 32 := 0#32
  let v1448 : BitVec 1 := Scalar.cmpi .sgt v1446 c0_i32_770
  let v1449 : BitVec 32 := Scalar.extui v1448
  let c0_i32_771 : BitVec 32 := 0#32
  let v1450 : BitVec 1 := Scalar.cmpi .slt v1446 c0_i32_771
  let v1451 : BitVec 32 := Scalar.extui v1450
  let v1452 : BitVec 32 := Scalar.subi v1449 v1451
  let c4_i32_769 : BitVec 32 := 4#32
  let c0_i32_772 : BitVec 32 := 0#32
  let v1453 : BitVec 1 := Scalar.cmpi .sgt c4_i32_769 c0_i32_772
  let v1454 : BitVec 32 := Scalar.extui v1453
  let c0_i32_773 : BitVec 32 := 0#32
  let v1455 : BitVec 1 := Scalar.cmpi .slt c4_i32_769 c0_i32_773
  let v1456 : BitVec 32 := Scalar.extui v1455
  let v1457 : BitVec 32 := Scalar.subi v1454 v1456
  let v1458 : BitVec 1 := Scalar.cmpi .ne v1452 v1457
  let v1459 : BitVec 32 := Scalar.remsi v1446 c4_i32_769
  let c0_i32_774 : BitVec 32 := 0#32
  let v1460 : BitVec 1 := Scalar.cmpi .ne v1459 c0_i32_774
  let v1461 : BitVec 1 := Scalar.andi v1458 v1460
  let v1447 : BitVec 32 := Scalar.divsi v1446 c4_i32_769
  let c1_i32_775 : BitVec 32 := 1#32
  let v1462 : BitVec 32 := Scalar.subi v1447 c1_i32_775
  let v1463 : BitVec 32 := Scalar.select v1461 v1462 v1447
  let c4_i32_786 : BitVec 32 := 4#32
  let v1476 : BitVec 32 := Scalar.muli v1463 c4_i32_786
  let v1477 : BitVec 32 := Scalar.addi v1475 v1476
  let c4_i32_776 : BitVec 32 := 4#32
  let c0_i32_777 : BitVec 32 := 0#32
  let v1464 : BitVec 1 := Scalar.cmpi .eq c4_i32_776 c0_i32_777
  let c1_i32_778 : BitVec 32 := 1#32
  let v1465 : BitVec 32 := Scalar.select v1464 c1_i32_778 c4_i32_776
  let v1466 : BitVec 32 := Scalar.remsi v1419 v1465
  let c0_i32_780 : BitVec 32 := 0#32
  let v1468 : BitVec 1 := Scalar.cmpi .slt v1466 c0_i32_780
  let c0_i32_781 : BitVec 32 := 0#32
  let v1469 : BitVec 1 := Scalar.cmpi .slt v1465 c0_i32_781
  let v1470 : BitVec 1 := Scalar.xori v1468 v1469
  let c0_i32_779 : BitVec 32 := 0#32
  let v1467 : BitVec 1 := Scalar.cmpi .ne v1466 c0_i32_779
  let v1471 : BitVec 1 := Scalar.andi v1470 v1467
  let v1472 : BitVec 32 := Scalar.addi v1466 v1465
  let v1473 : BitVec 32 := Scalar.select v1471 v1472 v1466
  let c1_i32_787 : BitVec 32 := 1#32
  let v1478 : BitVec 32 := Scalar.muli v1473 c1_i32_787
  let v1479 : BitVec 32 := Scalar.addi v1477 v1478
  v1479.toNat
def k0_dev20 (d0 : Dev nD) : Nat :=
  let c0_i32_828 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_792 : BitVec 32 := 5#32
  let v1488 : BitVec 32 := Scalar.addi v12 c5_i32_792
  let c16_i32_793 : BitVec 32 := 16#32
  let c0_i32_794 : BitVec 32 := 0#32
  let v1489 : BitVec 1 := Scalar.cmpi .eq c16_i32_793 c0_i32_794
  let c1_i32_795 : BitVec 32 := 1#32
  let v1490 : BitVec 32 := Scalar.select v1489 c1_i32_795 c16_i32_793
  let v1491 : BitVec 32 := Scalar.remsi v1488 v1490
  let c0_i32_797 : BitVec 32 := 0#32
  let v1493 : BitVec 1 := Scalar.cmpi .slt v1491 c0_i32_797
  let c0_i32_798 : BitVec 32 := 0#32
  let v1494 : BitVec 1 := Scalar.cmpi .slt v1490 c0_i32_798
  let v1495 : BitVec 1 := Scalar.xori v1493 v1494
  let c0_i32_796 : BitVec 32 := 0#32
  let v1492 : BitVec 1 := Scalar.cmpi .ne v1491 c0_i32_796
  let v1496 : BitVec 1 := Scalar.andi v1495 v1492
  let v1497 : BitVec 32 := Scalar.addi v1491 v1490
  let v1498 : BitVec 32 := Scalar.select v1496 v1497 v1491
  let c0_i32_800 : BitVec 32 := 0#32
  let v1500 : BitVec 1 := Scalar.cmpi .sgt v1498 c0_i32_800
  let v1501 : BitVec 32 := Scalar.extui v1500
  let c0_i32_801 : BitVec 32 := 0#32
  let v1502 : BitVec 1 := Scalar.cmpi .slt v1498 c0_i32_801
  let v1503 : BitVec 32 := Scalar.extui v1502
  let v1504 : BitVec 32 := Scalar.subi v1501 v1503
  let c8_i32_799 : BitVec 32 := 8#32
  let c0_i32_802 : BitVec 32 := 0#32
  let v1505 : BitVec 1 := Scalar.cmpi .sgt c8_i32_799 c0_i32_802
  let v1506 : BitVec 32 := Scalar.extui v1505
  let c0_i32_803 : BitVec 32 := 0#32
  let v1507 : BitVec 1 := Scalar.cmpi .slt c8_i32_799 c0_i32_803
  let v1508 : BitVec 32 := Scalar.extui v1507
  let v1509 : BitVec 32 := Scalar.subi v1506 v1508
  let v1510 : BitVec 1 := Scalar.cmpi .ne v1504 v1509
  let v1511 : BitVec 32 := Scalar.remsi v1498 c8_i32_799
  let c0_i32_804 : BitVec 32 := 0#32
  let v1512 : BitVec 1 := Scalar.cmpi .ne v1511 c0_i32_804
  let v1513 : BitVec 1 := Scalar.andi v1510 v1512
  let v1499 : BitVec 32 := Scalar.divsi v1498 c8_i32_799
  let c1_i32_805 : BitVec 32 := 1#32
  let v1514 : BitVec 32 := Scalar.subi v1499 c1_i32_805
  let v1515 : BitVec 32 := Scalar.select v1513 v1514 v1499
  let c8_i32_827 : BitVec 32 := 8#32
  let v1553 : BitVec 32 := Scalar.muli v1515 c8_i32_827
  let v1554 : BitVec 32 := Scalar.addi c0_i32_828 v1553
  let c8_i32_806 : BitVec 32 := 8#32
  let c0_i32_807 : BitVec 32 := 0#32
  let v1516 : BitVec 1 := Scalar.cmpi .eq c8_i32_806 c0_i32_807
  let c1_i32_808 : BitVec 32 := 1#32
  let v1517 : BitVec 32 := Scalar.select v1516 c1_i32_808 c8_i32_806
  let v1518 : BitVec 32 := Scalar.remsi v1498 v1517
  let c0_i32_810 : BitVec 32 := 0#32
  let v1520 : BitVec 1 := Scalar.cmpi .slt v1518 c0_i32_810
  let c0_i32_811 : BitVec 32 := 0#32
  let v1521 : BitVec 1 := Scalar.cmpi .slt v1517 c0_i32_811
  let v1522 : BitVec 1 := Scalar.xori v1520 v1521
  let c0_i32_809 : BitVec 32 := 0#32
  let v1519 : BitVec 1 := Scalar.cmpi .ne v1518 c0_i32_809
  let v1523 : BitVec 1 := Scalar.andi v1522 v1519
  let v1524 : BitVec 32 := Scalar.addi v1518 v1517
  let v1525 : BitVec 32 := Scalar.select v1523 v1524 v1518
  let c0_i32_813 : BitVec 32 := 0#32
  let v1527 : BitVec 1 := Scalar.cmpi .sgt v1525 c0_i32_813
  let v1528 : BitVec 32 := Scalar.extui v1527
  let c0_i32_814 : BitVec 32 := 0#32
  let v1529 : BitVec 1 := Scalar.cmpi .slt v1525 c0_i32_814
  let v1530 : BitVec 32 := Scalar.extui v1529
  let v1531 : BitVec 32 := Scalar.subi v1528 v1530
  let c4_i32_812 : BitVec 32 := 4#32
  let c0_i32_815 : BitVec 32 := 0#32
  let v1532 : BitVec 1 := Scalar.cmpi .sgt c4_i32_812 c0_i32_815
  let v1533 : BitVec 32 := Scalar.extui v1532
  let c0_i32_816 : BitVec 32 := 0#32
  let v1534 : BitVec 1 := Scalar.cmpi .slt c4_i32_812 c0_i32_816
  let v1535 : BitVec 32 := Scalar.extui v1534
  let v1536 : BitVec 32 := Scalar.subi v1533 v1535
  let v1537 : BitVec 1 := Scalar.cmpi .ne v1531 v1536
  let v1538 : BitVec 32 := Scalar.remsi v1525 c4_i32_812
  let c0_i32_817 : BitVec 32 := 0#32
  let v1539 : BitVec 1 := Scalar.cmpi .ne v1538 c0_i32_817
  let v1540 : BitVec 1 := Scalar.andi v1537 v1539
  let v1526 : BitVec 32 := Scalar.divsi v1525 c4_i32_812
  let c1_i32_818 : BitVec 32 := 1#32
  let v1541 : BitVec 32 := Scalar.subi v1526 c1_i32_818
  let v1542 : BitVec 32 := Scalar.select v1540 v1541 v1526
  let c4_i32_829 : BitVec 32 := 4#32
  let v1555 : BitVec 32 := Scalar.muli v1542 c4_i32_829
  let v1556 : BitVec 32 := Scalar.addi v1554 v1555
  let c4_i32_819 : BitVec 32 := 4#32
  let c0_i32_820 : BitVec 32 := 0#32
  let v1543 : BitVec 1 := Scalar.cmpi .eq c4_i32_819 c0_i32_820
  let c1_i32_821 : BitVec 32 := 1#32
  let v1544 : BitVec 32 := Scalar.select v1543 c1_i32_821 c4_i32_819
  let v1545 : BitVec 32 := Scalar.remsi v1498 v1544
  let c0_i32_823 : BitVec 32 := 0#32
  let v1547 : BitVec 1 := Scalar.cmpi .slt v1545 c0_i32_823
  let c0_i32_824 : BitVec 32 := 0#32
  let v1548 : BitVec 1 := Scalar.cmpi .slt v1544 c0_i32_824
  let v1549 : BitVec 1 := Scalar.xori v1547 v1548
  let c0_i32_822 : BitVec 32 := 0#32
  let v1546 : BitVec 1 := Scalar.cmpi .ne v1545 c0_i32_822
  let v1550 : BitVec 1 := Scalar.andi v1549 v1546
  let v1551 : BitVec 32 := Scalar.addi v1545 v1544
  let v1552 : BitVec 32 := Scalar.select v1550 v1551 v1545
  let c1_i32_830 : BitVec 32 := 1#32
  let v1557 : BitVec 32 := Scalar.muli v1552 c1_i32_830
  let v1558 : BitVec 32 := Scalar.addi v1556 v1557
  v1558.toNat
def k0_dev21 (d0 : Dev nD) : Nat :=
  let c0_i32_871 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_835 : BitVec 32 := 6#32
  let v1567 : BitVec 32 := Scalar.addi v12 c6_i32_835
  let c16_i32_836 : BitVec 32 := 16#32
  let c0_i32_837 : BitVec 32 := 0#32
  let v1568 : BitVec 1 := Scalar.cmpi .eq c16_i32_836 c0_i32_837
  let c1_i32_838 : BitVec 32 := 1#32
  let v1569 : BitVec 32 := Scalar.select v1568 c1_i32_838 c16_i32_836
  let v1570 : BitVec 32 := Scalar.remsi v1567 v1569
  let c0_i32_840 : BitVec 32 := 0#32
  let v1572 : BitVec 1 := Scalar.cmpi .slt v1570 c0_i32_840
  let c0_i32_841 : BitVec 32 := 0#32
  let v1573 : BitVec 1 := Scalar.cmpi .slt v1569 c0_i32_841
  let v1574 : BitVec 1 := Scalar.xori v1572 v1573
  let c0_i32_839 : BitVec 32 := 0#32
  let v1571 : BitVec 1 := Scalar.cmpi .ne v1570 c0_i32_839
  let v1575 : BitVec 1 := Scalar.andi v1574 v1571
  let v1576 : BitVec 32 := Scalar.addi v1570 v1569
  let v1577 : BitVec 32 := Scalar.select v1575 v1576 v1570
  let c0_i32_843 : BitVec 32 := 0#32
  let v1579 : BitVec 1 := Scalar.cmpi .sgt v1577 c0_i32_843
  let v1580 : BitVec 32 := Scalar.extui v1579
  let c0_i32_844 : BitVec 32 := 0#32
  let v1581 : BitVec 1 := Scalar.cmpi .slt v1577 c0_i32_844
  let v1582 : BitVec 32 := Scalar.extui v1581
  let v1583 : BitVec 32 := Scalar.subi v1580 v1582
  let c8_i32_842 : BitVec 32 := 8#32
  let c0_i32_845 : BitVec 32 := 0#32
  let v1584 : BitVec 1 := Scalar.cmpi .sgt c8_i32_842 c0_i32_845
  let v1585 : BitVec 32 := Scalar.extui v1584
  let c0_i32_846 : BitVec 32 := 0#32
  let v1586 : BitVec 1 := Scalar.cmpi .slt c8_i32_842 c0_i32_846
  let v1587 : BitVec 32 := Scalar.extui v1586
  let v1588 : BitVec 32 := Scalar.subi v1585 v1587
  let v1589 : BitVec 1 := Scalar.cmpi .ne v1583 v1588
  let v1590 : BitVec 32 := Scalar.remsi v1577 c8_i32_842
  let c0_i32_847 : BitVec 32 := 0#32
  let v1591 : BitVec 1 := Scalar.cmpi .ne v1590 c0_i32_847
  let v1592 : BitVec 1 := Scalar.andi v1589 v1591
  let v1578 : BitVec 32 := Scalar.divsi v1577 c8_i32_842
  let c1_i32_848 : BitVec 32 := 1#32
  let v1593 : BitVec 32 := Scalar.subi v1578 c1_i32_848
  let v1594 : BitVec 32 := Scalar.select v1592 v1593 v1578
  let c8_i32_870 : BitVec 32 := 8#32
  let v1632 : BitVec 32 := Scalar.muli v1594 c8_i32_870
  let v1633 : BitVec 32 := Scalar.addi c0_i32_871 v1632
  let c8_i32_849 : BitVec 32 := 8#32
  let c0_i32_850 : BitVec 32 := 0#32
  let v1595 : BitVec 1 := Scalar.cmpi .eq c8_i32_849 c0_i32_850
  let c1_i32_851 : BitVec 32 := 1#32
  let v1596 : BitVec 32 := Scalar.select v1595 c1_i32_851 c8_i32_849
  let v1597 : BitVec 32 := Scalar.remsi v1577 v1596
  let c0_i32_853 : BitVec 32 := 0#32
  let v1599 : BitVec 1 := Scalar.cmpi .slt v1597 c0_i32_853
  let c0_i32_854 : BitVec 32 := 0#32
  let v1600 : BitVec 1 := Scalar.cmpi .slt v1596 c0_i32_854
  let v1601 : BitVec 1 := Scalar.xori v1599 v1600
  let c0_i32_852 : BitVec 32 := 0#32
  let v1598 : BitVec 1 := Scalar.cmpi .ne v1597 c0_i32_852
  let v1602 : BitVec 1 := Scalar.andi v1601 v1598
  let v1603 : BitVec 32 := Scalar.addi v1597 v1596
  let v1604 : BitVec 32 := Scalar.select v1602 v1603 v1597
  let c0_i32_856 : BitVec 32 := 0#32
  let v1606 : BitVec 1 := Scalar.cmpi .sgt v1604 c0_i32_856
  let v1607 : BitVec 32 := Scalar.extui v1606
  let c0_i32_857 : BitVec 32 := 0#32
  let v1608 : BitVec 1 := Scalar.cmpi .slt v1604 c0_i32_857
  let v1609 : BitVec 32 := Scalar.extui v1608
  let v1610 : BitVec 32 := Scalar.subi v1607 v1609
  let c4_i32_855 : BitVec 32 := 4#32
  let c0_i32_858 : BitVec 32 := 0#32
  let v1611 : BitVec 1 := Scalar.cmpi .sgt c4_i32_855 c0_i32_858
  let v1612 : BitVec 32 := Scalar.extui v1611
  let c0_i32_859 : BitVec 32 := 0#32
  let v1613 : BitVec 1 := Scalar.cmpi .slt c4_i32_855 c0_i32_859
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_855
  let c0_i32_860 : BitVec 32 := 0#32
  let v1618 : BitVec 1 := Scalar.cmpi .ne v1617 c0_i32_860
  let v1619 : BitVec 1 := Scalar.andi v1616 v1618
  let v1605 : BitVec 32 := Scalar.divsi v1604 c4_i32_855
  let c1_i32_861 : BitVec 32 := 1#32
  let v1620 : BitVec 32 := Scalar.subi v1605 c1_i32_861
  let v1621 : BitVec 32 := Scalar.select v1619 v1620 v1605
  let c4_i32_872 : BitVec 32 := 4#32
  let v1634 : BitVec 32 := Scalar.muli v1621 c4_i32_872
  let v1635 : BitVec 32 := Scalar.addi v1633 v1634
  let c4_i32_862 : BitVec 32 := 4#32
  let c0_i32_863 : BitVec 32 := 0#32
  let v1622 : BitVec 1 := Scalar.cmpi .eq c4_i32_862 c0_i32_863
  let c1_i32_864 : BitVec 32 := 1#32
  let v1623 : BitVec 32 := Scalar.select v1622 c1_i32_864 c4_i32_862
  let v1624 : BitVec 32 := Scalar.remsi v1577 v1623
  let c0_i32_866 : BitVec 32 := 0#32
  let v1626 : BitVec 1 := Scalar.cmpi .slt v1624 c0_i32_866
  let c0_i32_867 : BitVec 32 := 0#32
  let v1627 : BitVec 1 := Scalar.cmpi .slt v1623 c0_i32_867
  let v1628 : BitVec 1 := Scalar.xori v1626 v1627
  let c0_i32_865 : BitVec 32 := 0#32
  let v1625 : BitVec 1 := Scalar.cmpi .ne v1624 c0_i32_865
  let v1629 : BitVec 1 := Scalar.andi v1628 v1625
  let v1630 : BitVec 32 := Scalar.addi v1624 v1623
  let v1631 : BitVec 32 := Scalar.select v1629 v1630 v1624
  let c1_i32_873 : BitVec 32 := 1#32
  let v1636 : BitVec 32 := Scalar.muli v1631 c1_i32_873
  let v1637 : BitVec 32 := Scalar.addi v1635 v1636
  v1637.toNat
def k0_dev22 (d0 : Dev nD) : Nat :=
  let c0_i32_914 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_878 : BitVec 32 := 7#32
  let v1646 : BitVec 32 := Scalar.addi v12 c7_i32_878
  let c16_i32_879 : BitVec 32 := 16#32
  let c0_i32_880 : BitVec 32 := 0#32
  let v1647 : BitVec 1 := Scalar.cmpi .eq c16_i32_879 c0_i32_880
  let c1_i32_881 : BitVec 32 := 1#32
  let v1648 : BitVec 32 := Scalar.select v1647 c1_i32_881 c16_i32_879
  let v1649 : BitVec 32 := Scalar.remsi v1646 v1648
  let c0_i32_883 : BitVec 32 := 0#32
  let v1651 : BitVec 1 := Scalar.cmpi .slt v1649 c0_i32_883
  let c0_i32_884 : BitVec 32 := 0#32
  let v1652 : BitVec 1 := Scalar.cmpi .slt v1648 c0_i32_884
  let v1653 : BitVec 1 := Scalar.xori v1651 v1652
  let c0_i32_882 : BitVec 32 := 0#32
  let v1650 : BitVec 1 := Scalar.cmpi .ne v1649 c0_i32_882
  let v1654 : BitVec 1 := Scalar.andi v1653 v1650
  let v1655 : BitVec 32 := Scalar.addi v1649 v1648
  let v1656 : BitVec 32 := Scalar.select v1654 v1655 v1649
  let c0_i32_886 : BitVec 32 := 0#32
  let v1658 : BitVec 1 := Scalar.cmpi .sgt v1656 c0_i32_886
  let v1659 : BitVec 32 := Scalar.extui v1658
  let c0_i32_887 : BitVec 32 := 0#32
  let v1660 : BitVec 1 := Scalar.cmpi .slt v1656 c0_i32_887
  let v1661 : BitVec 32 := Scalar.extui v1660
  let v1662 : BitVec 32 := Scalar.subi v1659 v1661
  let c8_i32_885 : BitVec 32 := 8#32
  let c0_i32_888 : BitVec 32 := 0#32
  let v1663 : BitVec 1 := Scalar.cmpi .sgt c8_i32_885 c0_i32_888
  let v1664 : BitVec 32 := Scalar.extui v1663
  let c0_i32_889 : BitVec 32 := 0#32
  let v1665 : BitVec 1 := Scalar.cmpi .slt c8_i32_885 c0_i32_889
  let v1666 : BitVec 32 := Scalar.extui v1665
  let v1667 : BitVec 32 := Scalar.subi v1664 v1666
  let v1668 : BitVec 1 := Scalar.cmpi .ne v1662 v1667
  let v1669 : BitVec 32 := Scalar.remsi v1656 c8_i32_885
  let c0_i32_890 : BitVec 32 := 0#32
  let v1670 : BitVec 1 := Scalar.cmpi .ne v1669 c0_i32_890
  let v1671 : BitVec 1 := Scalar.andi v1668 v1670
  let v1657 : BitVec 32 := Scalar.divsi v1656 c8_i32_885
  let c1_i32_891 : BitVec 32 := 1#32
  let v1672 : BitVec 32 := Scalar.subi v1657 c1_i32_891
  let v1673 : BitVec 32 := Scalar.select v1671 v1672 v1657
  let c8_i32_913 : BitVec 32 := 8#32
  let v1711 : BitVec 32 := Scalar.muli v1673 c8_i32_913
  let v1712 : BitVec 32 := Scalar.addi c0_i32_914 v1711
  let c8_i32_892 : BitVec 32 := 8#32
  let c0_i32_893 : BitVec 32 := 0#32
  let v1674 : BitVec 1 := Scalar.cmpi .eq c8_i32_892 c0_i32_893
  let c1_i32_894 : BitVec 32 := 1#32
  let v1675 : BitVec 32 := Scalar.select v1674 c1_i32_894 c8_i32_892
  let v1676 : BitVec 32 := Scalar.remsi v1656 v1675
  let c0_i32_896 : BitVec 32 := 0#32
  let v1678 : BitVec 1 := Scalar.cmpi .slt v1676 c0_i32_896
  let c0_i32_897 : BitVec 32 := 0#32
  let v1679 : BitVec 1 := Scalar.cmpi .slt v1675 c0_i32_897
  let v1680 : BitVec 1 := Scalar.xori v1678 v1679
  let c0_i32_895 : BitVec 32 := 0#32
  let v1677 : BitVec 1 := Scalar.cmpi .ne v1676 c0_i32_895
  let v1681 : BitVec 1 := Scalar.andi v1680 v1677
  let v1682 : BitVec 32 := Scalar.addi v1676 v1675
  let v1683 : BitVec 32 := Scalar.select v1681 v1682 v1676
  let c0_i32_899 : BitVec 32 := 0#32
  let v1685 : BitVec 1 := Scalar.cmpi .sgt v1683 c0_i32_899
  let v1686 : BitVec 32 := Scalar.extui v1685
  let c0_i32_900 : BitVec 32 := 0#32
  let v1687 : BitVec 1 := Scalar.cmpi .slt v1683 c0_i32_900
  let v1688 : BitVec 32 := Scalar.extui v1687
  let v1689 : BitVec 32 := Scalar.subi v1686 v1688
  let c4_i32_898 : BitVec 32 := 4#32
  let c0_i32_901 : BitVec 32 := 0#32
  let v1690 : BitVec 1 := Scalar.cmpi .sgt c4_i32_898 c0_i32_901
  let v1691 : BitVec 32 := Scalar.extui v1690
  let c0_i32_902 : BitVec 32 := 0#32
  let v1692 : BitVec 1 := Scalar.cmpi .slt c4_i32_898 c0_i32_902
  let v1693 : BitVec 32 := Scalar.extui v1692
  let v1694 : BitVec 32 := Scalar.subi v1691 v1693
  let v1695 : BitVec 1 := Scalar.cmpi .ne v1689 v1694
  let v1696 : BitVec 32 := Scalar.remsi v1683 c4_i32_898
  let c0_i32_903 : BitVec 32 := 0#32
  let v1697 : BitVec 1 := Scalar.cmpi .ne v1696 c0_i32_903
  let v1698 : BitVec 1 := Scalar.andi v1695 v1697
  let v1684 : BitVec 32 := Scalar.divsi v1683 c4_i32_898
  let c1_i32_904 : BitVec 32 := 1#32
  let v1699 : BitVec 32 := Scalar.subi v1684 c1_i32_904
  let v1700 : BitVec 32 := Scalar.select v1698 v1699 v1684
  let c4_i32_915 : BitVec 32 := 4#32
  let v1713 : BitVec 32 := Scalar.muli v1700 c4_i32_915
  let v1714 : BitVec 32 := Scalar.addi v1712 v1713
  let c4_i32_905 : BitVec 32 := 4#32
  let c0_i32_906 : BitVec 32 := 0#32
  let v1701 : BitVec 1 := Scalar.cmpi .eq c4_i32_905 c0_i32_906
  let c1_i32_907 : BitVec 32 := 1#32
  let v1702 : BitVec 32 := Scalar.select v1701 c1_i32_907 c4_i32_905
  let v1703 : BitVec 32 := Scalar.remsi v1656 v1702
  let c0_i32_909 : BitVec 32 := 0#32
  let v1705 : BitVec 1 := Scalar.cmpi .slt v1703 c0_i32_909
  let c0_i32_910 : BitVec 32 := 0#32
  let v1706 : BitVec 1 := Scalar.cmpi .slt v1702 c0_i32_910
  let v1707 : BitVec 1 := Scalar.xori v1705 v1706
  let c0_i32_908 : BitVec 32 := 0#32
  let v1704 : BitVec 1 := Scalar.cmpi .ne v1703 c0_i32_908
  let v1708 : BitVec 1 := Scalar.andi v1707 v1704
  let v1709 : BitVec 32 := Scalar.addi v1703 v1702
  let v1710 : BitVec 32 := Scalar.select v1708 v1709 v1703
  let c1_i32_916 : BitVec 32 := 1#32
  let v1715 : BitVec 32 := Scalar.muli v1710 c1_i32_916
  let v1716 : BitVec 32 := Scalar.addi v1714 v1715
  v1716.toNat
def k0_dev23 (d0 : Dev nD) : Nat :=
  let c0_i32_957 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_921 : BitVec 32 := 8#32
  let v1725 : BitVec 32 := Scalar.addi v12 c8_i32_921
  let c16_i32_922 : BitVec 32 := 16#32
  let c0_i32_923 : BitVec 32 := 0#32
  let v1726 : BitVec 1 := Scalar.cmpi .eq c16_i32_922 c0_i32_923
  let c1_i32_924 : BitVec 32 := 1#32
  let v1727 : BitVec 32 := Scalar.select v1726 c1_i32_924 c16_i32_922
  let v1728 : BitVec 32 := Scalar.remsi v1725 v1727
  let c0_i32_926 : BitVec 32 := 0#32
  let v1730 : BitVec 1 := Scalar.cmpi .slt v1728 c0_i32_926
  let c0_i32_927 : BitVec 32 := 0#32
  let v1731 : BitVec 1 := Scalar.cmpi .slt v1727 c0_i32_927
  let v1732 : BitVec 1 := Scalar.xori v1730 v1731
  let c0_i32_925 : BitVec 32 := 0#32
  let v1729 : BitVec 1 := Scalar.cmpi .ne v1728 c0_i32_925
  let v1733 : BitVec 1 := Scalar.andi v1732 v1729
  let v1734 : BitVec 32 := Scalar.addi v1728 v1727
  let v1735 : BitVec 32 := Scalar.select v1733 v1734 v1728
  let c0_i32_929 : BitVec 32 := 0#32
  let v1737 : BitVec 1 := Scalar.cmpi .sgt v1735 c0_i32_929
  let v1738 : BitVec 32 := Scalar.extui v1737
  let c0_i32_930 : BitVec 32 := 0#32
  let v1739 : BitVec 1 := Scalar.cmpi .slt v1735 c0_i32_930
  let v1740 : BitVec 32 := Scalar.extui v1739
  let v1741 : BitVec 32 := Scalar.subi v1738 v1740
  let c8_i32_928 : BitVec 32 := 8#32
  let c0_i32_931 : BitVec 32 := 0#32
  let v1742 : BitVec 1 := Scalar.cmpi .sgt c8_i32_928 c0_i32_931
  let v1743 : BitVec 32 := Scalar.extui v1742
  let c0_i32_932 : BitVec 32 := 0#32
  let v1744 : BitVec 1 := Scalar.cmpi .slt c8_i32_928 c0_i32_932
  let v1745 : BitVec 32 := Scalar.extui v1744
  let v1746 : BitVec 32 := Scalar.subi v1743 v1745
  let v1747 : BitVec 1 := Scalar.cmpi .ne v1741 v1746
  let v1748 : BitVec 32 := Scalar.remsi v1735 c8_i32_928
  let c0_i32_933 : BitVec 32 := 0#32
  let v1749 : BitVec 1 := Scalar.cmpi .ne v1748 c0_i32_933
  let v1750 : BitVec 1 := Scalar.andi v1747 v1749
  let v1736 : BitVec 32 := Scalar.divsi v1735 c8_i32_928
  let c1_i32_934 : BitVec 32 := 1#32
  let v1751 : BitVec 32 := Scalar.subi v1736 c1_i32_934
  let v1752 : BitVec 32 := Scalar.select v1750 v1751 v1736
  let c8_i32_956 : BitVec 32 := 8#32
  let v1790 : BitVec 32 := Scalar.muli v1752 c8_i32_956
  let v1791 : BitVec 32 := Scalar.addi c0_i32_957 v1790
  let c8_i32_935 : BitVec 32 := 8#32
  let c0_i32_936 : BitVec 32 := 0#32
  let v1753 : BitVec 1 := Scalar.cmpi .eq c8_i32_935 c0_i32_936
  let c1_i32_937 : BitVec 32 := 1#32
  let v1754 : BitVec 32 := Scalar.select v1753 c1_i32_937 c8_i32_935
  let v1755 : BitVec 32 := Scalar.remsi v1735 v1754
  let c0_i32_939 : BitVec 32 := 0#32
  let v1757 : BitVec 1 := Scalar.cmpi .slt v1755 c0_i32_939
  let c0_i32_940 : BitVec 32 := 0#32
  let v1758 : BitVec 1 := Scalar.cmpi .slt v1754 c0_i32_940
  let v1759 : BitVec 1 := Scalar.xori v1757 v1758
  let c0_i32_938 : BitVec 32 := 0#32
  let v1756 : BitVec 1 := Scalar.cmpi .ne v1755 c0_i32_938
  let v1760 : BitVec 1 := Scalar.andi v1759 v1756
  let v1761 : BitVec 32 := Scalar.addi v1755 v1754
  let v1762 : BitVec 32 := Scalar.select v1760 v1761 v1755
  let c0_i32_942 : BitVec 32 := 0#32
  let v1764 : BitVec 1 := Scalar.cmpi .sgt v1762 c0_i32_942
  let v1765 : BitVec 32 := Scalar.extui v1764
  let c0_i32_943 : BitVec 32 := 0#32
  let v1766 : BitVec 1 := Scalar.cmpi .slt v1762 c0_i32_943
  let v1767 : BitVec 32 := Scalar.extui v1766
  let v1768 : BitVec 32 := Scalar.subi v1765 v1767
  let c4_i32_941 : BitVec 32 := 4#32
  let c0_i32_944 : BitVec 32 := 0#32
  let v1769 : BitVec 1 := Scalar.cmpi .sgt c4_i32_941 c0_i32_944
  let v1770 : BitVec 32 := Scalar.extui v1769
  let c0_i32_945 : BitVec 32 := 0#32
  let v1771 : BitVec 1 := Scalar.cmpi .slt c4_i32_941 c0_i32_945
  let v1772 : BitVec 32 := Scalar.extui v1771
  let v1773 : BitVec 32 := Scalar.subi v1770 v1772
  let v1774 : BitVec 1 := Scalar.cmpi .ne v1768 v1773
  let v1775 : BitVec 32 := Scalar.remsi v1762 c4_i32_941
  let c0_i32_946 : BitVec 32 := 0#32
  let v1776 : BitVec 1 := Scalar.cmpi .ne v1775 c0_i32_946
  let v1777 : BitVec 1 := Scalar.andi v1774 v1776
  let v1763 : BitVec 32 := Scalar.divsi v1762 c4_i32_941
  let c1_i32_947 : BitVec 32 := 1#32
  let v1778 : BitVec 32 := Scalar.subi v1763 c1_i32_947
  let v1779 : BitVec 32 := Scalar.select v1777 v1778 v1763
  let c4_i32_958 : BitVec 32 := 4#32
  let v1792 : BitVec 32 := Scalar.muli v1779 c4_i32_958
  let v1793 : BitVec 32 := Scalar.addi v1791 v1792
  let c4_i32_948 : BitVec 32 := 4#32
  let c0_i32_949 : BitVec 32 := 0#32
  let v1780 : BitVec 1 := Scalar.cmpi .eq c4_i32_948 c0_i32_949
  let c1_i32_950 : BitVec 32 := 1#32
  let v1781 : BitVec 32 := Scalar.select v1780 c1_i32_950 c4_i32_948
  let v1782 : BitVec 32 := Scalar.remsi v1735 v1781
  let c0_i32_952 : BitVec 32 := 0#32
  let v1784 : BitVec 1 := Scalar.cmpi .slt v1782 c0_i32_952
  let c0_i32_953 : BitVec 32 := 0#32
  let v1785 : BitVec 1 := Scalar.cmpi .slt v1781 c0_i32_953
  let v1786 : BitVec 1 := Scalar.xori v1784 v1785
  let c0_i32_951 : BitVec 32 := 0#32
  let v1783 : BitVec 1 := Scalar.cmpi .ne v1782 c0_i32_951
  let v1787 : BitVec 1 := Scalar.andi v1786 v1783
  let v1788 : BitVec 32 := Scalar.addi v1782 v1781
  let v1789 : BitVec 32 := Scalar.select v1787 v1788 v1782
  let c1_i32_959 : BitVec 32 := 1#32
  let v1794 : BitVec 32 := Scalar.muli v1789 c1_i32_959
  let v1795 : BitVec 32 := Scalar.addi v1793 v1794
  v1795.toNat
def k0_dev24 (d0 : Dev nD) : Nat :=
  let c0_i32_1000 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_964 : BitVec 32 := 9#32
  let v1804 : BitVec 32 := Scalar.addi v12 c9_i32_964
  let c16_i32_965 : BitVec 32 := 16#32
  let c0_i32_966 : BitVec 32 := 0#32
  let v1805 : BitVec 1 := Scalar.cmpi .eq c16_i32_965 c0_i32_966
  let c1_i32_967 : BitVec 32 := 1#32
  let v1806 : BitVec 32 := Scalar.select v1805 c1_i32_967 c16_i32_965
  let v1807 : BitVec 32 := Scalar.remsi v1804 v1806
  let c0_i32_969 : BitVec 32 := 0#32
  let v1809 : BitVec 1 := Scalar.cmpi .slt v1807 c0_i32_969
  let c0_i32_970 : BitVec 32 := 0#32
  let v1810 : BitVec 1 := Scalar.cmpi .slt v1806 c0_i32_970
  let v1811 : BitVec 1 := Scalar.xori v1809 v1810
  let c0_i32_968 : BitVec 32 := 0#32
  let v1808 : BitVec 1 := Scalar.cmpi .ne v1807 c0_i32_968
  let v1812 : BitVec 1 := Scalar.andi v1811 v1808
  let v1813 : BitVec 32 := Scalar.addi v1807 v1806
  let v1814 : BitVec 32 := Scalar.select v1812 v1813 v1807
  let c0_i32_972 : BitVec 32 := 0#32
  let v1816 : BitVec 1 := Scalar.cmpi .sgt v1814 c0_i32_972
  let v1817 : BitVec 32 := Scalar.extui v1816
  let c0_i32_973 : BitVec 32 := 0#32
  let v1818 : BitVec 1 := Scalar.cmpi .slt v1814 c0_i32_973
  let v1819 : BitVec 32 := Scalar.extui v1818
  let v1820 : BitVec 32 := Scalar.subi v1817 v1819
  let c8_i32_971 : BitVec 32 := 8#32
  let c0_i32_974 : BitVec 32 := 0#32
  let v1821 : BitVec 1 := Scalar.cmpi .sgt c8_i32_971 c0_i32_974
  let v1822 : BitVec 32 := Scalar.extui v1821
  let c0_i32_975 : BitVec 32 := 0#32
  let v1823 : BitVec 1 := Scalar.cmpi .slt c8_i32_971 c0_i32_975
  let v1824 : BitVec 32 := Scalar.extui v1823
  let v1825 : BitVec 32 := Scalar.subi v1822 v1824
  let v1826 : BitVec 1 := Scalar.cmpi .ne v1820 v1825
  let v1827 : BitVec 32 := Scalar.remsi v1814 c8_i32_971
  let c0_i32_976 : BitVec 32 := 0#32
  let v1828 : BitVec 1 := Scalar.cmpi .ne v1827 c0_i32_976
  let v1829 : BitVec 1 := Scalar.andi v1826 v1828
  let v1815 : BitVec 32 := Scalar.divsi v1814 c8_i32_971
  let c1_i32_977 : BitVec 32 := 1#32
  let v1830 : BitVec 32 := Scalar.subi v1815 c1_i32_977
  let v1831 : BitVec 32 := Scalar.select v1829 v1830 v1815
  let c8_i32_999 : BitVec 32 := 8#32
  let v1869 : BitVec 32 := Scalar.muli v1831 c8_i32_999
  let v1870 : BitVec 32 := Scalar.addi c0_i32_1000 v1869
  let c8_i32_978 : BitVec 32 := 8#32
  let c0_i32_979 : BitVec 32 := 0#32
  let v1832 : BitVec 1 := Scalar.cmpi .eq c8_i32_978 c0_i32_979
  let c1_i32_980 : BitVec 32 := 1#32
  let v1833 : BitVec 32 := Scalar.select v1832 c1_i32_980 c8_i32_978
  let v1834 : BitVec 32 := Scalar.remsi v1814 v1833
  let c0_i32_982 : BitVec 32 := 0#32
  let v1836 : BitVec 1 := Scalar.cmpi .slt v1834 c0_i32_982
  let c0_i32_983 : BitVec 32 := 0#32
  let v1837 : BitVec 1 := Scalar.cmpi .slt v1833 c0_i32_983
  let v1838 : BitVec 1 := Scalar.xori v1836 v1837
  let c0_i32_981 : BitVec 32 := 0#32
  let v1835 : BitVec 1 := Scalar.cmpi .ne v1834 c0_i32_981
  let v1839 : BitVec 1 := Scalar.andi v1838 v1835
  let v1840 : BitVec 32 := Scalar.addi v1834 v1833
  let v1841 : BitVec 32 := Scalar.select v1839 v1840 v1834
  let c0_i32_985 : BitVec 32 := 0#32
  let v1843 : BitVec 1 := Scalar.cmpi .sgt v1841 c0_i32_985
  let v1844 : BitVec 32 := Scalar.extui v1843
  let c0_i32_986 : BitVec 32 := 0#32
  let v1845 : BitVec 1 := Scalar.cmpi .slt v1841 c0_i32_986
  let v1846 : BitVec 32 := Scalar.extui v1845
  let v1847 : BitVec 32 := Scalar.subi v1844 v1846
  let c4_i32_984 : BitVec 32 := 4#32
  let c0_i32_987 : BitVec 32 := 0#32
  let v1848 : BitVec 1 := Scalar.cmpi .sgt c4_i32_984 c0_i32_987
  let v1849 : BitVec 32 := Scalar.extui v1848
  let c0_i32_988 : BitVec 32 := 0#32
  let v1850 : BitVec 1 := Scalar.cmpi .slt c4_i32_984 c0_i32_988
  let v1851 : BitVec 32 := Scalar.extui v1850
  let v1852 : BitVec 32 := Scalar.subi v1849 v1851
  let v1853 : BitVec 1 := Scalar.cmpi .ne v1847 v1852
  let v1854 : BitVec 32 := Scalar.remsi v1841 c4_i32_984
  let c0_i32_989 : BitVec 32 := 0#32
  let v1855 : BitVec 1 := Scalar.cmpi .ne v1854 c0_i32_989
  let v1856 : BitVec 1 := Scalar.andi v1853 v1855
  let v1842 : BitVec 32 := Scalar.divsi v1841 c4_i32_984
  let c1_i32_990 : BitVec 32 := 1#32
  let v1857 : BitVec 32 := Scalar.subi v1842 c1_i32_990
  let v1858 : BitVec 32 := Scalar.select v1856 v1857 v1842
  let c4_i32_1001 : BitVec 32 := 4#32
  let v1871 : BitVec 32 := Scalar.muli v1858 c4_i32_1001
  let v1872 : BitVec 32 := Scalar.addi v1870 v1871
  let c4_i32_991 : BitVec 32 := 4#32
  let c0_i32_992 : BitVec 32 := 0#32
  let v1859 : BitVec 1 := Scalar.cmpi .eq c4_i32_991 c0_i32_992
  let c1_i32_993 : BitVec 32 := 1#32
  let v1860 : BitVec 32 := Scalar.select v1859 c1_i32_993 c4_i32_991
  let v1861 : BitVec 32 := Scalar.remsi v1814 v1860
  let c0_i32_995 : BitVec 32 := 0#32
  let v1863 : BitVec 1 := Scalar.cmpi .slt v1861 c0_i32_995
  let c0_i32_996 : BitVec 32 := 0#32
  let v1864 : BitVec 1 := Scalar.cmpi .slt v1860 c0_i32_996
  let v1865 : BitVec 1 := Scalar.xori v1863 v1864
  let c0_i32_994 : BitVec 32 := 0#32
  let v1862 : BitVec 1 := Scalar.cmpi .ne v1861 c0_i32_994
  let v1866 : BitVec 1 := Scalar.andi v1865 v1862
  let v1867 : BitVec 32 := Scalar.addi v1861 v1860
  let v1868 : BitVec 32 := Scalar.select v1866 v1867 v1861
  let c1_i32_1002 : BitVec 32 := 1#32
  let v1873 : BitVec 32 := Scalar.muli v1868 c1_i32_1002
  let v1874 : BitVec 32 := Scalar.addi v1872 v1873
  v1874.toNat
def k0_dev25 (d0 : Dev nD) : Nat :=
  let c0_i32_1043 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_1007 : BitVec 32 := 10#32
  let v1883 : BitVec 32 := Scalar.addi v12 c10_i32_1007
  let c16_i32_1008 : BitVec 32 := 16#32
  let c0_i32_1009 : BitVec 32 := 0#32
  let v1884 : BitVec 1 := Scalar.cmpi .eq c16_i32_1008 c0_i32_1009
  let c1_i32_1010 : BitVec 32 := 1#32
  let v1885 : BitVec 32 := Scalar.select v1884 c1_i32_1010 c16_i32_1008
  let v1886 : BitVec 32 := Scalar.remsi v1883 v1885
  let c0_i32_1012 : BitVec 32 := 0#32
  let v1888 : BitVec 1 := Scalar.cmpi .slt v1886 c0_i32_1012
  let c0_i32_1013 : BitVec 32 := 0#32
  let v1889 : BitVec 1 := Scalar.cmpi .slt v1885 c0_i32_1013
  let v1890 : BitVec 1 := Scalar.xori v1888 v1889
  let c0_i32_1011 : BitVec 32 := 0#32
  let v1887 : BitVec 1 := Scalar.cmpi .ne v1886 c0_i32_1011
  let v1891 : BitVec 1 := Scalar.andi v1890 v1887
  let v1892 : BitVec 32 := Scalar.addi v1886 v1885
  let v1893 : BitVec 32 := Scalar.select v1891 v1892 v1886
  let c0_i32_1015 : BitVec 32 := 0#32
  let v1895 : BitVec 1 := Scalar.cmpi .sgt v1893 c0_i32_1015
  let v1896 : BitVec 32 := Scalar.extui v1895
  let c0_i32_1016 : BitVec 32 := 0#32
  let v1897 : BitVec 1 := Scalar.cmpi .slt v1893 c0_i32_1016
  let v1898 : BitVec 32 := Scalar.extui v1897
  let v1899 : BitVec 32 := Scalar.subi v1896 v1898
  let c8_i32_1014 : BitVec 32 := 8#32
  let c0_i32_1017 : BitVec 32 := 0#32
  let v1900 : BitVec 1 := Scalar.cmpi .sgt c8_i32_1014 c0_i32_1017
  let v1901 : BitVec 32 := Scalar.extui v1900
  let c0_i32_1018 : BitVec 32 := 0#32
  let v1902 : BitVec 1 := Scalar.cmpi .slt c8_i32_1014 c0_i32_1018
  let v1903 : BitVec 32 := Scalar.extui v1902
  let v1904 : BitVec 32 := Scalar.subi v1901 v1903
  let v1905 : BitVec 1 := Scalar.cmpi .ne v1899 v1904
  let v1906 : BitVec 32 := Scalar.remsi v1893 c8_i32_1014
  let c0_i32_1019 : BitVec 32 := 0#32
  let v1907 : BitVec 1 := Scalar.cmpi .ne v1906 c0_i32_1019
  let v1908 : BitVec 1 := Scalar.andi v1905 v1907
  let v1894 : BitVec 32 := Scalar.divsi v1893 c8_i32_1014
  let c1_i32_1020 : BitVec 32 := 1#32
  let v1909 : BitVec 32 := Scalar.subi v1894 c1_i32_1020
  let v1910 : BitVec 32 := Scalar.select v1908 v1909 v1894
  let c8_i32_1042 : BitVec 32 := 8#32
  let v1948 : BitVec 32 := Scalar.muli v1910 c8_i32_1042
  let v1949 : BitVec 32 := Scalar.addi c0_i32_1043 v1948
  let c8_i32_1021 : BitVec 32 := 8#32
  let c0_i32_1022 : BitVec 32 := 0#32
  let v1911 : BitVec 1 := Scalar.cmpi .eq c8_i32_1021 c0_i32_1022
  let c1_i32_1023 : BitVec 32 := 1#32
  let v1912 : BitVec 32 := Scalar.select v1911 c1_i32_1023 c8_i32_1021
  let v1913 : BitVec 32 := Scalar.remsi v1893 v1912
  let c0_i32_1025 : BitVec 32 := 0#32
  let v1915 : BitVec 1 := Scalar.cmpi .slt v1913 c0_i32_1025
  let c0_i32_1026 : BitVec 32 := 0#32
  let v1916 : BitVec 1 := Scalar.cmpi .slt v1912 c0_i32_1026
  let v1917 : BitVec 1 := Scalar.xori v1915 v1916
  let c0_i32_1024 : BitVec 32 := 0#32
  let v1914 : BitVec 1 := Scalar.cmpi .ne v1913 c0_i32_1024
  let v1918 : BitVec 1 := Scalar.andi v1917 v1914
  let v1919 : BitVec 32 := Scalar.addi v1913 v1912
  let v1920 : BitVec 32 := Scalar.select v1918 v1919 v1913
  let c0_i32_1028 : BitVec 32 := 0#32
  let v1922 : BitVec 1 := Scalar.cmpi .sgt v1920 c0_i32_1028
  let v1923 : BitVec 32 := Scalar.extui v1922
  let c0_i32_1029 : BitVec 32 := 0#32
  let v1924 : BitVec 1 := Scalar.cmpi .slt v1920 c0_i32_1029
  let v1925 : BitVec 32 := Scalar.extui v1924
  let v1926 : BitVec 32 := Scalar.subi v1923 v1925
  let c4_i32_1027 : BitVec 32 := 4#32
  let c0_i32_1030 : BitVec 32 := 0#32
  let v1927 : BitVec 1 := Scalar.cmpi .sgt c4_i32_1027 c0_i32_1030
  let v1928 : BitVec 32 := Scalar.extui v1927
  let c0_i32_1031 : BitVec 32 := 0#32
  let v1929 : BitVec 1 := Scalar.cmpi .slt c4_i32_1027 c0_i32_1031
  let v1930 : BitVec 32 := Scalar.extui v1929
  let v1931 : BitVec 32 := Scalar.subi v1928 v1930
  let v1932 : BitVec 1 := Scalar.cmpi .ne v1926 v1931
  let v1933 : BitVec 32 := Scalar.remsi v1920 c4_i32_1027
  let c0_i32_1032 : BitVec 32 := 0#32
  let v1934 : BitVec 1 := Scalar.cmpi .ne v1933 c0_i32_1032
  let v1935 : BitVec 1 := Scalar.andi v1932 v1934
  let v1921 : BitVec 32 := Scalar.divsi v1920 c4_i32_1027
  let c1_i32_1033 : BitVec 32 := 1#32
  let v1936 : BitVec 32 := Scalar.subi v1921 c1_i32_1033
  let v1937 : BitVec 32 := Scalar.select v1935 v1936 v1921
  let c4_i32_1044 : BitVec 32 := 4#32
  let v1950 : BitVec 32 := Scalar.muli v1937 c4_i32_1044
  let v1951 : BitVec 32 := Scalar.addi v1949 v1950
  let c4_i32_1034 : BitVec 32 := 4#32
  let c0_i32_1035 : BitVec 32 := 0#32
  let v1938 : BitVec 1 := Scalar.cmpi .eq c4_i32_1034 c0_i32_1035
  let c1_i32_1036 : BitVec 32 := 1#32
  let v1939 : BitVec 32 := Scalar.select v1938 c1_i32_1036 c4_i32_1034
  let v1940 : BitVec 32 := Scalar.remsi v1893 v1939
  let c0_i32_1038 : BitVec 32 := 0#32
  let v1942 : BitVec 1 := Scalar.cmpi .slt v1940 c0_i32_1038
  let c0_i32_1039 : BitVec 32 := 0#32
  let v1943 : BitVec 1 := Scalar.cmpi .slt v1939 c0_i32_1039
  let v1944 : BitVec 1 := Scalar.xori v1942 v1943
  let c0_i32_1037 : BitVec 32 := 0#32
  let v1941 : BitVec 1 := Scalar.cmpi .ne v1940 c0_i32_1037
  let v1945 : BitVec 1 := Scalar.andi v1944 v1941
  let v1946 : BitVec 32 := Scalar.addi v1940 v1939
  let v1947 : BitVec 32 := Scalar.select v1945 v1946 v1940
  let c1_i32_1045 : BitVec 32 := 1#32
  let v1952 : BitVec 32 := Scalar.muli v1947 c1_i32_1045
  let v1953 : BitVec 32 := Scalar.addi v1951 v1952
  v1953.toNat
def k0_dev26 (d0 : Dev nD) : Nat :=
  let c0_i32_1086 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_1050 : BitVec 32 := 11#32
  let v1962 : BitVec 32 := Scalar.addi v12 c11_i32_1050
  let c16_i32_1051 : BitVec 32 := 16#32
  let c0_i32_1052 : BitVec 32 := 0#32
  let v1963 : BitVec 1 := Scalar.cmpi .eq c16_i32_1051 c0_i32_1052
  let c1_i32_1053 : BitVec 32 := 1#32
  let v1964 : BitVec 32 := Scalar.select v1963 c1_i32_1053 c16_i32_1051
  let v1965 : BitVec 32 := Scalar.remsi v1962 v1964
  let c0_i32_1055 : BitVec 32 := 0#32
  let v1967 : BitVec 1 := Scalar.cmpi .slt v1965 c0_i32_1055
  let c0_i32_1056 : BitVec 32 := 0#32
  let v1968 : BitVec 1 := Scalar.cmpi .slt v1964 c0_i32_1056
  let v1969 : BitVec 1 := Scalar.xori v1967 v1968
  let c0_i32_1054 : BitVec 32 := 0#32
  let v1966 : BitVec 1 := Scalar.cmpi .ne v1965 c0_i32_1054
  let v1970 : BitVec 1 := Scalar.andi v1969 v1966
  let v1971 : BitVec 32 := Scalar.addi v1965 v1964
  let v1972 : BitVec 32 := Scalar.select v1970 v1971 v1965
  let c0_i32_1058 : BitVec 32 := 0#32
  let v1974 : BitVec 1 := Scalar.cmpi .sgt v1972 c0_i32_1058
  let v1975 : BitVec 32 := Scalar.extui v1974
  let c0_i32_1059 : BitVec 32 := 0#32
  let v1976 : BitVec 1 := Scalar.cmpi .slt v1972 c0_i32_1059
  let v1977 : BitVec 32 := Scalar.extui v1976
  let v1978 : BitVec 32 := Scalar.subi v1975 v1977
  let c8_i32_1057 : BitVec 32 := 8#32
  let c0_i32_1060 : BitVec 32 := 0#32
  let v1979 : BitVec 1 := Scalar.cmpi .sgt c8_i32_1057 c0_i32_1060
  let v1980 : BitVec 32 := Scalar.extui v1979
  let c0_i32_1061 : BitVec 32 := 0#32
  let v1981 : BitVec 1 := Scalar.cmpi .slt c8_i32_1057 c0_i32_1061
  let v1982 : BitVec 32 := Scalar.extui v1981
  let v1983 : BitVec 32 := Scalar.subi v1980 v1982
  let v1984 : BitVec 1 := Scalar.cmpi .ne v1978 v1983
  let v1985 : BitVec 32 := Scalar.remsi v1972 c8_i32_1057
  let c0_i32_1062 : BitVec 32 := 0#32
  let v1986 : BitVec 1 := Scalar.cmpi .ne v1985 c0_i32_1062
  let v1987 : BitVec 1 := Scalar.andi v1984 v1986
  let v1973 : BitVec 32 := Scalar.divsi v1972 c8_i32_1057
  let c1_i32_1063 : BitVec 32 := 1#32
  let v1988 : BitVec 32 := Scalar.subi v1973 c1_i32_1063
  let v1989 : BitVec 32 := Scalar.select v1987 v1988 v1973
  let c8_i32_1085 : BitVec 32 := 8#32
  let v2027 : BitVec 32 := Scalar.muli v1989 c8_i32_1085
  let v2028 : BitVec 32 := Scalar.addi c0_i32_1086 v2027
  let c8_i32_1064 : BitVec 32 := 8#32
  let c0_i32_1065 : BitVec 32 := 0#32
  let v1990 : BitVec 1 := Scalar.cmpi .eq c8_i32_1064 c0_i32_1065
  let c1_i32_1066 : BitVec 32 := 1#32
  let v1991 : BitVec 32 := Scalar.select v1990 c1_i32_1066 c8_i32_1064
  let v1992 : BitVec 32 := Scalar.remsi v1972 v1991
  let c0_i32_1068 : BitVec 32 := 0#32
  let v1994 : BitVec 1 := Scalar.cmpi .slt v1992 c0_i32_1068
  let c0_i32_1069 : BitVec 32 := 0#32
  let v1995 : BitVec 1 := Scalar.cmpi .slt v1991 c0_i32_1069
  let v1996 : BitVec 1 := Scalar.xori v1994 v1995
  let c0_i32_1067 : BitVec 32 := 0#32
  let v1993 : BitVec 1 := Scalar.cmpi .ne v1992 c0_i32_1067
  let v1997 : BitVec 1 := Scalar.andi v1996 v1993
  let v1998 : BitVec 32 := Scalar.addi v1992 v1991
  let v1999 : BitVec 32 := Scalar.select v1997 v1998 v1992
  let c0_i32_1071 : BitVec 32 := 0#32
  let v2001 : BitVec 1 := Scalar.cmpi .sgt v1999 c0_i32_1071
  let v2002 : BitVec 32 := Scalar.extui v2001
  let c0_i32_1072 : BitVec 32 := 0#32
  let v2003 : BitVec 1 := Scalar.cmpi .slt v1999 c0_i32_1072
  let v2004 : BitVec 32 := Scalar.extui v2003
  let v2005 : BitVec 32 := Scalar.subi v2002 v2004
  let c4_i32_1070 : BitVec 32 := 4#32
  let c0_i32_1073 : BitVec 32 := 0#32
  let v2006 : BitVec 1 := Scalar.cmpi .sgt c4_i32_1070 c0_i32_1073
  let v2007 : BitVec 32 := Scalar.extui v2006
  let c0_i32_1074 : BitVec 32 := 0#32
  let v2008 : BitVec 1 := Scalar.cmpi .slt c4_i32_1070 c0_i32_1074
  let v2009 : BitVec 32 := Scalar.extui v2008
  let v2010 : BitVec 32 := Scalar.subi v2007 v2009
  let v2011 : BitVec 1 := Scalar.cmpi .ne v2005 v2010
  let v2012 : BitVec 32 := Scalar.remsi v1999 c4_i32_1070
  let c0_i32_1075 : BitVec 32 := 0#32
  let v2013 : BitVec 1 := Scalar.cmpi .ne v2012 c0_i32_1075
  let v2014 : BitVec 1 := Scalar.andi v2011 v2013
  let v2000 : BitVec 32 := Scalar.divsi v1999 c4_i32_1070
  let c1_i32_1076 : BitVec 32 := 1#32
  let v2015 : BitVec 32 := Scalar.subi v2000 c1_i32_1076
  let v2016 : BitVec 32 := Scalar.select v2014 v2015 v2000
  let c4_i32_1087 : BitVec 32 := 4#32
  let v2029 : BitVec 32 := Scalar.muli v2016 c4_i32_1087
  let v2030 : BitVec 32 := Scalar.addi v2028 v2029
  let c4_i32_1077 : BitVec 32 := 4#32
  let c0_i32_1078 : BitVec 32 := 0#32
  let v2017 : BitVec 1 := Scalar.cmpi .eq c4_i32_1077 c0_i32_1078
  let c1_i32_1079 : BitVec 32 := 1#32
  let v2018 : BitVec 32 := Scalar.select v2017 c1_i32_1079 c4_i32_1077
  let v2019 : BitVec 32 := Scalar.remsi v1972 v2018
  let c0_i32_1081 : BitVec 32 := 0#32
  let v2021 : BitVec 1 := Scalar.cmpi .slt v2019 c0_i32_1081
  let c0_i32_1082 : BitVec 32 := 0#32
  let v2022 : BitVec 1 := Scalar.cmpi .slt v2018 c0_i32_1082
  let v2023 : BitVec 1 := Scalar.xori v2021 v2022
  let c0_i32_1080 : BitVec 32 := 0#32
  let v2020 : BitVec 1 := Scalar.cmpi .ne v2019 c0_i32_1080
  let v2024 : BitVec 1 := Scalar.andi v2023 v2020
  let v2025 : BitVec 32 := Scalar.addi v2019 v2018
  let v2026 : BitVec 32 := Scalar.select v2024 v2025 v2019
  let c1_i32_1088 : BitVec 32 := 1#32
  let v2031 : BitVec 32 := Scalar.muli v2026 c1_i32_1088
  let v2032 : BitVec 32 := Scalar.addi v2030 v2031
  v2032.toNat
def k0_dev27 (d0 : Dev nD) : Nat :=
  let c0_i32_1129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_1093 : BitVec 32 := 12#32
  let v2041 : BitVec 32 := Scalar.addi v12 c12_i32_1093
  let c16_i32_1094 : BitVec 32 := 16#32
  let c0_i32_1095 : BitVec 32 := 0#32
  let v2042 : BitVec 1 := Scalar.cmpi .eq c16_i32_1094 c0_i32_1095
  let c1_i32_1096 : BitVec 32 := 1#32
  let v2043 : BitVec 32 := Scalar.select v2042 c1_i32_1096 c16_i32_1094
  let v2044 : BitVec 32 := Scalar.remsi v2041 v2043
  let c0_i32_1098 : BitVec 32 := 0#32
  let v2046 : BitVec 1 := Scalar.cmpi .slt v2044 c0_i32_1098
  let c0_i32_1099 : BitVec 32 := 0#32
  let v2047 : BitVec 1 := Scalar.cmpi .slt v2043 c0_i32_1099
  let v2048 : BitVec 1 := Scalar.xori v2046 v2047
  let c0_i32_1097 : BitVec 32 := 0#32
  let v2045 : BitVec 1 := Scalar.cmpi .ne v2044 c0_i32_1097
  let v2049 : BitVec 1 := Scalar.andi v2048 v2045
  let v2050 : BitVec 32 := Scalar.addi v2044 v2043
  let v2051 : BitVec 32 := Scalar.select v2049 v2050 v2044
  let c0_i32_1101 : BitVec 32 := 0#32
  let v2053 : BitVec 1 := Scalar.cmpi .sgt v2051 c0_i32_1101
  let v2054 : BitVec 32 := Scalar.extui v2053
  let c0_i32_1102 : BitVec 32 := 0#32
  let v2055 : BitVec 1 := Scalar.cmpi .slt v2051 c0_i32_1102
  let v2056 : BitVec 32 := Scalar.extui v2055
  let v2057 : BitVec 32 := Scalar.subi v2054 v2056
  let c8_i32_1100 : BitVec 32 := 8#32
  let c0_i32_1103 : BitVec 32 := 0#32
  let v2058 : BitVec 1 := Scalar.cmpi .sgt c8_i32_1100 c0_i32_1103
  let v2059 : BitVec 32 := Scalar.extui v2058
  let c0_i32_1104 : BitVec 32 := 0#32
  let v2060 : BitVec 1 := Scalar.cmpi .slt c8_i32_1100 c0_i32_1104
  let v2061 : BitVec 32 := Scalar.extui v2060
  let v2062 : BitVec 32 := Scalar.subi v2059 v2061
  let v2063 : BitVec 1 := Scalar.cmpi .ne v2057 v2062
  let v2064 : BitVec 32 := Scalar.remsi v2051 c8_i32_1100
  let c0_i32_1105 : BitVec 32 := 0#32
  let v2065 : BitVec 1 := Scalar.cmpi .ne v2064 c0_i32_1105
  let v2066 : BitVec 1 := Scalar.andi v2063 v2065
  let v2052 : BitVec 32 := Scalar.divsi v2051 c8_i32_1100
  let c1_i32_1106 : BitVec 32 := 1#32
  let v2067 : BitVec 32 := Scalar.subi v2052 c1_i32_1106
  let v2068 : BitVec 32 := Scalar.select v2066 v2067 v2052
  let c8_i32_1128 : BitVec 32 := 8#32
  let v2106 : BitVec 32 := Scalar.muli v2068 c8_i32_1128
  let v2107 : BitVec 32 := Scalar.addi c0_i32_1129 v2106
  let c8_i32_1107 : BitVec 32 := 8#32
  let c0_i32_1108 : BitVec 32 := 0#32
  let v2069 : BitVec 1 := Scalar.cmpi .eq c8_i32_1107 c0_i32_1108
  let c1_i32_1109 : BitVec 32 := 1#32
  let v2070 : BitVec 32 := Scalar.select v2069 c1_i32_1109 c8_i32_1107
  let v2071 : BitVec 32 := Scalar.remsi v2051 v2070
  let c0_i32_1111 : BitVec 32 := 0#32
  let v2073 : BitVec 1 := Scalar.cmpi .slt v2071 c0_i32_1111
  let c0_i32_1112 : BitVec 32 := 0#32
  let v2074 : BitVec 1 := Scalar.cmpi .slt v2070 c0_i32_1112
  let v2075 : BitVec 1 := Scalar.xori v2073 v2074
  let c0_i32_1110 : BitVec 32 := 0#32
  let v2072 : BitVec 1 := Scalar.cmpi .ne v2071 c0_i32_1110
  let v2076 : BitVec 1 := Scalar.andi v2075 v2072
  let v2077 : BitVec 32 := Scalar.addi v2071 v2070
  let v2078 : BitVec 32 := Scalar.select v2076 v2077 v2071
  let c0_i32_1114 : BitVec 32 := 0#32
  let v2080 : BitVec 1 := Scalar.cmpi .sgt v2078 c0_i32_1114
  let v2081 : BitVec 32 := Scalar.extui v2080
  let c0_i32_1115 : BitVec 32 := 0#32
  let v2082 : BitVec 1 := Scalar.cmpi .slt v2078 c0_i32_1115
  let v2083 : BitVec 32 := Scalar.extui v2082
  let v2084 : BitVec 32 := Scalar.subi v2081 v2083
  let c4_i32_1113 : BitVec 32 := 4#32
  let c0_i32_1116 : BitVec 32 := 0#32
  let v2085 : BitVec 1 := Scalar.cmpi .sgt c4_i32_1113 c0_i32_1116
  let v2086 : BitVec 32 := Scalar.extui v2085
  let c0_i32_1117 : BitVec 32 := 0#32
  let v2087 : BitVec 1 := Scalar.cmpi .slt c4_i32_1113 c0_i32_1117
  let v2088 : BitVec 32 := Scalar.extui v2087
  let v2089 : BitVec 32 := Scalar.subi v2086 v2088
  let v2090 : BitVec 1 := Scalar.cmpi .ne v2084 v2089
  let v2091 : BitVec 32 := Scalar.remsi v2078 c4_i32_1113
  let c0_i32_1118 : BitVec 32 := 0#32
  let v2092 : BitVec 1 := Scalar.cmpi .ne v2091 c0_i32_1118
  let v2093 : BitVec 1 := Scalar.andi v2090 v2092
  let v2079 : BitVec 32 := Scalar.divsi v2078 c4_i32_1113
  let c1_i32_1119 : BitVec 32 := 1#32
  let v2094 : BitVec 32 := Scalar.subi v2079 c1_i32_1119
  let v2095 : BitVec 32 := Scalar.select v2093 v2094 v2079
  let c4_i32_1130 : BitVec 32 := 4#32
  let v2108 : BitVec 32 := Scalar.muli v2095 c4_i32_1130
  let v2109 : BitVec 32 := Scalar.addi v2107 v2108
  let c4_i32_1120 : BitVec 32 := 4#32
  let c0_i32_1121 : BitVec 32 := 0#32
  let v2096 : BitVec 1 := Scalar.cmpi .eq c4_i32_1120 c0_i32_1121
  let c1_i32_1122 : BitVec 32 := 1#32
  let v2097 : BitVec 32 := Scalar.select v2096 c1_i32_1122 c4_i32_1120
  let v2098 : BitVec 32 := Scalar.remsi v2051 v2097
  let c0_i32_1124 : BitVec 32 := 0#32
  let v2100 : BitVec 1 := Scalar.cmpi .slt v2098 c0_i32_1124
  let c0_i32_1125 : BitVec 32 := 0#32
  let v2101 : BitVec 1 := Scalar.cmpi .slt v2097 c0_i32_1125
  let v2102 : BitVec 1 := Scalar.xori v2100 v2101
  let c0_i32_1123 : BitVec 32 := 0#32
  let v2099 : BitVec 1 := Scalar.cmpi .ne v2098 c0_i32_1123
  let v2103 : BitVec 1 := Scalar.andi v2102 v2099
  let v2104 : BitVec 32 := Scalar.addi v2098 v2097
  let v2105 : BitVec 32 := Scalar.select v2103 v2104 v2098
  let c1_i32_1131 : BitVec 32 := 1#32
  let v2110 : BitVec 32 := Scalar.muli v2105 c1_i32_1131
  let v2111 : BitVec 32 := Scalar.addi v2109 v2110
  v2111.toNat
def k0_dev28 (d0 : Dev nD) : Nat :=
  let c0_i32_1172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_1136 : BitVec 32 := 13#32
  let v2120 : BitVec 32 := Scalar.addi v12 c13_i32_1136
  let c16_i32_1137 : BitVec 32 := 16#32
  let c0_i32_1138 : BitVec 32 := 0#32
  let v2121 : BitVec 1 := Scalar.cmpi .eq c16_i32_1137 c0_i32_1138
  let c1_i32_1139 : BitVec 32 := 1#32
  let v2122 : BitVec 32 := Scalar.select v2121 c1_i32_1139 c16_i32_1137
  let v2123 : BitVec 32 := Scalar.remsi v2120 v2122
  let c0_i32_1141 : BitVec 32 := 0#32
  let v2125 : BitVec 1 := Scalar.cmpi .slt v2123 c0_i32_1141
  let c0_i32_1142 : BitVec 32 := 0#32
  let v2126 : BitVec 1 := Scalar.cmpi .slt v2122 c0_i32_1142
  let v2127 : BitVec 1 := Scalar.xori v2125 v2126
  let c0_i32_1140 : BitVec 32 := 0#32
  let v2124 : BitVec 1 := Scalar.cmpi .ne v2123 c0_i32_1140
  let v2128 : BitVec 1 := Scalar.andi v2127 v2124
  let v2129 : BitVec 32 := Scalar.addi v2123 v2122
  let v2130 : BitVec 32 := Scalar.select v2128 v2129 v2123
  let c0_i32_1144 : BitVec 32 := 0#32
  let v2132 : BitVec 1 := Scalar.cmpi .sgt v2130 c0_i32_1144
  let v2133 : BitVec 32 := Scalar.extui v2132
  let c0_i32_1145 : BitVec 32 := 0#32
  let v2134 : BitVec 1 := Scalar.cmpi .slt v2130 c0_i32_1145
  let v2135 : BitVec 32 := Scalar.extui v2134
  let v2136 : BitVec 32 := Scalar.subi v2133 v2135
  let c8_i32_1143 : BitVec 32 := 8#32
  let c0_i32_1146 : BitVec 32 := 0#32
  let v2137 : BitVec 1 := Scalar.cmpi .sgt c8_i32_1143 c0_i32_1146
  let v2138 : BitVec 32 := Scalar.extui v2137
  let c0_i32_1147 : BitVec 32 := 0#32
  let v2139 : BitVec 1 := Scalar.cmpi .slt c8_i32_1143 c0_i32_1147
  let v2140 : BitVec 32 := Scalar.extui v2139
  let v2141 : BitVec 32 := Scalar.subi v2138 v2140
  let v2142 : BitVec 1 := Scalar.cmpi .ne v2136 v2141
  let v2143 : BitVec 32 := Scalar.remsi v2130 c8_i32_1143
  let c0_i32_1148 : BitVec 32 := 0#32
  let v2144 : BitVec 1 := Scalar.cmpi .ne v2143 c0_i32_1148
  let v2145 : BitVec 1 := Scalar.andi v2142 v2144
  let v2131 : BitVec 32 := Scalar.divsi v2130 c8_i32_1143
  let c1_i32_1149 : BitVec 32 := 1#32
  let v2146 : BitVec 32 := Scalar.subi v2131 c1_i32_1149
  let v2147 : BitVec 32 := Scalar.select v2145 v2146 v2131
  let c8_i32_1171 : BitVec 32 := 8#32
  let v2185 : BitVec 32 := Scalar.muli v2147 c8_i32_1171
  let v2186 : BitVec 32 := Scalar.addi c0_i32_1172 v2185
  let c8_i32_1150 : BitVec 32 := 8#32
  let c0_i32_1151 : BitVec 32 := 0#32
  let v2148 : BitVec 1 := Scalar.cmpi .eq c8_i32_1150 c0_i32_1151
  let c1_i32_1152 : BitVec 32 := 1#32
  let v2149 : BitVec 32 := Scalar.select v2148 c1_i32_1152 c8_i32_1150
  let v2150 : BitVec 32 := Scalar.remsi v2130 v2149
  let c0_i32_1154 : BitVec 32 := 0#32
  let v2152 : BitVec 1 := Scalar.cmpi .slt v2150 c0_i32_1154
  let c0_i32_1155 : BitVec 32 := 0#32
  let v2153 : BitVec 1 := Scalar.cmpi .slt v2149 c0_i32_1155
  let v2154 : BitVec 1 := Scalar.xori v2152 v2153
  let c0_i32_1153 : BitVec 32 := 0#32
  let v2151 : BitVec 1 := Scalar.cmpi .ne v2150 c0_i32_1153
  let v2155 : BitVec 1 := Scalar.andi v2154 v2151
  let v2156 : BitVec 32 := Scalar.addi v2150 v2149
  let v2157 : BitVec 32 := Scalar.select v2155 v2156 v2150
  let c0_i32_1157 : BitVec 32 := 0#32
  let v2159 : BitVec 1 := Scalar.cmpi .sgt v2157 c0_i32_1157
  let v2160 : BitVec 32 := Scalar.extui v2159
  let c0_i32_1158 : BitVec 32 := 0#32
  let v2161 : BitVec 1 := Scalar.cmpi .slt v2157 c0_i32_1158
  let v2162 : BitVec 32 := Scalar.extui v2161
  let v2163 : BitVec 32 := Scalar.subi v2160 v2162
  let c4_i32_1156 : BitVec 32 := 4#32
  let c0_i32_1159 : BitVec 32 := 0#32
  let v2164 : BitVec 1 := Scalar.cmpi .sgt c4_i32_1156 c0_i32_1159
  let v2165 : BitVec 32 := Scalar.extui v2164
  let c0_i32_1160 : BitVec 32 := 0#32
  let v2166 : BitVec 1 := Scalar.cmpi .slt c4_i32_1156 c0_i32_1160
  let v2167 : BitVec 32 := Scalar.extui v2166
  let v2168 : BitVec 32 := Scalar.subi v2165 v2167
  let v2169 : BitVec 1 := Scalar.cmpi .ne v2163 v2168
  let v2170 : BitVec 32 := Scalar.remsi v2157 c4_i32_1156
  let c0_i32_1161 : BitVec 32 := 0#32
  let v2171 : BitVec 1 := Scalar.cmpi .ne v2170 c0_i32_1161
  let v2172 : BitVec 1 := Scalar.andi v2169 v2171
  let v2158 : BitVec 32 := Scalar.divsi v2157 c4_i32_1156
  let c1_i32_1162 : BitVec 32 := 1#32
  let v2173 : BitVec 32 := Scalar.subi v2158 c1_i32_1162
  let v2174 : BitVec 32 := Scalar.select v2172 v2173 v2158
  let c4_i32_1173 : BitVec 32 := 4#32
  let v2187 : BitVec 32 := Scalar.muli v2174 c4_i32_1173
  let v2188 : BitVec 32 := Scalar.addi v2186 v2187
  let c4_i32_1163 : BitVec 32 := 4#32
  let c0_i32_1164 : BitVec 32 := 0#32
  let v2175 : BitVec 1 := Scalar.cmpi .eq c4_i32_1163 c0_i32_1164
  let c1_i32_1165 : BitVec 32 := 1#32
  let v2176 : BitVec 32 := Scalar.select v2175 c1_i32_1165 c4_i32_1163
  let v2177 : BitVec 32 := Scalar.remsi v2130 v2176
  let c0_i32_1167 : BitVec 32 := 0#32
  let v2179 : BitVec 1 := Scalar.cmpi .slt v2177 c0_i32_1167
  let c0_i32_1168 : BitVec 32 := 0#32
  let v2180 : BitVec 1 := Scalar.cmpi .slt v2176 c0_i32_1168
  let v2181 : BitVec 1 := Scalar.xori v2179 v2180
  let c0_i32_1166 : BitVec 32 := 0#32
  let v2178 : BitVec 1 := Scalar.cmpi .ne v2177 c0_i32_1166
  let v2182 : BitVec 1 := Scalar.andi v2181 v2178
  let v2183 : BitVec 32 := Scalar.addi v2177 v2176
  let v2184 : BitVec 32 := Scalar.select v2182 v2183 v2177
  let c1_i32_1174 : BitVec 32 := 1#32
  let v2189 : BitVec 32 := Scalar.muli v2184 c1_i32_1174
  let v2190 : BitVec 32 := Scalar.addi v2188 v2189
  v2190.toNat
def k0_dev29 (d0 : Dev nD) : Nat :=
  let c0_i32_1215 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_1179 : BitVec 32 := 14#32
  let v2199 : BitVec 32 := Scalar.addi v12 c14_i32_1179
  let c16_i32_1180 : BitVec 32 := 16#32
  let c0_i32_1181 : BitVec 32 := 0#32
  let v2200 : BitVec 1 := Scalar.cmpi .eq c16_i32_1180 c0_i32_1181
  let c1_i32_1182 : BitVec 32 := 1#32
  let v2201 : BitVec 32 := Scalar.select v2200 c1_i32_1182 c16_i32_1180
  let v2202 : BitVec 32 := Scalar.remsi v2199 v2201
  let c0_i32_1184 : BitVec 32 := 0#32
  let v2204 : BitVec 1 := Scalar.cmpi .slt v2202 c0_i32_1184
  let c0_i32_1185 : BitVec 32 := 0#32
  let v2205 : BitVec 1 := Scalar.cmpi .slt v2201 c0_i32_1185
  let v2206 : BitVec 1 := Scalar.xori v2204 v2205
  let c0_i32_1183 : BitVec 32 := 0#32
  let v2203 : BitVec 1 := Scalar.cmpi .ne v2202 c0_i32_1183
  let v2207 : BitVec 1 := Scalar.andi v2206 v2203
  let v2208 : BitVec 32 := Scalar.addi v2202 v2201
  let v2209 : BitVec 32 := Scalar.select v2207 v2208 v2202
  let c0_i32_1187 : BitVec 32 := 0#32
  let v2211 : BitVec 1 := Scalar.cmpi .sgt v2209 c0_i32_1187
  let v2212 : BitVec 32 := Scalar.extui v2211
  let c0_i32_1188 : BitVec 32 := 0#32
  let v2213 : BitVec 1 := Scalar.cmpi .slt v2209 c0_i32_1188
  let v2214 : BitVec 32 := Scalar.extui v2213
  let v2215 : BitVec 32 := Scalar.subi v2212 v2214
  let c8_i32_1186 : BitVec 32 := 8#32
  let c0_i32_1189 : BitVec 32 := 0#32
  let v2216 : BitVec 1 := Scalar.cmpi .sgt c8_i32_1186 c0_i32_1189
  let v2217 : BitVec 32 := Scalar.extui v2216
  let c0_i32_1190 : BitVec 32 := 0#32
  let v2218 : BitVec 1 := Scalar.cmpi .slt c8_i32_1186 c0_i32_1190
  let v2219 : BitVec 32 := Scalar.extui v2218
  let v2220 : BitVec 32 := Scalar.subi v2217 v2219
  let v2221 : BitVec 1 := Scalar.cmpi .ne v2215 v2220
  let v2222 : BitVec 32 := Scalar.remsi v2209 c8_i32_1186
  let c0_i32_1191 : BitVec 32 := 0#32
  let v2223 : BitVec 1 := Scalar.cmpi .ne v2222 c0_i32_1191
  let v2224 : BitVec 1 := Scalar.andi v2221 v2223
  let v2210 : BitVec 32 := Scalar.divsi v2209 c8_i32_1186
  let c1_i32_1192 : BitVec 32 := 1#32
  let v2225 : BitVec 32 := Scalar.subi v2210 c1_i32_1192
  let v2226 : BitVec 32 := Scalar.select v2224 v2225 v2210
  let c8_i32_1214 : BitVec 32 := 8#32
  let v2264 : BitVec 32 := Scalar.muli v2226 c8_i32_1214
  let v2265 : BitVec 32 := Scalar.addi c0_i32_1215 v2264
  let c8_i32_1193 : BitVec 32 := 8#32
  let c0_i32_1194 : BitVec 32 := 0#32
  let v2227 : BitVec 1 := Scalar.cmpi .eq c8_i32_1193 c0_i32_1194
  let c1_i32_1195 : BitVec 32 := 1#32
  let v2228 : BitVec 32 := Scalar.select v2227 c1_i32_1195 c8_i32_1193
  let v2229 : BitVec 32 := Scalar.remsi v2209 v2228
  let c0_i32_1197 : BitVec 32 := 0#32
  let v2231 : BitVec 1 := Scalar.cmpi .slt v2229 c0_i32_1197
  let c0_i32_1198 : BitVec 32 := 0#32
  let v2232 : BitVec 1 := Scalar.cmpi .slt v2228 c0_i32_1198
  let v2233 : BitVec 1 := Scalar.xori v2231 v2232
  let c0_i32_1196 : BitVec 32 := 0#32
  let v2230 : BitVec 1 := Scalar.cmpi .ne v2229 c0_i32_1196
  let v2234 : BitVec 1 := Scalar.andi v2233 v2230
  let v2235 : BitVec 32 := Scalar.addi v2229 v2228
  let v2236 : BitVec 32 := Scalar.select v2234 v2235 v2229
  let c0_i32_1200 : BitVec 32 := 0#32
  let v2238 : BitVec 1 := Scalar.cmpi .sgt v2236 c0_i32_1200
  let v2239 : BitVec 32 := Scalar.extui v2238
  let c0_i32_1201 : BitVec 32 := 0#32
  let v2240 : BitVec 1 := Scalar.cmpi .slt v2236 c0_i32_1201
  let v2241 : BitVec 32 := Scalar.extui v2240
  let v2242 : BitVec 32 := Scalar.subi v2239 v2241
  let c4_i32_1199 : BitVec 32 := 4#32
  let c0_i32_1202 : BitVec 32 := 0#32
  let v2243 : BitVec 1 := Scalar.cmpi .sgt c4_i32_1199 c0_i32_1202
  let v2244 : BitVec 32 := Scalar.extui v2243
  let c0_i32_1203 : BitVec 32 := 0#32
  let v2245 : BitVec 1 := Scalar.cmpi .slt c4_i32_1199 c0_i32_1203
  let v2246 : BitVec 32 := Scalar.extui v2245
  let v2247 : BitVec 32 := Scalar.subi v2244 v2246
  let v2248 : BitVec 1 := Scalar.cmpi .ne v2242 v2247
  let v2249 : BitVec 32 := Scalar.remsi v2236 c4_i32_1199
  let c0_i32_1204 : BitVec 32 := 0#32
  let v2250 : BitVec 1 := Scalar.cmpi .ne v2249 c0_i32_1204
  let v2251 : BitVec 1 := Scalar.andi v2248 v2250
  let v2237 : BitVec 32 := Scalar.divsi v2236 c4_i32_1199
  let c1_i32_1205 : BitVec 32 := 1#32
  let v2252 : BitVec 32 := Scalar.subi v2237 c1_i32_1205
  let v2253 : BitVec 32 := Scalar.select v2251 v2252 v2237
  let c4_i32_1216 : BitVec 32 := 4#32
  let v2266 : BitVec 32 := Scalar.muli v2253 c4_i32_1216
  let v2267 : BitVec 32 := Scalar.addi v2265 v2266
  let c4_i32_1206 : BitVec 32 := 4#32
  let c0_i32_1207 : BitVec 32 := 0#32
  let v2254 : BitVec 1 := Scalar.cmpi .eq c4_i32_1206 c0_i32_1207
  let c1_i32_1208 : BitVec 32 := 1#32
  let v2255 : BitVec 32 := Scalar.select v2254 c1_i32_1208 c4_i32_1206
  let v2256 : BitVec 32 := Scalar.remsi v2209 v2255
  let c0_i32_1210 : BitVec 32 := 0#32
  let v2258 : BitVec 1 := Scalar.cmpi .slt v2256 c0_i32_1210
  let c0_i32_1211 : BitVec 32 := 0#32
  let v2259 : BitVec 1 := Scalar.cmpi .slt v2255 c0_i32_1211
  let v2260 : BitVec 1 := Scalar.xori v2258 v2259
  let c0_i32_1209 : BitVec 32 := 0#32
  let v2257 : BitVec 1 := Scalar.cmpi .ne v2256 c0_i32_1209
  let v2261 : BitVec 1 := Scalar.andi v2260 v2257
  let v2262 : BitVec 32 := Scalar.addi v2256 v2255
  let v2263 : BitVec 32 := Scalar.select v2261 v2262 v2256
  let c1_i32_1217 : BitVec 32 := 1#32
  let v2268 : BitVec 32 := Scalar.muli v2263 c1_i32_1217
  let v2269 : BitVec 32 := Scalar.addi v2267 v2268
  v2269.toNat
def k0_dev30 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_1222 : BitVec 32 := 15#32
  let v2278 : BitVec 32 := Scalar.addi v12 c15_i32_1222
  let c16_i32_1223 : BitVec 32 := 16#32
  let c0_i32_1224 : BitVec 32 := 0#32
  let v2279 : BitVec 1 := Scalar.cmpi .eq c16_i32_1223 c0_i32_1224
  let c1_i32_1225 : BitVec 32 := 1#32
  let v2280 : BitVec 32 := Scalar.select v2279 c1_i32_1225 c16_i32_1223
  let v2281 : BitVec 32 := Scalar.remsi v2278 v2280
  let c0_i32_1227 : BitVec 32 := 0#32
  let v2283 : BitVec 1 := Scalar.cmpi .slt v2281 c0_i32_1227
  let c0_i32_1228 : BitVec 32 := 0#32
  let v2284 : BitVec 1 := Scalar.cmpi .slt v2280 c0_i32_1228
  let v2285 : BitVec 1 := Scalar.xori v2283 v2284
  let c0_i32_1226 : BitVec 32 := 0#32
  let v2282 : BitVec 1 := Scalar.cmpi .ne v2281 c0_i32_1226
  let v2286 : BitVec 1 := Scalar.andi v2285 v2282
  let v2287 : BitVec 32 := Scalar.addi v2281 v2280
  let v2288 : BitVec 32 := Scalar.select v2286 v2287 v2281
  let c0_i32_1230 : BitVec 32 := 0#32
  let v2290 : BitVec 1 := Scalar.cmpi .sgt v2288 c0_i32_1230
  let v2291 : BitVec 32 := Scalar.extui v2290
  let c0_i32_1231 : BitVec 32 := 0#32
  let v2292 : BitVec 1 := Scalar.cmpi .slt v2288 c0_i32_1231
  let v2293 : BitVec 32 := Scalar.extui v2292
  let v2294 : BitVec 32 := Scalar.subi v2291 v2293
  let c8_i32_1229 : BitVec 32 := 8#32
  let c0_i32_1232 : BitVec 32 := 0#32
  let v2295 : BitVec 1 := Scalar.cmpi .sgt c8_i32_1229 c0_i32_1232
  let v2296 : BitVec 32 := Scalar.extui v2295
  let c0_i32_1233 : BitVec 32 := 0#32
  let v2297 : BitVec 1 := Scalar.cmpi .slt c8_i32_1229 c0_i32_1233
  let v2298 : BitVec 32 := Scalar.extui v2297
  let v2299 : BitVec 32 := Scalar.subi v2296 v2298
  let v2300 : BitVec 1 := Scalar.cmpi .ne v2294 v2299
  let v2301 : BitVec 32 := Scalar.remsi v2288 c8_i32_1229
  let c0_i32_1234 : BitVec 32 := 0#32
  let v2302 : BitVec 1 := Scalar.cmpi .ne v2301 c0_i32_1234
  let v2303 : BitVec 1 := Scalar.andi v2300 v2302
  let v2289 : BitVec 32 := Scalar.divsi v2288 c8_i32_1229
  let c1_i32_1235 : BitVec 32 := 1#32
  let v2304 : BitVec 32 := Scalar.subi v2289 c1_i32_1235
  let v2305 : BitVec 32 := Scalar.select v2303 v2304 v2289
  let c8_i32_1257 : BitVec 32 := 8#32
  let v2343 : BitVec 32 := Scalar.muli v2305 c8_i32_1257
  let v2344 : BitVec 32 := Scalar.addi c0_i32_1258 v2343
  let c8_i32_1236 : BitVec 32 := 8#32
  let c0_i32_1237 : BitVec 32 := 0#32
  let v2306 : BitVec 1 := Scalar.cmpi .eq c8_i32_1236 c0_i32_1237
  let c1_i32_1238 : BitVec 32 := 1#32
  let v2307 : BitVec 32 := Scalar.select v2306 c1_i32_1238 c8_i32_1236
  let v2308 : BitVec 32 := Scalar.remsi v2288 v2307
  let c0_i32_1240 : BitVec 32 := 0#32
  let v2310 : BitVec 1 := Scalar.cmpi .slt v2308 c0_i32_1240
  let c0_i32_1241 : BitVec 32 := 0#32
  let v2311 : BitVec 1 := Scalar.cmpi .slt v2307 c0_i32_1241
  let v2312 : BitVec 1 := Scalar.xori v2310 v2311
  let c0_i32_1239 : BitVec 32 := 0#32
  let v2309 : BitVec 1 := Scalar.cmpi .ne v2308 c0_i32_1239
  let v2313 : BitVec 1 := Scalar.andi v2312 v2309
  let v2314 : BitVec 32 := Scalar.addi v2308 v2307
  let v2315 : BitVec 32 := Scalar.select v2313 v2314 v2308
  let c0_i32_1243 : BitVec 32 := 0#32
  let v2317 : BitVec 1 := Scalar.cmpi .sgt v2315 c0_i32_1243
  let v2318 : BitVec 32 := Scalar.extui v2317
  let c0_i32_1244 : BitVec 32 := 0#32
  let v2319 : BitVec 1 := Scalar.cmpi .slt v2315 c0_i32_1244
  let v2320 : BitVec 32 := Scalar.extui v2319
  let v2321 : BitVec 32 := Scalar.subi v2318 v2320
  let c4_i32_1242 : BitVec 32 := 4#32
  let c0_i32_1245 : BitVec 32 := 0#32
  let v2322 : BitVec 1 := Scalar.cmpi .sgt c4_i32_1242 c0_i32_1245
  let v2323 : BitVec 32 := Scalar.extui v2322
  let c0_i32_1246 : BitVec 32 := 0#32
  let v2324 : BitVec 1 := Scalar.cmpi .slt c4_i32_1242 c0_i32_1246
  let v2325 : BitVec 32 := Scalar.extui v2324
  let v2326 : BitVec 32 := Scalar.subi v2323 v2325
  let v2327 : BitVec 1 := Scalar.cmpi .ne v2321 v2326
  let v2328 : BitVec 32 := Scalar.remsi v2315 c4_i32_1242
  let c0_i32_1247 : BitVec 32 := 0#32
  let v2329 : BitVec 1 := Scalar.cmpi .ne v2328 c0_i32_1247
  let v2330 : BitVec 1 := Scalar.andi v2327 v2329
  let v2316 : BitVec 32 := Scalar.divsi v2315 c4_i32_1242
  let c1_i32_1248 : BitVec 32 := 1#32
  let v2331 : BitVec 32 := Scalar.subi v2316 c1_i32_1248
  let v2332 : BitVec 32 := Scalar.select v2330 v2331 v2316
  let c4_i32_1259 : BitVec 32 := 4#32
  let v2345 : BitVec 32 := Scalar.muli v2332 c4_i32_1259
  let v2346 : BitVec 32 := Scalar.addi v2344 v2345
  let c4_i32_1249 : BitVec 32 := 4#32
  let c0_i32_1250 : BitVec 32 := 0#32
  let v2333 : BitVec 1 := Scalar.cmpi .eq c4_i32_1249 c0_i32_1250
  let c1_i32_1251 : BitVec 32 := 1#32
  let v2334 : BitVec 32 := Scalar.select v2333 c1_i32_1251 c4_i32_1249
  let v2335 : BitVec 32 := Scalar.remsi v2288 v2334
  let c0_i32_1253 : BitVec 32 := 0#32
  let v2337 : BitVec 1 := Scalar.cmpi .slt v2335 c0_i32_1253
  let c0_i32_1254 : BitVec 32 := 0#32
  let v2338 : BitVec 1 := Scalar.cmpi .slt v2334 c0_i32_1254
  let v2339 : BitVec 1 := Scalar.xori v2337 v2338
  let c0_i32_1252 : BitVec 32 := 0#32
  let v2336 : BitVec 1 := Scalar.cmpi .ne v2335 c0_i32_1252
  let v2340 : BitVec 1 := Scalar.andi v2339 v2336
  let v2341 : BitVec 32 := Scalar.addi v2335 v2334
  let v2342 : BitVec 32 := Scalar.select v2340 v2341 v2335
  let c1_i32_1260 : BitVec 32 := 1#32
  let v2347 : BitVec 32 := Scalar.muli v2342 c1_i32_1260
  let v2348 : BitVec 32 := Scalar.addi v2346 v2347
  v2348.toNat
def k0_off5 (d0 : Dev nD) (c1_i32_1265 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let v2357 : BitVec 32 := Scalar.addi v12 c1_i32_1265
  let c16_i32_1266 : BitVec 32 := 16#32
  let c0_i32_1267 : BitVec 32 := 0#32
  let v2358 : BitVec 1 := Scalar.cmpi .eq c16_i32_1266 c0_i32_1267
  let c1_i32_1268 : BitVec 32 := 1#32
  let v2359 : BitVec 32 := Scalar.select v2358 c1_i32_1268 c16_i32_1266
  let v2360 : BitVec 32 := Scalar.remsi v2357 v2359
  let c0_i32_1270 : BitVec 32 := 0#32
  let v2362 : BitVec 1 := Scalar.cmpi .slt v2360 c0_i32_1270
  let c0_i32_1271 : BitVec 32 := 0#32
  let v2363 : BitVec 1 := Scalar.cmpi .slt v2359 c0_i32_1271
  let v2364 : BitVec 1 := Scalar.xori v2362 v2363
  let c0_i32_1269 : BitVec 32 := 0#32
  let v2361 : BitVec 1 := Scalar.cmpi .ne v2360 c0_i32_1269
  let v2365 : BitVec 1 := Scalar.andi v2364 v2361
  let v2366 : BitVec 32 := Scalar.addi v2360 v2359
  let v2367 : BitVec 32 := Scalar.select v2365 v2366 v2360
  let c0_i32_1278 : BitVec 32 := 0#32
  let c0_i32_1279 : BitVec 32 := 0#32
  ![v2367.toNat, 0, 0]
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x2048 : Shape := ⟨2, ![1, 2048]⟩
abbrev S2x2048 : Shape := ⟨2, ![2, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S_, .f32⟩
  | .hbm, ⟨6, _⟩ => ⟨S4096x1, .f32⟩
  | .hbm, ⟨7, _⟩ => ⟨S4096x1, .f32⟩
  | .hbm, ⟨8, _⟩ => ⟨S_, .i32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S1x2048, .f32⟩
  | .hbm, ⟨50, _⟩ => ⟨S2x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_cst_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]
-- ==== Proof.Program.lean ====
/-
The kernel body as a short program.

The printed body repeats four things fifteen times: the signals to the other devices, the copies to them, the
waits for what they send, and the waits for the own copies to have left. This module writes the body with four
loops over a list of fifteen positions and proves that the printed body is that program, by unfolding. It also
proves what the printed device and offset words compute: the `p`-th copy of device `c` goes to device
`(c + p + 1) mod 16`, and every device's slot is the one with its own number.
-/
module

public import proofs.«01_k».proof.Proof.Gen.KernelIdeal.Skeleton
public import Idealize.ShloMosaic.Lib.Pipeline.Regions

@[expose] public section

noncomputable section

namespace Cert.KernelIdeal.Body

open Idealize.ShloMosaic Idealize.ShloMosaic.TcCoe Idealize.SL.Sem Cert.KernelIdeal.Gen

variable {F : FTy → Type} [FloatOps F]

/-- The programs of one TensorCore of this kernel. -/
abbrev P (F : FTy → Type) := Prog (TpuEff nD τ sig (Elt F) Λ₀ .tc)

/-- Run `f` at every element of a list, in its order. -/
def each {α : Type} : List α → (α → P F PUnit) → P F PUnit
  | [], _ => pure ⟨⟩
  | a :: l, f => f a >>= fun _ => each l f

/-- The fifteen positions, in the order in which the body visits them. -/
abbrev fifteen : List (Fin 15) := [0, 1, 2, 3, 4, 5, 6, 7, 8, 9, 10, 11, 12, 13, 14]

/-- The device that the `p`-th signal of device `d` goes to, as printed. -/
def sigDev (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩]

/-- The device that the `p`-th copy of device `d` goes to, as printed. -/
def sendDev (d : Dev nD) : Fin 15 → Dev nD :=
  ![⟨k0_dev16 d, k0_dev16_lt d⟩, ⟨k0_dev17 d, k0_dev17_lt d⟩, ⟨k0_dev18 d, k0_dev18_lt d⟩, ⟨k0_dev19 d, k0_dev19_lt d⟩,
    ⟨k0_dev20 d, k0_dev20_lt d⟩, ⟨k0_dev21 d, k0_dev21_lt d⟩, ⟨k0_dev22 d, k0_dev22_lt d⟩, ⟨k0_dev23 d, k0_dev23_lt d⟩,
    ⟨k0_dev24 d, k0_dev24_lt d⟩, ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩]

/-- The device `p + 1` places after `c`, cyclically. -/
def sh (p : Fin 15) (c : Dev nD) : Dev nD := ⟨(c.val + (p.val + 1)) % 16, Nat.mod_lt _ (by decide)⟩

theorem sigDev_eq : ∀ (p : Fin 15) (d : Dev nD), sigDev d p = sh p d := by decide +kernel
theorem sendDev_eq : ∀ (p : Fin 15) (d : Dev nD), sendDev d p = sh p d := by decide +kernel
/-- Going on by the reversed position comes back. -/
theorem sh_rev : ∀ (p : Fin 15) (d : Dev nD), sh p.rev (sh p d) = d := by decide +kernel
theorem sh_ne : ∀ (p : Fin 15) (d : Dev nD), sh p d ≠ d := by decide +kernel
theorem sh_inj : ∀ (d : Dev nD), Function.Injective fun p => sh p d := by decide +kernel
/-- The source of what the `q`-th wait expects: the device of the slot that the wait names. -/
theorem off5_eq : ∀ (q : Fin 15) (d : Dev nD), k0_off5 d (BitVec.ofNat 32 (1 + q.val)) = ![(sh q d).val, 0, 0] := by decide +kernel
theorem off4_eq : ∀ (d : Dev nD), k0_off4 d = ![d.val, 0, 0] := by decide +kernel
theorem off2_eq : ∀ (d : Dev nD), k0_off2 d = ![d.val, 0, 0] := by decide +kernel
theorem off3_eq : ∀ (d : Dev nD), k0_off3 d = ![d.val, 1, 0] := by decide +kernel

theorem inb16 : ∀ (p : Fin 15), ∀ i, (![p.val + 1] : Fin 1 → ℕ) i + S1.size i ≤ S16.size i := by decide

abbrev xB : Memref sig .tc .vmem S256x2048 .f32 := Memref.whole cc0_scratch0
abbrev dB : Memref sig .tc .vmem S256x2048 .f32 := Memref.whole cc0_scratch1
abbrev allB : Memref sig .tc .vmem S16x2x2048 .f32 := Memref.whole cc0_scratch2

/-- The semaphore that says that a local copy has landed. -/
abbrev locSem (k : Fin 4) (h : ∀ i, (![k.val] : Fin 1 → ℕ) i + S1.size i ≤ S4.size i) : DmaSem sig :=
  ((cc0_scratch3.slice (Rect.unit (s := S4) ![k.val] S1.size h)).squeeze S_ squeezes_S1_S_).sem
/-- The semaphore that says that the `p`-th copy has left. -/
abbrev sendSem (p : Fin 15) : DmaSem sig :=
  ((cc0_scratch4.slice (Rect.unit (s := S16) ![p.val + 1] S1.size (inb16 p))).squeeze S_ squeezes_S1_S_).sem
/-- The semaphore that says that the slot of the device `q + 1` places on has arrived. -/
abbrev recvSem (q : Fin 15) : DmaSem sig :=
  ((cc0_scratch5.slice (Rect.unit (s := S16) ![q.val + 1] S1.size (inb16 q))).squeeze S_ squeezes_S1_S_).sem
/-- The barrier semaphore. -/
abbrev barS : Sem sig := (SemArray.scalar (sig.barrier 0 rfl) : Sems sig S_).sem

/-- The own slot of the table of partial sums, the fifteen-fold source and destination. -/
abbrev slot4 (d : Dev nD) : Memref sig .tc .vmem S2x2048 .f32 :=
  (allB.slice (Rect.unit (s := S16x2x2048) (k0_off4 d) S1x2x2048.size (k0_off4_inb d)) (fun _ => rfl)).squeeze S2x2048 squeezes_S1x2x2048_S2x2048
/-- The slot that the `q`-th wait names. -/
abbrev slot5 (d : Dev nD) (q : Fin 15) : Memref sig .tc .vmem S2x2048 .f32 :=
  (allB.slice (Rect.unit (s := S16x2x2048) (k0_off5 d (BitVec.ofNat 32 (1 + q.val))) S1x2x2048.size (k0_off5_inb d q)) (fun _ => rfl)).squeeze S2x2048 squeezes_S1x2x2048_S2x2048

/-- The `r`-th half of the device's rows of an argument. -/
abbrev rows (a : Memref sig .tc .hbm S2048x2048 .f32) (d : Dev nD) (r : Fin 2) : Memref sig .tc .hbm S128x2048 .f32 :=
  a.slice (Rect.unit (s := S2048x2048) (k0_off1 d (BitVec.ofNat 32 (128 * r.val))) S128x2048.size (k0_off1_inb d r)) (fun _ => rfl)
abbrev xA : Memref sig .tc .hbm S2048x2048 .f32 := Memref.whole main_arg0
abbrev dA : Memref sig .tc .hbm S2048x2048 .f32 := Memref.whole main_arg1

/-- The two halves of a 256-row buffer. -/
abbrev lo : Rect S256x2048 := Rect.unit (s := S256x2048) ![0, 0] S128x2048.size inb_S256x2048_S128x2048_0_0
abbrev hi : Rect S256x2048 := Rect.unit (s := S256x2048) ![128, 0] S128x2048.size inb_S256x2048_S128x2048_128_0
abbrev loOf (b : Memref sig .tc .vmem S256x2048 .f32) : Memref sig .tc .vmem S128x2048 .f32 := b.slice lo (fun _ => rfl)
abbrev hiOf (b : Memref sig .tc .vmem S256x2048 .f32) : Memref sig .tc .vmem S128x2048 .f32 := b.slice hi (fun _ => rfl)

abbrev rect2 (d : Dev nD) : Rect S16x2x2048 := Rect.unit (s := S16x2x2048) (k0_off2 d) S1x1x2048.size (k0_off2_inb d)
abbrev rect3 (d : Dev nD) : Rect S16x2x2048 := Rect.unit (s := S16x2x2048) (k0_off3 d) S1x1x2048.size (k0_off3_inb d)

/-- A local copy from an argument. -/
abbrev copyIn (src : Memref sig .tc .hbm S128x2048 .f32) (dst : Memref sig .tc .vmem S128x2048 .f32) (s : DmaSem sig)
    (h₁ : src.view.WordExact) (h₂ : dst.view.WordExact) : P F PUnit :=
  Prog.lift (.enqueueDma src (.here dst) (.dma s) h₁ h₂ ⟨Or.inl rfl, trivial⟩)

/-- The row of `dgamma` that the two halves give: the first half's sum plus the second half's. -/
def gRow (x0 d0 x1 d1 : Vec F S128x2048 .f32) : FVec F S1x1x2048 .f32 :=
  k0_pay9 (k0_pay4 k0_pay1 x0 (k0_pay3 x0) d0) (k0_pay6 x1) (k0_pay7 x1) k0_pay8 d1
/-- The row of `dbeta` that the two halves give. -/
def bRow (d0 d1 : Vec F S128x2048 .f32) : FVec F S1x1x2048 .f32 := k0_pay10 (k0_pay5 k0_pay2 d0) d1

def signals (d : Dev nD) : P F PUnit := each fifteen fun p => semSignalWord (sigDev d p) barS 1#32

def sends (d : Dev nD) : P F PUnit := each fifteen fun p =>
  Prog.lift (.enqueueDma (slot4 d) (.remote (Dev.tc (sendDev d p)) (slot4 d) (.dma (sendSem p))) (.dma (recvSem p.rev))
    ((View.wordExact_bits rfl).reshape _ _) ((View.wordExact_bits rfl).reshape _ _) ⟨⟨rfl, Or.inl rfl⟩, trivial⟩)

def recvs (d : Dev nD) : P F PUnit := each fifteen fun q =>
  Prog.lift (.waitDma2 (recvSem q) (slot4 d) (slot5 d q) ((View.wordExact_bits rfl).reshape _ _) ((View.wordExact_bits rfl).reshape _ _))

def leaves (d : Dev nD) : P F PUnit := each fifteen fun p =>
  Prog.lift (.waitDma2 (sendSem p) (slot4 d) (slot4 d) ((View.wordExact_bits rfl).reshape _ _) ((View.wordExact_bits rfl).reshape _ _))

/-- From the local copies to the own slot: two halves fetched, summed and stored. -/
def compute (d : Dev nD) : P F PUnit := do
  copyIn (rows xA d 0) (loOf xB) (locSem 0 inb_S4_S1_0) (View.wordExact_bits rfl) (View.wordExact_bits rfl)
  copyIn (rows dA d 0) (loOf dB) (locSem 1 inb_S4_S1_1) (View.wordExact_bits rfl) (View.wordExact_bits rfl)
  copyIn (rows xA d 1) (hiOf xB) (locSem 2 inb_S4_S1_2) (View.wordExact_bits rfl) (View.wordExact_bits rfl)
  copyIn (rows dA d 1) (hiOf dB) (locSem 3 inb_S4_S1_3) (View.wordExact_bits rfl) (View.wordExact_bits rfl)
  Prog.lift (.waitDma2 (locSem 0 inb_S4_S1_0) (rows xA d 0) (loOf xB) (View.wordExact_bits rfl) (View.wordExact_bits rfl))
  let x0 : Vec F S128x2048 .f32 ← Prog.lift (.load xB lo.toLoadRect (View.loadsAt_vmem h_S128x2048))
  Prog.lift (.waitDma2 (locSem 1 inb_S4_S1_1) (rows dA d 0) (loOf dB) (View.wordExact_bits rfl) (View.wordExact_bits rfl))
  let d0 : Vec F S128x2048 .f32 ← Prog.lift (.load dB lo.toLoadRect (View.loadsAt_vmem h_S128x2048))
  Prog.lift (.waitDma2 (locSem 2 inb_S4_S1_2) (rows xA d 1) (hiOf xB) (View.wordExact_bits rfl) (View.wordExact_bits rfl))
  let x1 : Vec F S128x2048 .f32 ← Prog.lift (.load xB hi.toLoadRect (View.loadsAt_vmem h_S128x2048))
  Prog.lift (.waitDma2 (locSem 3 inb_S4_S1_3) (rows dA d 1) (hiOf dB) (View.wordExact_bits rfl) (View.wordExact_bits rfl))
  let d1 : Vec F S128x2048 .f32 ← Prog.lift (.load dB hi.toLoadRect (View.loadsAt_vmem h_S128x2048))
  let _u : Vec F S1x1x2048 .f32 ← Prog.lift (.load allB (rect2 d).toLoadRect (View.loadsAt_vmem h_S1x1x2048))
  Prog.lift (.store allB (rect2 d) (gRow x0 d0 x1 d1) Finset.univ (View.stores_vmem_bits_univ h_S1x1x2048 rfl) (.inl rfl))
  let _u' : Vec F S1x1x2048 .f32 ← Prog.lift (.load allB (rect3 d).toLoadRect (View.loadsAt_vmem h_S1x1x2048))
  Prog.lift (.store allB (rect3 d) (bRow d0 d1) Finset.univ (View.stores_vmem_bits_univ h_S1x1x2048 rfl) (.inl rfl))

/-- The sixteen slots summed into the staged result. -/
def total (out : Memref sig .tc .vmem S2x2048 .f32) : P F PUnit := do
  let v : Vec F S16x2x2048 .f32 ← Prog.lift (.load allB (Rect.unit (s := S16x2x2048) ![0, 0, 0] S16x2x2048.size inb_S16x2x2048_S16x2x2048_0_0_0).toLoadRect (View.loadsAt_vmem h_S16x2x2048))
  let _u : Vec F S2x2048 .f32 ← Prog.lift (.load out (Rect.unit (s := S2x2048) ![0, 0] S2x2048.size inb_S2x2048_S2x2048_0_0).toLoadRect (View.loadsAt_vmem h_S2x2048))
  Prog.lift (.store out (Rect.unit (s := S2x2048) ![0, 0] S2x2048.size inb_S2x2048_S2x2048_0_0) (k0_pay11 v) Finset.univ (View.stores_vmem_bits_univ h_S2x2048 rfl) (.inl rfl))

/-- The whole body. -/
def body (out : Memref sig .tc .vmem S2x2048 .f32) : P F PUnit := do
  let d : Dev nD ← Prog.lift .deviceId
  signals d
  compute d
  semWaitWord barS 15#32
  sends d
  recvs d
  total out
  leaves d

set_option maxRecDepth 65536 in
/-- The printed body is this program. -/
theorem cc0_body_eq (out : Memref sig .tc .vmem S2x2048 .f32) (h₀ h₁ h₂ h₃ h₄ h₅) :
    cc0_body (F := F) (Memref.whole main_arg0) h₀ (Memref.whole main_arg1) h₁ out h₂ (Memref.whole cc0_scratch0) h₃
      (Memref.whole cc0_scratch1) h₄ (Memref.whole cc0_scratch2) h₅ cc0_scratch3 cc0_scratch4 cc0_scratch5 = body out := by
  chain_rfl

end Cert.KernelIdeal.Body

end
-- ==== Proof.Contents.lean ====
/-
What the buffers hold.

Device `c` reads two halves of its rows of each argument and makes two rows of 2048 numbers from them, its slot of
the table of partial sums. After the exchange every device's table is the same one, `table`: slot `j` holds what
device `j` made. This module defines the table and proves what the protocol needs of it: the slots are disjoint and
cover the table, what the two stores leave in the own slot is the table's slot, and a slot copied into the same slot
of another device is the table's slot there.
-/
module

public import proofs.«01_k».proof.Proof.Program
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Body

open Idealize.ShloMosaic Idealize.ShloMosaic.TcCoe Idealize.SL.Sem Cert.KernelIdeal.Gen

variable {F : FTy → Type} [FloatOps F]
variable (m : (ℓ : Loc nD τ sig) → Buf (Elt F) ℓ)

/-! ## The local copies -/

/-- The source of the `k`-th local copy: the first argument for even `k`, the second for odd; the first half for
    `k < 2`, then the second. -/
def srcM (c : Dev nD) : Fin 4 → Memref sig .tc .hbm S128x2048 .f32 := ![rows xA c 0, rows dA c 0, rows xA c 1, rows dA c 1]
/-- The buffer that it fills a half of, -/
def bufM : Fin 4 → Memref sig .tc .vmem S256x2048 .f32 := ![xB, dB, xB, dB]
theorem inbM : ∀ (k : Fin 4), ∀ i, (![128 * (k.val / 2), 0] : Fin 2 → ℕ) i + S128x2048.size i ≤ S256x2048.size i := by decide
/-- which half of it, -/
abbrev rectM (k : Fin 4) : Rect S256x2048 := Rect.unit (s := S256x2048) ![128 * (k.val / 2), 0] S128x2048.size (inbM k)
/-- and that half. -/
def dstM (k : Fin 4) : Memref sig .tc .vmem S128x2048 .f32 := (bufM k).slice (rectM k) (fun _ => rfl)

theorem src_exact (c : Dev nD) (k : Fin 4) : (srcM c k).view.WordExact := by
  fin_cases k <;> exact View.wordExact_bits rfl
theorem dst_exact (k : Fin 4) : (dstM k).view.WordExact := by
  fin_cases k <;> exact View.wordExact_bits rfl

/-- The rows that device `c` reads: half `r` of its rows of the first argument, -/
def xs (c : Dev nD) (r : Fin 2) : Vec F S128x2048 .f32 :=
  (rows xA c r).view.read (Elt F) (m ((c : Thread nD τ).loc main_arg0))
/-- and of the second. -/
def ds (c : Dev nD) (r : Fin 2) : Vec F S128x2048 .f32 :=
  (rows dA c r).view.read (Elt F) (m ((c : Thread nD τ).loc main_arg1))

/-- What the `k`-th local copy brings. -/
def brought (c : Dev nD) (k : Fin 4) : Vec F S128x2048 .f32 :=
  (srcM c k).view.read (Elt F) (m ((srcM c k).view.loc (c : Thread nD τ)))

/-! ## The table -/

/-- Device `c`'s row of `dgamma`, -/
def gPart (c : Dev nD) : FVec F S1x1x2048 .f32 := gRow (xs m c 0) (ds m c 0) (xs m c 1) (ds m c 1)
/-- and of `dbeta`. -/
def bPart (c : Dev nD) : FVec F S1x1x2048 .f32 := bRow (ds m c 0) (ds m c 1)

/-- The device of a slot. -/
def slotDev (i : S16x2x2048.Idx) : Dev nD := ⟨(i 0).val, (i 0).isLt⟩
/-- The position in a row. -/
def inRow (i : S16x2x2048.Idx) : S1x1x2048.Idx := fun a => match a with
  | ⟨0, _⟩ => ⟨0, Nat.one_pos⟩
  | ⟨1, _⟩ => ⟨0, Nat.one_pos⟩
  | ⟨2, _⟩ => ⟨(i 2).val, (i 2).isLt⟩

/-- The table of partial sums after the exchange, the same on every device. -/
def table : (cc0_scratch2 : Ref sig .tc).ty.Contents (Elt F) := fun i : S16x2x2048.Idx =>
  if (i 1).val = 0 then gPart m (slotDev i) (inRow i) else bPart m (slotDev i) (inRow i)

/-! ## The slots -/

/-- The elements of slot `j`. -/
abbrev slotSet (j : Dev nD) : Finset (cc0_scratch2 : Ref sig .tc).ty.Idx := (slot4 j).view.set

theorem slotSet_eq (j : Dev nD) : slotSet j = (Rect.unit (s := S16x2x2048) (k0_off4 j) S1x2x2048.size (k0_off4_inb j)).set :=
  (View.set_reshape _ _).trans (View.set_slice_whole _ _)

theorem mem_slotSet (j : Dev nD) (i : S16x2x2048.Idx) : i ∈ slotSet j ↔ (i 0).val = j.val := by
  rw [slotSet_eq, Rect.mem_set_unit, off4_eq]
  constructor
  · intro h
    have := h 0
    simp only [Matrix.cons_val_zero, S1x2x2048] at this
    omega
  · intro h a
    have h1 := (i 1).isLt
    have h2 := (i 2).isLt
    fin_cases a
    · simp [S1x2x2048]; omega
    · simpa [S1x2x2048] using h1
    · simpa [S1x2x2048] using h2

theorem slots_disjoint (j j' : Dev nD) (h : j ≠ j') : Disjoint (slotSet j) (slotSet j') :=
  Finset.disjoint_left.mpr fun i h₁ h₂ => h (Fin.ext (((mem_slotSet j i).mp h₁).symm.trans ((mem_slotSet j' i).mp h₂)))

theorem slots_cover : (Finset.univ : Finset (Dev nD)).biUnion slotSet = Finset.univ := by
  ext i
  simp only [Finset.mem_biUnion, Finset.mem_univ, true_and, iff_true]
  exact ⟨slotDev i, (mem_slotSet _ i).mpr rfl⟩

/-! ## What the writes leave -/

/-- Writing through a view what the view reads off `g` agrees with `g` on the view. -/
theorem write_read_agree {sp : Space} {s : Shape} {e : EltTy} (v : View sig .tc sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply, cast_cast, cast_eq]

theorem rect2_emb (c : Dev nD) (x : S1x1x2048.Idx) :
    slotDev ((rect2 c).emb x) = c ∧ ((rect2 c).emb x 1).val = 0 ∧ inRow ((rect2 c).emb x) = x := by
  have h0 := (x 0).isLt
  have h1 := (x 1).isLt
  have e0 : ((rect2 c).emb x 0).val = k0_off2 c 0 + 1 * (x 0).val := rfl
  have e1 : ((rect2 c).emb x 1).val = k0_off2 c 1 + 1 * (x 1).val := rfl
  have e2 : ((rect2 c).emb x 2).val = k0_off2 c 2 + 1 * (x 2).val := rfl
  rw [off2_eq] at e0 e1 e2
  simp only [Matrix.cons_val_zero, Matrix.cons_val_one, Matrix.cons_val] at e0 e1 e2
  simp only [S1x1x2048, Matrix.cons_val_zero, Matrix.cons_val_one] at h0 h1
  refine ⟨Fin.ext (show ((rect2 c).emb x 0).val = _ by omega), by omega, funext fun a => ?_⟩
  fin_cases a
  · exact Fin.ext (show 0 = (x 0).val by omega)
  · exact Fin.ext (show 0 = (x 1).val by omega)
  · exact Fin.ext (show ((rect2 c).emb x 2).val = (x 2).val by omega)

theorem rect3_emb (c : Dev nD) (x : S1x1x2048.Idx) :
    slotDev ((rect3 c).emb x) = c ∧ ((rect3 c).emb x 1).val = 1 ∧ inRow ((rect3 c).emb x) = x := by
  have h0 := (x 0).isLt
  have h1 := (x 1).isLt
  have e0 : ((rect3 c).emb x 0).val = k0_off3 c 0 + 1 * (x 0).val := rfl
  have e1 : ((rect3 c).emb x 1).val = k0_off3 c 1 + 1 * (x 1).val := rfl
  have e2 : ((rect3 c).emb x 2).val = k0_off3 c 2 + 1 * (x 2).val := rfl
  rw [off3_eq] at e0 e1 e2
  simp only [Matrix.cons_val_zero, Matrix.cons_val_one, Matrix.cons_val] at e0 e1 e2
  simp only [S1x1x2048, Matrix.cons_val_zero, Matrix.cons_val_one] at h0 h1
  refine ⟨Fin.ext (show ((rect3 c).emb x 0).val = _ by omega), by omega, funext fun a => ?_⟩
  fin_cases a
  · exact Fin.ext (show 0 = (x 0).val by omega)
  · exact Fin.ext (show 0 = (x 1).val by omega)
  · exact Fin.ext (show ((rect3 c).emb x 2).val = (x 2).val by omega)

theorem table_rect2 (c : Dev nD) (x : S1x1x2048.Idx) : table m ((rect2 c).emb x) = gPart m c x := by
  obtain ⟨h, h', h''⟩ := rect2_emb c x
  unfold table; rw [if_pos h', h, h'']

theorem table_rect3 (c : Dev nD) (x : S1x1x2048.Idx) : table m ((rect3 c).emb x) = bPart m c x := by
  obtain ⟨h, h', h''⟩ := rect3_emb c x
  unfold table; rw [if_neg (by omega), h, h'']

theorem mem_rect3 (c : Dev nD) (i : S16x2x2048.Idx) : i ∈ (rect3 c).set ↔ (i 0).val = c.val ∧ (i 1).val = 1 := by
  rw [Rect.mem_set_unit, off3_eq]
  constructor
  · intro h
    have h0 := h 0
    have h1 := h 1
    simp only [Matrix.cons_val_zero, Matrix.cons_val_one, S1x1x2048] at h0 h1
    omega
  · intro h a
    have h2 := (i 2).isLt
    fin_cases a
    · simp [S1x1x2048]; omega
    · simp [S1x1x2048]; omega
    · simpa [S1x1x2048] using h2

theorem mem_rect2 (c : Dev nD) (i : S16x2x2048.Idx) : i ∈ (rect2 c).set ↔ (i 0).val = c.val ∧ (i 1).val = 0 := by
  rw [Rect.mem_set_unit, off2_eq]
  constructor
  · intro h
    have h0 := h 0
    have h1 := h 1
    simp only [Matrix.cons_val_zero, Matrix.cons_val_one, S1x1x2048] at h0 h1
    omega
  · intro h a
    have h2 := (i 2).isLt
    fin_cases a
    · simp [S1x1x2048]; omega
    · simp [S1x1x2048]; omega
    · simpa [S1x1x2048] using h2

theorem acc2_set (c : Dev nD) : (allB.access (rect2 c)).set = (rect2 c).set := View.set_slice_whole _ _
theorem acc3_set (c : Dev nD) : (allB.access (rect3 c)).set = (rect3 c).set := View.set_slice_whole _ _
theorem rect2_sub (c : Dev nD) : (rect2 c).set ⊆ slotSet c := fun i h => (mem_slotSet c i).mpr ((mem_rect2 c i).mp h).1
theorem rect3_sub (c : Dev nD) : (rect3 c).set ⊆ slotSet c := fun i h => (mem_slotSet c i).mpr ((mem_rect3 c i).mp h).1

/-- The own slot after the two stores is the table's. -/
theorem stored_agree (c : Dev nD) (f : (cc0_scratch2 : Ref sig .tc).ty.Contents (Elt F)) :
    ∀ i ∈ slotSet c, (allB.access (rect3 c)).write (Elt F) ((allB.access (rect2 c)).write (Elt F) f (gPart m c) Finset.univ) (bPart m c) Finset.univ i
      = table m i := by
  intro i hi
  by_cases h1 : i ∈ (rect3 c).set
  · obtain ⟨x, -, rfl⟩ := Finset.mem_map.mp (((acc3_set c).symm ▸ h1 : i ∈ (allB.access (rect3 c)).set))
    rw [View.write_emb_of_mem _ _ (Finset.mem_univ x)]
    exact (table_rect3 m c x).symm
  · rw [View.write_of_not_mem _ _ _ (by rw [View.setOn_univ, acc3_set]; exact h1)]
    have h2 : i ∈ (rect2 c).set := by
      rw [mem_rect2]
      have e := (mem_slotSet c i).mp hi
      have hlt := (i 1).isLt
      refine ⟨e, ?_⟩
      by_contra hne
      refine h1 ((mem_rect3 c i).mpr ⟨e, ?_⟩)
      change (i 1).val < 2 at hlt
      omega
    obtain ⟨x, -, rfl⟩ := Finset.mem_map.mp (((acc2_set c).symm ▸ h2 : i ∈ (allB.access (rect2 c)).set))
    rw [View.write_emb_of_mem _ _ (Finset.mem_univ x)]
    exact (table_rect2 m c x).symm

end Cert.KernelIdeal.Body

end
-- ==== Proof.Schedule.lean ====
/-
The protocol between the devices.

Every device has one barrier cell, four cells for its local copies, and for each other device one cell that says
that its copy to that device has left and one that says that that device's copy has arrived. Each cell has one
round.

* Barrier cell of `c`: fifteen duties of one unit. Duty `p` is paid by the device `p + 1` places on, and it hands
  `c` slot `c` of that device's table, to be written by `c`.
* Receive cell `q` of `c`: one duty, paid by the copy of the device `q + 1` places on. It hands `c` that device's
  slot of `c`'s own table, with the contents of `table`.
* Send cell `p` of `c`: one duty, paid by `c`'s own copy when it has left. It gives back the share of the own slot
  that the copy read.
* Local cell `k` of `c`: one duty, paid by the `k`-th local copy. It gives the filled half buffer and gives back the
  share of the rows that were read.

A device waits at its barrier while it owes receive credits, so barrier cells lie below receive cells; at every
other wait within the exchange it owes nothing.
-/
module

public import proofs.«01_k».proof.Proof.Contents
public import proofs.«01_k».proof.Proof.Gen.KernelIdeal.Launch

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The ghost state: the pipeline's own, and the exchange's, its duties named by fifteen positions. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- What a semaphore is for. -/
inductive Role where
  | bar
  | loc (k : Fin 4)
  | send (p : Fin 15)
  | recv (q : Fin 15)
  | idle
  deriving DecidableEq

/-- The role of a semaphore, by its number. -/
def role : SemLoc sig → Role
  | .reg s => if s = barS then .bar else .idle
  | .dma i =>
    if h : 1 ≤ i.val ∧ i.val < 5 then .loc ⟨i.val - 1, by omega⟩
    else if h : 6 ≤ i.val ∧ i.val < 21 then .send ⟨i.val - 6, by omega⟩
    else if h : 22 ≤ i.val ∧ i.val < 37 then .recv ⟨i.val - 22, by omega⟩
    else .idle

theorem inb4 : ∀ (k : Fin 4), ∀ i, (![k.val] : Fin 1 → ℕ) i + S1.size i ≤ S4.size i := by decide
/-- The semaphore of the `k`-th local copy. -/
abbrev locS (k : Fin 4) : DmaSem sig := locSem k (inb4 k)

theorem role_bar : role (.reg barS) = .bar := by decide
theorem role_loc : ∀ k, role (.dma (locS k)) = .loc k := by decide +kernel
theorem role_send : ∀ p, role (.dma (sendSem p)) = .send p := by decide +kernel
theorem role_recv : ∀ q, role (.dma (recvSem q)) = .recv q := by decide +kernel

abbrev barCell (c : Dev nD) : GSem nD τ sig := ((c : Thread nD τ), .reg barS)
abbrev locCell (k : Fin 4) (c : Dev nD) : GSem nD τ sig := ((c : Thread nD τ), .dma (locS k))
abbrev sendCell (p : Fin 15) (c : Dev nD) : GSem nD τ sig := ((c : Thread nD τ), .dma (sendSem p))
abbrev recvCell (q : Fin 15) (c : Dev nD) : GSem nD τ sig := ((c : Thread nD τ), .dma (recvSem q))

/-! ## What is handed over -/

/-- A slot of a device's table at a share. -/
def slotPts (j t : Dev nD) (q : PosShare TreeShare) (f : (cc0_scratch2 : Ref sig .tc).ty.Contents (Elt F)) : sProp 𝕄 :=
  (slot4 j).view.loc (t : Thread nD τ) ↦[(slot4 j).view.set]{q} f

/-- The sixteen shares of the own slot: one for each copy and one kept. -/
abbrev shr (i : Fin 16) : PosShare TreeShare := ShareLeaves.leaf 4 fullShare i
/-- The share of the rows that a local copy reads: one half of the array for the first half of the rows, the other for the second. -/
def half (k : Fin 4) : PosShare TreeShare := if k.val < 2 then fullShare.left else fullShare.right

/-- The half buffer that the `k`-th local copy fills, holding what it brings. -/
def filled (c : Dev nD) (k : Fin 4) : sProp 𝕄 :=
  iprop(∃ f, ⌜(dstM k).view.read (Elt F) f = brought m c k⌝ ∗ (dstM k).view.loc (c : Thread nD τ) ↦[(dstM k).view.set]{fullShare} f)
/-- The rows that the `k`-th local copy reads. -/
def rowPts (c : Dev nD) (k : Fin 4) : sProp 𝕄 :=
  (srcM c k).view.loc (c : Thread nD τ) ↦[(srcM c k).view.set]{half k} m ((srcM c k).view.loc (c : Thread nD τ))

/-- What each duty of a cell of device `c` hands over. -/
def pay (c : Dev nD) : Role → Fin 15 → sProp 𝕄
  | .bar, p => iprop(∃ f, slotPts c (sh p c) fullShare f)
  | .loc k, _ => iprop(filled m c k ∗ rowPts m c k)
  | .send p, _ => slotPts c c (shr p.castSucc) (table m)
  | .recv q, _ => slotPts (sh q c) c fullShare (table m)
  | .idle, _ => iprop(emp)

instance pay_storable (c : Dev nD) (r : Role) (d : Fin 15) : BI.Storable (upEmb : UEmb _ 𝕄) (pay m c r d) := by
  unfold pay filled rowPts slotPts
  cases r <;> infer_instance

/-! ## The schedule -/

/-- The bytes of a slot, and of a half buffer, in the unit that the semaphores count. -/
def N : ℕ := (cc0_scratch2 : Ref sig .tc).dmaCredit S2x2048 .f32
abbrev M (k : Fin 4) : ℕ := (dstM k).view.dmaCredit
theorem credit4 (d : Dev nD) : (slot4 d).view.dmaCredit = N := rfl
theorem credit5 (d : Dev nD) (q : Fin 15) : (slot5 d q).view.dmaCredit = N := rfl
theorem N_pos : 0 < N := by rw [← credit4 0]; exact View.dmaCredit_pos _ (by decide)
theorem M_pos (k : Fin 4) : 0 < M k := View.dmaCredit_pos _ (by decide)

/-- The duties of a cell, by its role. -/
def dutiesOf : Role → Finset (Fin 15)
  | .bar => Finset.univ
  | .idle => ∅
  | _ => {0}
/-- The amount of each. -/
def amountOf : Role → ℕ
  | .bar => 1
  | .loc k => M k
  | _ => N

theorem amountOf_pos (r : Role) : 0 < amountOf r := by
  cases r
  · exact Nat.one_pos
  · exact M_pos _
  · exact N_pos
  · exact N_pos
  · exact N_pos

/-- One round, round 0, on the TensorCores' cells. -/
def Rd : Rounds.Schedule (GSem nD τ sig) (Fin 15) 𝕄 where
  duties g r := if r = 0 ∧ g.1.2 = .tc then dutiesOf (role g.2) else ∅
  unitless _ := False
  amount g _ _ := amountOf (role g.2)
  payload g _ d := pay m g.1.1 (role g.2) d
  amount_pos g _ _ _ := amountOf_pos _

instance Rd_payload_storable (g : GSem nD τ sig) (r : ℕ) (d : Fin 15) :
    BI.Storable (upEmb : UEmb _ 𝕄) ((Rd (F := F) m).payload g r d) := pay_storable m _ _ _

section Sched
variable (c : Dev nD)

theorem duties_bar : (Rd (F := F) m).duties (barCell c) 0 = Finset.univ := by
  dsimp only [Rd]; rw [if_pos ⟨rfl, rfl⟩, role_bar]; rfl
theorem duties_loc (k : Fin 4) : (Rd (F := F) m).duties (locCell k c) 0 = {0} := by
  dsimp only [Rd]; rw [if_pos ⟨rfl, rfl⟩, role_loc]; rfl
theorem duties_send (p : Fin 15) : (Rd (F := F) m).duties (sendCell p c) 0 = {0} := by
  dsimp only [Rd]; rw [if_pos ⟨rfl, rfl⟩, role_send]; rfl
theorem duties_recv (q : Fin 15) : (Rd (F := F) m).duties (recvCell q c) 0 = {0} := by
  dsimp only [Rd]; rw [if_pos ⟨rfl, rfl⟩, role_recv]; rfl
theorem duties_later (g : GSem nD τ sig) : ∀ r, 1 ≤ r → (Rd (F := F) m).duties g r = ∅ :=
  fun r hr => if_neg fun h => by omega
theorem duties_idle (g : GSem nD τ sig) (h : role g.2 = .idle) : ∀ r, 0 ≤ r → (Rd (F := F) m).duties g r = ∅ :=
  fun r _ => by dsimp only [Rd]; rw [h]; exact ite_self _

theorem amount_bar (d : Fin 15) : (Rd (F := F) m).amount (barCell c) 0 d = 1 := by dsimp only [Rd]; rw [role_bar]; rfl
theorem amount_loc (k : Fin 4) (d : Fin 15) : (Rd (F := F) m).amount (locCell k c) 0 d = M k := by dsimp only [Rd]; rw [role_loc]; rfl
theorem amount_send (p d : Fin 15) : (Rd (F := F) m).amount (sendCell p c) 0 d = N := by dsimp only [Rd]; rw [role_send]; rfl
theorem amount_recv (q d : Fin 15) : (Rd (F := F) m).amount (recvCell q c) 0 d = N := by dsimp only [Rd]; rw [role_recv]; rfl

theorem expect_bar : (Rd (F := F) m).expect (barCell c) 0 = 15 := by
  unfold Schedule.expect Schedule.amountOf
  rw [duties_bar, Finset.sum_congr rfl fun d _ => amount_bar m c d]; rfl
theorem expect_loc (k : Fin 4) : (Rd (F := F) m).expect (locCell k c) 0 = M k := by
  unfold Schedule.expect Schedule.amountOf; rw [duties_loc, Finset.sum_singleton, amount_loc]
theorem expect_send (p : Fin 15) : (Rd (F := F) m).expect (sendCell p c) 0 = N := by
  unfold Schedule.expect Schedule.amountOf; rw [duties_send, Finset.sum_singleton, amount_send]
theorem expect_recv (q : Fin 15) : (Rd (F := F) m).expect (recvCell q c) 0 = N := by
  unfold Schedule.expect Schedule.amountOf; rw [duties_recv, Finset.sum_singleton, amount_recv]

theorem payload_bar (p : Fin 15) : (Rd (F := F) m).payload (barCell c) 0 p = iprop(∃ f, slotPts c (sh p c) fullShare f) := by
  dsimp only [Rd]; rw [role_bar]; rfl
theorem payload_loc (k : Fin 4) (d : Fin 15) : (Rd (F := F) m).payload (locCell k c) 0 d = iprop(filled m c k ∗ rowPts m c k) := by
  dsimp only [Rd]; rw [role_loc]; rfl
theorem payload_send (p d : Fin 15) : (Rd (F := F) m).payload (sendCell p c) 0 d = slotPts c c (shr p.castSucc) (table m) := by
  dsimp only [Rd]; rw [role_send]; rfl
theorem payload_recv (q d : Fin 15) : (Rd (F := F) m).payload (recvCell q c) 0 d = slotPts (sh q c) c fullShare (table m) := by
  dsimp only [Rd]; rw [role_recv]; rfl

/-- What a wait for a whole round gives, per kind of cell. -/
theorem rest_bar : bigSep ((Rd (F := F) m).duties (barCell c) 0 \ ∅) (fun d => (Rd (F := F) m).payload (barCell c) 0 d)
    = bigSep Finset.univ fun p : Fin 15 => iprop(∃ f, slotPts c (sh p c) fullShare f) := by
  rw [Finset.sdiff_empty, duties_bar]; exact bigSep_congr fun p _ => payload_bar m c p
theorem rest_loc (k : Fin 4) : bigSep ((Rd (F := F) m).duties (locCell k c) 0 \ ∅) (fun d => (Rd (F := F) m).payload (locCell k c) 0 d)
    = iprop(filled m c k ∗ rowPts m c k) := by
  rw [Finset.sdiff_empty, duties_loc, bigSep_singleton, payload_loc]
theorem rest_send (p : Fin 15) : bigSep ((Rd (F := F) m).duties (sendCell p c) 0 \ ∅) (fun d => (Rd (F := F) m).payload (sendCell p c) 0 d)
    = slotPts c c (shr p.castSucc) (table m) := by
  rw [Finset.sdiff_empty, duties_send, bigSep_singleton, payload_send]
theorem rest_recv (q : Fin 15) : bigSep ((Rd (F := F) m).duties (recvCell q c) 0 \ ∅) (fun d => (Rd (F := F) m).payload (recvCell q c) 0 d)
    = slotPts (sh q c) c fullShare (table m) := by
  rw [Finset.sdiff_empty, duties_recv, bigSep_singleton, payload_recv]

end Sched

/-! ## What each device owes -/

/-- The receive credits that the copies of a list of positions still have to pay, -/
def owedR (c : Dev nD) : List (Fin 15) → CellTallies nD τ sig Unit
  | [] => 0
  | p :: l => owedR c l + tallyAt (recvCell p.rev (sh p c)) () N
/-- with the barrier units that the signals of a list of positions still have to pay. -/
def owedB (c : Dev nD) : List (Fin 15) → CellTallies nD τ sig Unit
  | [] => owedR c fifteen
  | p :: l => owedB c l + tallyAt (barCell (sh p c)) () 1

/-- At the start: everything. -/
def O₀ (c : Dev nD) : CellTallies nD τ sig Unit := owedB c fifteen

theorem add_pos_cases {A B : CellTallies nD τ sig Unit} {g : GSem nD τ sig} {u : Unit} (h : 0 < (A + B) g u) : 0 < A g u ∨ 0 < B g u := by
  rw [Pi.add_apply, Finsupp.add_apply] at h; omega

theorem tally_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

theorem owedR_pos (c : Dev nD) (l : List (Fin 15)) {g : GSem nD τ sig} {u : Unit} (h : 0 < owedR c l g u) : ∃ q d, g = recvCell q d := by
  induction l with
  | nil => exact absurd h (Nat.lt_irrefl 0)
  | cons p l ih => exact (add_pos_cases h).elim ih fun h => ⟨_, _, tally_pos h⟩

theorem owedB_pos (c : Dev nD) (l : List (Fin 15)) {g : GSem nD τ sig} {u : Unit} (h : 0 < owedB c l g u) :
    (∃ q d, g = recvCell q d) ∨ ∃ d, g = barCell d := by
  induction l with
  | nil => exact .inl (owedR_pos c _ h)
  | cons p l ih => exact (add_pos_cases h).elim ih fun h => .inr ⟨_, tally_pos h⟩

/-! ## Levels -/

def L (g : GSem nD τ sig) : Finset Unit := if g.1.2 = .tc then {()} else ∅
/-- Barrier cells at 1, receive cells at 2, all others at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (q : Fin 15) (c : Dev nD) : lv (recvCell q c) () = 2 := by unfold lv; rw [role_recv]

/-- A device may wait at a cell of level 0 whatever of its debts is left. -/
theorem mayWait_low (c : Dev nD) (sm : SemLoc sig) (h0 : lv ((c : Thread nD τ), sm) () = 0) (l : List (Fin 15)) :
    (levAts L lv : sProp 𝕄) ⊢ MayWait (c : Thread nD τ) sm () (owedB c l) :=
  MayOwe.of_cut (L := L) (lev := lv) 0 (fun p hp => by rw [Finset.mem_singleton.mp hp, L_tc]; exact Finset.mem_singleton_self _)
    (fun g u hg => by rcases owedB_pos c l hg with ⟨q, d, rfl⟩ | ⟨d, rfl⟩ <;> exact Finset.mem_singleton_self _)
    (fun p hp => by rw [Finset.mem_singleton.mp hp]; exact le_of_eq h0)
    (fun g u hg => by
      rcases owedB_pos c l hg with ⟨q, d, rfl⟩ | ⟨d, rfl⟩
      · rw [show lv (recvCell q d) u = 2 from lv_recv q d]; decide
      · rw [show lv (barCell d) u = 1 from lv_bar d]; decide)

/-- A device that owes nothing may wait anywhere low. -/
theorem mayWait_none (c : Dev nD) (sm : SemLoc sig) (h0 : lv ((c : Thread nD τ), sm) () = 0) :
    (levAts L lv : sProp 𝕄) ⊢ MayWait (c : Thread nD τ) sm () 0 :=
  MayOwe.of_cut (L := L) (lev := lv) 0 (fun p hp => by rw [Finset.mem_singleton.mp hp, L_tc]; exact Finset.mem_singleton_self _)
    (fun g u hg => absurd hg (Nat.lt_irrefl 0))
    (fun p hp => by rw [Finset.mem_singleton.mp hp]; exact le_of_eq h0)
    (fun g u hg => absurd hg (Nat.lt_irrefl 0))

/-- At its barrier a device owes receive credits only. -/
theorem mayWait_bar (c : Dev nD) (l : List (Fin 15)) :
    (levAts L lv : sProp 𝕄) ⊢ MayWait (c : Thread nD τ) (.reg barS) () (owedR c l) :=
  MayOwe.of_cut (L := L) (lev := lv) 1 (fun p hp => by rw [Finset.mem_singleton.mp hp, L_tc]; exact Finset.mem_singleton_self _)
    (fun g u hg => by obtain ⟨q, d, rfl⟩ := owedR_pos c l hg; exact Finset.mem_singleton_self _)
    (fun p hp => by rw [Finset.mem_singleton.mp hp]; exact le_of_eq (lv_bar c))
    (fun g u hg => by obtain ⟨q, d, rfl⟩ := owedR_pos c l hg; rw [show lv (recvCell q d) u = 2 from lv_recv q d]; decide)

end Cert.KernelIdeal.Body

end
-- ==== Proof.Steps.lean ====
/-
One step of the body at a time.

Each lemma runs one kind of effect of the body on a symbolic device `c` and at a symbolic position: a barrier signal,
a copy to another device, a wait, a local copy, the two stores of the own slot. A loop over a list of positions is
run by the lemma `wp_each`: what one round does for its position, the loop does for all of them. The cells' invariants
and starting rounds are persistent and are shared by all devices, `recs`.
-/
module

public import proofs.«01_k».proof.Proof.Schedule
public import Idealize.ShloMosaic.Lib.Pipeline.BigSepL

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

variable (m : (ℓ : Loc nD τ sig) → Buf (Elt F) ℓ)

/-- A program of device `c` run to a postcondition. -/
abbrev WP (c : Dev nD) {α : Type} (e : P F α) (Q : α → sProp 𝕄) : sProp 𝕄 :=
  wp frame (wpE (defs₀ (F := F)) 𝒱₀ (c : Thread nD τ) none) Set.univ e Q

/-! ## The cells by index -/

/-- The cells of a device beside its barrier: local copies, copies sent, copies received, and the two semaphores of
    the printed arrays that nothing uses. -/
abbrev OI : Type := Fin 4 ⊕ (Fin 15 ⊕ (Fin 15 ⊕ Fin 2))
abbrev KI : Type := Fin 1 ⊕ OI

def osem : OI → SemLoc sig
  | .inl k => .dma (locS k)
  | .inr (.inl p) => .dma (sendSem p)
  | .inr (.inr (.inl q)) => .dma (recvSem q)
  | .inr (.inr (.inr b)) => .dma (![5, 21] b)

def ksem : KI → SemLoc sig
  | .inl _ => .reg barS
  | .inr i => osem i

abbrev kcell (ck : Dev nD × KI) : GSem nD τ sig := ((ck.1 : Thread nD τ), ksem ck.2)

variable (K : Dev nD × KI → ℕ)

/-- Every cell's invariant, and that every cell is at its round 0. -/
def recs : sProp 𝕄 :=
  iprop((bigSep Finset.univ fun ck : Dev nD × KI => cellInv ER (Rd m) (K ck) (kcell ck))
    ∗ bigSep Finset.univ fun ck : Dev nD × KI => reached ER (kcell ck) 0)

instance recs_persistent : BI.Persistent (recs (F := F) m K) := by unfold recs; infer_instance

theorem recs_inv (ck : Dev nD × KI) : recs m K ⊢ cellInv ER (Rd (F := F) m) (K ck) (kcell ck) := by
  unfold recs
  iintro ⟨H, -⟩
  ihave H' := (show (bigSep Finset.univ fun ck : Dev nD × KI => (cellInv ER (Rd (F := F) m) (K ck) (kcell ck) : sProp 𝕄)) ⊢ cellInv ER (Rd (F := F) m) (K ck) (kcell ck) from bigSep_elim (Finset.mem_univ ck)) $$ H
  iexact H'

theorem recs_reached (ck : Dev nD × KI) : recs m K ⊢ (reached ER (kcell ck) 0 : sProp 𝕄) := by
  unfold recs
  iintro ⟨-, H⟩
  ihave H' := (show (bigSep Finset.univ fun ck : Dev nD × KI => (reached ER (kcell ck) 0 : sProp 𝕄)) ⊢ reached ER (kcell ck) 0 from bigSep_elim (Finset.mem_univ ck)) $$ H
  iexact H'

/-- A device's name of a cell. -/
abbrev kBar (c : Dev nD) : Dev nD × KI := (c, .inl 0)
abbrev kLoc (k : Fin 4) (c : Dev nD) : Dev nD × KI := (c, .inr (.inl k))
abbrev kSend (p : Fin 15) (c : Dev nD) : Dev nD × KI := (c, .inr (.inr (.inl p)))
abbrev kRecv (q : Fin 15) (c : Dev nD) : Dev nD × KI := (c, .inr (.inr (.inr (.inl q))))

/-- What a device still owes; which waits it has done does not matter. -/
def owing (c : Dev nD) (O : CellTallies nD τ sig Unit) : sProp 𝕄 := iprop(∃ W, owes (c : Thread nD τ) O W)

/-! ## A loop -/

/-- What one round does at each position, the loop does at all of them. -/
theorem wp_each {α : Type} (c : Dev nD) (Pe : sProp 𝕄) [BI.Persistent Pe] (R : List α → sProp 𝕄) (Pre Post : α → sProp 𝕄) (f : α → P F PUnit)
    (h : ∀ a l (Q : PUnit → sProp 𝕄), iprop(Pe ∗ R (a :: l) ∗ Pre a) ⊢ iprop(((R l ∗ Post a) -∗ Q ⟨⟩) -∗ WP c (f a) Q)) :
    ∀ (l : List α) (Q : PUnit → sProp 𝕄),
      iprop(Pe ∗ R l ∗ bigSepL l Pre) ⊢ iprop(((R [] ∗ bigSepL l Post) -∗ Q ⟨⟩) -∗ WP c (each l f) Q)
  | [], Q => by
    unfold each WP
    rw [wp_pure]
    iintro ⟨-, HR, HP⟩ HQ
    imodintro
    iapply HQ
    isplitl [HR]; · iexact HR
    iexact HP
  | a :: l, Q => by
    unfold each WP
    rw [wp_bind, bigSepL_cons', bigSepL_cons']
    iintro ⟨#Hpe, HR, Ha, Hl⟩ HQ
    iapply (h a l _) $$ [HR Ha]
    · isplitr; · iexact Hpe
      isplitl [HR]; · iexact HR
      iexact Ha
    iintro ⟨HR, Ha⟩
    iapply (wp_each c Pe R Pre Post f h l Q) $$ [HR Hl]
    · isplitr; · iexact Hpe
      isplitl [HR]; · iexact HR
      iexact Hl
    iintro ⟨HR, Hl⟩
    iapply HQ
    isplitl [HR]; · iexact HR
    isplitl [Ha]; · iexact Ha
    iexact Hl

/-! ## The signals -/

theorem step_signal (c : Dev nD) (p : Fin 15) (l : List (Fin 15)) (Q : PUnit → sProp 𝕄) :
    iprop(recs m K ∗ owing c (owedB c (p :: l)) ∗ (dutyTok ER (barCell (sh p c)) 0 p.rev ∗ ∃ f, slotPts (sh p c) c fullShare f))
      ⊢ iprop(((owing c (owedB c l) ∗ emp) -∗ Q ⟨⟩) -∗ WP c (semSignalWord (sigDev c p) barS 1#32) Q) := by
  rw [sigDev_eq]
  simp only [semSignalWord]
  unfold owing WP
  iintro ⟨#Hr, ⟨%W, HO⟩, Ht, Hs⟩ HQ
  iapply (Rounds.wp_signal 𝒱₀ ER (Rd m) (c : Thread nD τ) none (dst := (sh p c : Thread nD τ)) (κ := K (kBar (sh p c)))
      (d := p.rev) (by rw [duties_bar]; exact Finset.mem_univ _) ((amount_bar m (sh p c) p.rev).trans (by decide)) () (owedB c l) rfl)
    $$ [HO Ht Hs]
  · isplitr; · iapply (recs_inv m K (kBar (sh p c))); iexact Hr
    isplitl [HO]; · iexact HO
    isplitl [Ht]; · iexact Ht
    isplitl [Hs]; · rw [payload_bar, sh_rev]; iexact Hs
    iapply (recs_reached m K (kBar (sh p c))); iexact Hr
  iintro HO
  rw [wp_ret]; imodintro
  iapply HQ
  isplitl [HO]; · iexists W; iexact HO
  iempintro

/-! ## The waits -/

/-- The wait for a whole round of one of the own cells. -/
theorem step_wait (c : Dev nD) (i : KI) (O : CellTallies nD τ sig Unit) (w : TpuEff nD τ sig (Elt F) Λ₀ .tc PUnit) (k' : ℕ)
    (hw : ∀ X : PUnit → sProp 𝕄, wpE (defs₀ (F := F)) 𝒱₀ (c : Thread nD τ) none Set.univ w X = waitSpec (c : Thread nD τ) Set.univ (ksem i) k' X)
    (hk : k' = (Rd (F := F) m).expect ((c : Thread nD τ), ksem i) 0)
    (A : sProp 𝕄) (hA : bigSep ((Rd (F := F) m).duties ((c : Thread nD τ), ksem i) 0 \ ∅) (fun d => (Rd (F := F) m).payload ((c : Thread nD τ), ksem i) 0 d) = A)
    (Q : PUnit → sProp 𝕄) :
    iprop(recs m K ∗ owing c O ∗ (cred (tallyAt ((c : Thread nD τ), ksem i) () k') ∗ atPos ER ((c : Thread nD τ), ksem i) 0 ∅ 0)
        ∗ MayWait (c : Thread nD τ) (ksem i) () O)
      ⊢ iprop(((owing c O ∗ (A ∗ atPos ER ((c : Thread nD τ), ksem i) 1 ∅ 0)) -∗ Q ⟨⟩) -∗ WP c (Prog.lift w) Q) := by
  unfold owing WP Prog.lift
  iintro ⟨#Hr, ⟨%W, HO⟩, ⟨Hc, Hat⟩, Hm⟩ HQ
  iapply (Rounds.wp_wait_rest_token 𝒱₀ ER (Rd m) (c : Thread nD τ) none (κ := K (c, i)) hw (Set.mem_univ _) () (O := O) (W := W)
      (R := 0) (m := 0) (T := ∅) (by rw [Nat.zero_add]; exact hk)) $$ [HO Hc Hat Hm]
  · isplitr; · iapply (recs_inv m K (c, i)); iexact Hr
    isplitl [Hc]; · iexact Hc
    isplitl [HO]; · iexact HO
    isplitl [Hm]; · iexact Hm
    iexact Hat
  iintro ⟨HO, Hat, -, Hpay⟩
  rw [wp_ret]; imodintro
  iapply HQ
  isplitl [HO]; · iexists _; iexact HO
  isplitl [Hpay]; · iapply (Entails.of_eq hA); iexact Hpay
  iexact Hat

/-! ## The copies to the other devices -/

theorem amount4 (c : Dev nD) (q : Fin 15) : (slot4 c).view.amount (.dma (recvSem q)) = N := credit4 c

/-- A copy that has arrived pays its duty at its receiver. -/
theorem arrived (c : Dev nD) (p : Fin 15) (f : Buf (Elt F) ((slot4 c).view.loc (sh p c : Thread nD τ))) :
    ((slot4 c).view.loc (sh p c : Thread nD τ) ↦[(slot4 c).view.set]{fullShare}
        ((slot4 c).view.write (Elt F) f ((slot4 c).view.read (Elt F) (table m)) Finset.univ))
      ⊢ (Rd m).payload (recvCell p.rev (sh p c)) 0 0 := by
  rw [payload_recv, sh_rev]
  unfold slotPts
  rw [pointsTo_congr (write_read_agree (slot4 c).view f (table m))]

/-- And one that has left pays its duty at its sender. -/
theorem left (c : Dev nD) (p : Fin 15) :
    ((slot4 c).view.loc (c : Thread nD τ) ↦[(slot4 c).view.set]{shr p.castSucc} (table m)) ⊢ (Rd m).payload (sendCell p c) 0 0 := by
  rw [payload_send]; exact BI.Entails.refl _

theorem step_send (c : Dev nD) (p : Fin 15) (l : List (Fin 15)) (n : Dev nD) (hn : n = sh p c)
    {hsc : (slot4 c : Memref sig (Dev.tc n : Thread nD τ).2.kind .vmem S2x2048 .f32).view.ref.isScScratch = false}
    {hsrc : (slot4 c).view.WordExact} {hdst : (slot4 c).view.WordExact}
    {hsem : DmaTarget.Typed .vmem (.dma (recvSem p.rev)) (.remote (Dev.tc n : Thread nD τ) (slot4 c : Memref sig .tc .vmem S2x2048 .f32) (.dma (sendSem p)) hsc)}
    (Q : PUnit → sProp 𝕄) :
    iprop(recs m K ∗ owing c (owedR c (p :: l)) ∗ ((dutyTok ER (sendCell p c) 0 0 ∗ dutyTok ER (recvCell p.rev (sh p c)) 0 0)
        ∗ slotPts c c (shr p.castSucc) (table m) ∗ ∃ f, slotPts c (sh p c) fullShare f))
      ⊢ iprop(((owing c (owedR c l) ∗ cred (tallyAt (sendCell p c) () N)) -∗ Q ⟨⟩)
          -∗ WP c (Prog.lift (.enqueueDma (slot4 c) (.remote (Dev.tc n : Thread nD τ) (slot4 c) (.dma (sendSem p)) hsc) (.dma (recvSem p.rev)) hsrc hdst hsem)) Q) := by
  subst hn
  unfold owing WP
  iintro ⟨#Hr, ⟨%W, HO⟩, ⟨Ht, Ht'⟩, Hs, ⟨%f, Hd⟩⟩ HQ
  unfold slotPts
  iapply (Rounds.wp_send_pointsTo 𝒱₀ ER (Rd m) (c : Thread nD τ) none (c' := (sh p c : Thread nD τ)) (src := slot4 c) (dst := slot4 c)
    (q := shr p.castSucc) (fs := table m) (κ₁ := K (kSend p c)) (κ₂ := K (kRecv p.rev (sh p c)))
    (r₁ := 0) (r₂ := 0) (d₁ := 0) (d₂ := 0) (fd := f)
    (by rw [duties_send]; exact Finset.mem_singleton_self _) (by rw [duties_recv]; exact Finset.mem_singleton_self _)
    () () N (amount4 c p.rev) (amount_send m c p 0) (amount_recv m (sh p c) p.rev 0) (owedR c l) rfl (W := W)
    (left m c p)
    (arrived m c p f)) $$ [HO Ht Ht' Hs Hd]
  · isplitr; · iapply (recs_inv m K (kSend p c)); iexact Hr
    isplitr; · iapply (recs_inv m K (kRecv p.rev (sh p c))); iexact Hr
    isplitl [Hs]; · iexact Hs
    isplitl [Hd]; · iexact Hd
    isplitl [HO]; · iexact HO
    isplitl [Ht]; · iexact Ht
    isplitr; · iapply (recs_reached m K (kSend p c)); iexact Hr
    isplitl [Ht']; · iexact Ht'
    iapply (recs_reached m K (kRecv p.rev (sh p c))); iexact Hr
  iintro ⟨Hc, HO⟩
  rw [wp_ret]; imodintro
  iapply HQ
  isplitl [HO]; · iexists W; iexact HO
  iexact Hc

/-! ## The local copies -/

/-- The `k`-th half buffer, whatever it holds. -/
def halfAny (c : Dev nD) (k : Fin 4) : sProp 𝕄 :=
  iprop(∃ f, (dstM k).view.loc (c : Thread nD τ) ↦[(dstM k).view.set]{fullShare} f)

/-- The `k`-th local copy. -/
def copyK (c : Dev nD) (k : Fin 4) : P F PUnit :=
  Prog.lift (.enqueueDma (srcM c k) (.here (dstM k)) (.dma (locS k)) (src_exact c k) (dst_exact k) ⟨Or.inl rfl, trivial⟩)

/-- The wait for it and the load of what it brought. -/
def fetch (c : Dev nD) (k : Fin 4) : P F (Vec F S128x2048 .f32) := do
  Prog.lift (.waitDma2 (locS k) (srcM c k) (dstM k) (src_exact c k) (dst_exact k))
  Prog.lift (.load (bufM k) (rectM k).toLoadRect (View.loadsAt_vmem h_S128x2048))

/-- The stores of the two rows of the own slot. -/
def fill (c : Dev nD) (x0 d0 x1 d1 : Vec F S128x2048 .f32) : P F PUnit := do
  let _u : Vec F S1x1x2048 .f32 ← Prog.lift (.load allB (rect2 c).toLoadRect (View.loadsAt_vmem h_S1x1x2048))
  Prog.lift (.store allB (rect2 c) (gRow x0 d0 x1 d1) Finset.univ (View.stores_vmem_bits_univ h_S1x1x2048 rfl) (.inl rfl))
  let _u' : Vec F S1x1x2048 .f32 ← Prog.lift (.load allB (rect3 c).toLoadRect (View.loadsAt_vmem h_S1x1x2048))
  Prog.lift (.store allB (rect3 c) (bRow d0 d1) Finset.univ (View.stores_vmem_bits_univ h_S1x1x2048 rfl) (.inl rfl))

theorem compute_eq (c : Dev nD) : compute (F := F) c = (do
    each [0, 1, 2, 3] (copyK c)
    let x0 ← fetch c 0
    let d0 ← fetch c 1
    let x1 ← fetch c 2
    let d1 ← fetch c 3
    fill c x0 d0 x1 d1) := rfl

/-- A local copy that has landed pays its duty. -/
theorem copied (c : Dev nD) (k : Fin 4) (f : Buf (Elt F) ((dstM k).view.loc (c : Thread nD τ))) :
    iprop(((dstM k).view.loc (c : Thread nD τ) ↦[(dstM k).view.set]{fullShare}
        ((dstM k).view.write (Elt F) f ((srcM c k).view.read (Elt F) (m ((srcM c k).view.loc (c : Thread nD τ)))) Finset.univ))
      ∗ ((srcM c k).view.loc (c : Thread nD τ) ↦[(srcM c k).view.set]{half k} m ((srcM c k).view.loc (c : Thread nD τ))))
      ⊢ (Rd m).payload (locCell k c) 0 0 := by
  rw [payload_loc]; unfold filled rowPts
  iintro ⟨Hd, Hs⟩
  isplitl [Hd]
  · iexists (dstM k).view.write (Elt F) f ((srcM c k).view.read (Elt F) (m ((srcM c k).view.loc (c : Thread nD τ)))) Finset.univ
    isplitr
    · ipureintro; exact View.read_write_univ ..
    iexact Hd
  iexact Hs

theorem step_copy (c : Dev nD) (k : Fin 4) (l : List (Fin 4)) (Q : PUnit → sProp 𝕄) :
    iprop(recs m K ∗ emp ∗ (dutyTok ER (locCell k c) 0 0 ∗ rowPts m c k ∗ halfAny c k))
      ⊢ iprop(((emp ∗ cred (tallyAt (locCell k c) () (M k))) -∗ Q ⟨⟩) -∗ WP c (copyK c k) Q) := by
  unfold WP copyK Prog.lift rowPts halfAny
  iintro ⟨#Hr, -, Ht, Hs, ⟨%f, Hd⟩⟩ HQ
  iapply (Rounds.wp_copy_pointsTo 𝒱₀ ER (Rd m) (c : Thread nD τ) none (κ := K (kLoc k c)) (r := 0) (d := 0)
    (by rw [duties_loc]; exact Finset.mem_singleton_self _) () (M k) rfl (amount_loc m c k 0)
    (fd := f) (fs := m ((srcM c k).view.loc (c : Thread nD τ))) (q := half k) (copied m c k f)) $$ [Ht Hs Hd]
  · isplitr; · iapply (recs_inv m K (kLoc k c)); iexact Hr
    isplitl [Hs]; · iexact Hs
    isplitl [Hd]; · iexact Hd
    isplitl [Ht]; · iexact Ht
    iapply (recs_reached m K (kLoc k c)); iexact Hr
  iintro Hc
  rw [wp_ret]; imodintro
  iapply HQ
  isplitr; · iempintro
  iexact Hc

theorem lv_loc (c : Dev nD) (k : Fin 4) : lv (locCell k c) () = 0 := by unfold lv; rw [role_loc]

/-- The load of a filled half buffer reads what it holds. -/
theorem load_half (c : Dev nD) (k : Fin 4) (f : Buf (Elt F) ((dstM k).view.loc (c : Thread nD τ))) (Q : Vec F S128x2048 .f32 → sProp 𝕄) :
    ((dstM k).view.loc (c : Thread nD τ) ↦[(dstM k).view.set]{fullShare} f)
      ⊢ iprop((((dstM k).view.loc (c : Thread nD τ) ↦[(dstM k).view.set]{fullShare} f) -∗ Q ((dstM k).view.read (Elt F) f))
          -∗ WP c (Prog.lift (.load (bufM k) (rectM k).toLoadRect (View.loadsAt_vmem h_S128x2048))) Q) := by
  have h := wp_load (defs := defs₀ (F := F)) (Γ := ∅) 𝒱₀ (c : Thread nD τ) none Set.univ (m := bufM k) (S := (dstM k).view.set)
    (r := (rectM k).toLoadRect) (hl := View.loadsAt_vmem h_S128x2048) (q := fullShare) (f := f) (k := fun x => Prog.ret x) (Q := Q)
    (View.set_slice _ _).symm.subset
  refine h.trans ?_
  iintro H HQ
  iapply H
  iintro Hf
  rw [wp_ret]; imodintro
  rw [show (bufM k).view.readAt (Elt F) (rectM k).toLoadRect f = (dstM k).view.read (Elt F) f from rfl]
  iapply HQ
  iexact Hf

theorem step_fetch (c : Dev nD) (k : Fin 4) (Q : Vec F S128x2048 .f32 → sProp 𝕄) :
    iprop(recs m K ∗ levAts L lv ∗ owing c (owedB c []) ∗ (cred (tallyAt (locCell k c) () (M k)) ∗ atPos ER (locCell k c) 0 ∅ 0))
      ⊢ iprop(((owing c (owedB c []) ∗ (halfAny c k ∗ rowPts m c k ∗ atPos ER (locCell k c) 1 ∅ 0)) -∗ Q (brought m c k)) -∗ WP c (fetch c k) Q) := by
  iintro ⟨#Hr, #Hl, HO, Hca⟩ HQ
  unfold fetch WP
  rw [wp_bind]
  iapply (step_wait m K c (.inr (.inl k)) (owedB c []) _ (M k) (wpE_waitDma2_eq 𝒱₀ (c : Thread nD τ) none Set.univ) (expect_loc m c k).symm _ (rest_loc m c k)) $$ [HO Hca]
  · isplitr; · iexact Hr
    isplitl [HO]; · iexact HO
    isplitl [Hca]; · iexact Hca
    iapply (mayWait_low c _ (lv_loc c k) []); iexact Hl
  iintro ⟨HO, ⟨Hf, Hrow⟩, Hat⟩
  unfold filled
  icases Hf with ⟨%f, %hf, Hf⟩
  iapply (load_half c k f Q) $$ Hf
  iintro Hf
  rw [hf]
  iapply HQ
  isplitl [HO]; · iexact HO
  isplitl [Hf]; · unfold halfAny; iexists f; iexact Hf
  isplitl [Hrow]; · iexact Hrow
  iexact Hat

theorem step_fill (c : Dev nD) (Q : PUnit → sProp 𝕄) :
    iprop(∃ f, slotPts c c fullShare f)
      ⊢ iprop((slotPts c c fullShare (table m) -∗ Q ⟨⟩) -∗ WP c (fill c (brought m c 0) (brought m c 1) (brought m c 2) (brought m c 3)) Q) := by
  unfold fill WP slotPts
  simp only [Prog.lift, Prog.bind_op, Prog.bind_ret, Prog.pure_eq_ret]
  iintro ⟨%f, H⟩ HQ
  iapply (wp_load 𝒱₀ (c : Thread nD τ) none Set.univ (m := allB) (S := slotSet c) (by exact (View.set_slice allB.view (rect2 c)).symm.subset.trans ((acc2_set c).subset.trans (rect2_sub c)))) $$ H
  iintro H
  iapply (wp_store 𝒱₀ (c : Thread nD τ) none Set.univ (m := allB) (r := rect2 c) (Mk := Finset.univ) (S := slotSet c)
    (by rw [View.setOn_univ, acc2_set]; exact rect2_sub c)) $$ H
  iintro H
  iapply (wp_load 𝒱₀ (c : Thread nD τ) none Set.univ (m := allB) (S := slotSet c) (by exact (View.set_slice allB.view (rect3 c)).symm.subset.trans ((acc3_set c).subset.trans (rect3_sub c)))) $$ H
  iintro H
  iapply (wp_store 𝒱₀ (c : Thread nD τ) none Set.univ (m := allB) (r := rect3 c) (Mk := Finset.univ) (S := slotSet c)
    (by rw [View.setOn_univ, acc3_set]; exact rect3_sub c)) $$ H
  iintro H
  rw [wp_ret]; imodintro
  iapply HQ
  iapply (Entails.of_eq (pointsTo_congr (stored_agree m c f)))
  iexact H

end Cert.KernelIdeal.Body

end
-- ==== Proof.Memory.lean ====
/-
Cutting the buffers up and putting them together.

A device's table is its own slot and the fifteen slots of the devices that come after it, cyclically; a slot at full
share is sixteen shares of it. The two row buffers are two halves each. The rows that the local copies read are lent
from the arguments and come back.
-/
module

public import proofs.«01_k».proof.Proof.Steps

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## Families -/

theorem fifteen_eq (Φ : Fin 15 → sProp 𝕄) : bigSep Finset.univ Φ = bigSepL fifteen Φ :=
  bigSep_univ_eq_bigSepL fifteen (by decide) (by decide) Φ
theorem four_eq (Φ : Fin 4 → sProp 𝕄) : bigSep Finset.univ Φ = bigSepL [0, 1, 2, 3] Φ :=
  bigSep_univ_eq_bigSepL [0, 1, 2, 3] (by decide) (by decide) Φ
theorem four_chain (Φ : Fin 4 → sProp 𝕄) : bigSepL [0, 1, 2, 3] Φ = iprop(Φ 0 ∗ Φ 1 ∗ Φ 2 ∗ Φ 3) := rfl
theorem fifteen_sep (Φ Ψ : Fin 15 → sProp 𝕄) :
    bigSepL fifteen (fun p => iprop(Φ p ∗ Ψ p)) = iprop(bigSepL fifteen Φ ∗ bigSepL fifteen Ψ) := by
  rw [← fifteen_eq, ← fifteen_eq, ← fifteen_eq, bigSep_sep']

theorem around_univ : ∀ c : Dev nD, (Finset.univ : Finset (Dev nD)) = (c :: fifteen.map fun p => sh p c).toFinset := by decide +kernel
theorem around_nodup : ∀ c : Dev nD, (c :: fifteen.map fun p => sh p c).Nodup := by decide +kernel
/-- All devices: one of them and the fifteen that come after it. -/
theorem around (c : Dev nD) (Φ : Dev nD → sProp 𝕄) :
    bigSep Finset.univ Φ = iprop(Φ c ∗ bigSepL fifteen fun p => Φ (sh p c)) := by
  rw [bigSep_univ_eq_bigSepL _ (around_univ c) (around_nodup c) Φ, bigSepL_cons', bigSepL_map]

/-- The cells of a device by what they are for. -/
theorem cells_split (Φ : KI → sProp 𝕄) : bigSep Finset.univ Φ
    = iprop(Φ (.inl 0) ∗ bigSepL [0, 1, 2, 3] (fun k => Φ (.inr (.inl k))) ∗ bigSepL fifteen (fun p => Φ (.inr (.inr (.inl p))))
        ∗ bigSepL fifteen (fun q => Φ (.inr (.inr (.inr (.inl q))))) ∗ bigSep Finset.univ fun b : Fin 2 => Φ (.inr (.inr (.inr (.inr b))))) := by
  rw [bigSep_univ_sum, bigSep_univ_sum, bigSep_univ_sum, bigSep_univ_sum, four_eq, fifteen_eq, fifteen_eq,
    bigSep_univ_of_subsingleton (0 : Fin 1)]
  rfl

/-! ## The table -/

/-- A buffer along parts that are disjoint and cover it. -/
theorem pointsTo_univ_parts (ℓ : Loc nD τ sig) (q : PosShare TreeShare) (f : Buf (Elt F) ℓ) (K : Dev nD → Finset (Idx ℓ))
    (h : ∀ t t', t ≠ t' → Disjoint (K t) (K t')) (hc : Finset.univ.biUnion K = Finset.univ) :
    (ℓ ↦{q} f : sProp 𝕄) = bigSep Finset.univ fun j : Dev nD => ℓ ↦[K j]{q} f := by
  rw [← pointsTo_biUnion Finset.univ K fun t _ t' _ h' => h t t' h', hc]

theorem whole_slots (c : Dev nD) (q : PosShare TreeShare) (f : (cc0_scratch2 : Ref sig .tc).ty.Contents (Elt F)) :
    ((((c : Thread nD τ).loc cc0_scratch2) ↦{q} f) : sProp 𝕄) = bigSep Finset.univ fun j : Dev nD => slotPts j c q f := by
  unfold slotPts
  have h := pointsTo_univ_parts (F := F) ((c : Thread nD τ).loc cc0_scratch2) q f slotSet slots_disjoint (by convert slots_cover)
  exact h

/-- The table is the own slot and the fifteen others. -/
theorem whole_around (c : Dev nD) (q : PosShare TreeShare) (f : (cc0_scratch2 : Ref sig .tc).ty.Contents (Elt F)) :
    ((((c : Thread nD τ).loc cc0_scratch2) ↦{q} f) : sProp 𝕄)
      = iprop(slotPts c c q f ∗ bigSepL fifteen fun p => slotPts (sh p c) c q f) := by
  rw [whole_slots, around c]

theorem any_around (c : Dev nD) :
    iprop(∃ f : (cc0_scratch2 : Ref sig .tc).ty.Contents (Elt F), ((c : Thread nD τ).loc cc0_scratch2) ↦{fullShare} f)
      ⊢ (iprop((∃ f, slotPts c c fullShare f) ∗ bigSepL fifteen fun p => iprop(∃ f, slotPts (sh p c) c fullShare f)) : sProp 𝕄) := by
  iintro ⟨%f, H⟩
  ihave H' := (Entails.of_eq (whole_around c fullShare f)) $$ H
  icases H' with ⟨Ho, Hs⟩
  isplitl [Ho]; · iexists f; iexact Ho
  iapply (show bigSepL fifteen (fun p => (slotPts (sh p c) c fullShare f : sProp 𝕄)) ⊢ bigSepL fifteen (fun p => iprop(∃ f, slotPts (sh p c) c fullShare f)) from
    bigSepL_mono fun p _ => by iintro H; iexists f; iexact H)
  iexact Hs

theorem sixteen (ℓ : Loc nD τ sig) (I : Finset (Idx ℓ)) (f : Buf (Elt F) ℓ) :
    (ℓ ↦[I]{fullShare} f : sProp 𝕄) = iprop((ℓ ↦[I]{shr 15} f) ∗ bigSepL fifteen fun p => ℓ ↦[I]{shr p.castSucc} f) := by
  have h : (ℓ ↦[I]{fullShare} f : sProp 𝕄) = bigSep Finset.univ fun i : Fin 16 => ℓ ↦[I]{shr i} f :=
    ShareLeaves.pointsTo_leaves I f 4 fullShare
  rw [h, bigSep_univ_eq_bigSepL ((15 : Fin 16) :: fifteen.map Fin.castSucc) (by decide) (by decide), bigSepL_cons', bigSepL_map]

/-- A slot at full share is the kept share and the fifteen for the copies. -/
theorem shares (j t : Dev nD) (f : (cc0_scratch2 : Ref sig .tc).ty.Contents (Elt F)) :
    (slotPts j t fullShare f : sProp 𝕄) = iprop(slotPts j t (shr 15) f ∗ bigSepL fifteen fun p => slotPts j t (shr p.castSucc) f) := by
  unfold slotPts; exact sixteen ((slot4 j).view.loc (t : Thread nD τ)) (slot4 j).view.set f

/-- The shares of the fifteen other slots, those kept apart from those not needed for the sum. -/
theorem others_shares (c : Dev nD) (f : (cc0_scratch2 : Ref sig .tc).ty.Contents (Elt F)) :
    (bigSepL fifteen (fun p => slotPts (sh p c) c fullShare f) : sProp 𝕄)
      = iprop(bigSepL fifteen (fun p => slotPts (sh p c) c (shr 15) f)
          ∗ bigSepL fifteen fun p => bigSepL fifteen fun p' => slotPts (sh p c) c (shr p'.castSucc) f) := by
  rw [← fifteen_sep]
  exact congrArg _ (funext fun p => shares (sh p c) c f)

/-! ## The row buffers -/

theorem dst_set (k : Fin 4) : (dstM k).view.set = ((rectM k).set.map (bufM k).view.emb) := View.set_slice _ _

abbrev loS : Finset S256x2048.Idx := lo.set
abbrev hiS : Finset S256x2048.Idx := hi.set
theorem lo_hi_disjoint : Disjoint loS hiS := by
  refine Finset.disjoint_left.mpr fun i h₁ h₂ => ?_
  have a := (Rect.mem_set_unit.mp h₁) 0
  have b := (Rect.mem_set_unit.mp h₂) 0
  simp only [Matrix.cons_val_zero, S128x2048] at a b
  omega
theorem lo_hi_cover : loS ∪ hiS = Finset.univ := by
  ext i
  have h0 := (i 0).isLt
  have h1 := (i 1).isLt
  change (i 0).val < 256 at h0
  change (i 1).val < 2048 at h1
  simp only [Finset.mem_union, Finset.mem_univ, iff_true]
  by_cases h : (i 0).val < 128
  · refine Or.inl (Rect.mem_set_unit.mpr fun a => ?_)
    fin_cases a
    · exact ⟨Nat.zero_le _, by simpa [S128x2048] using h⟩
    · exact ⟨Nat.zero_le _, by simpa [S128x2048] using h1⟩
  · refine Or.inr (Rect.mem_set_unit.mpr fun a => ?_)
    fin_cases a
    · exact ⟨by simpa using Nat.le_of_not_lt h, by simpa [S128x2048] using h0⟩
    · exact ⟨Nat.zero_le _, by simpa [S128x2048] using h1⟩

/-- A buffer cut in two, whatever it holds, -/
theorem cut_any (c : Dev nD) (b : Ref sig .tc) (S T : Finset b.ty.Idx) (hd : Disjoint S T) (hc : S ∪ T = Finset.univ) :
    (iprop(∃ f : Buf (Elt F) ((c : Thread nD τ).loc b), ((c : Thread nD τ).loc b) ↦{fullShare} f) : sProp 𝕄)
      ⊢ iprop((∃ f : Buf (Elt F) ((c : Thread nD τ).loc b), ((c : Thread nD τ).loc b) ↦[S]{fullShare} f)
          ∗ ∃ f : Buf (Elt F) ((c : Thread nD τ).loc b), ((c : Thread nD τ).loc b) ↦[T]{fullShare} f) := by
  iintro ⟨%f, H⟩
  ihave H' := (show (((c : Thread nD τ).loc b) ↦{fullShare} f : sProp 𝕄) ⊢ iprop((((c : Thread nD τ).loc b) ↦[S]{fullShare} f) ∗ ((c : Thread nD τ).loc b) ↦[T]{fullShare} f) from
    (Entails.of_eq (by rw [hc])).trans (pointsTo_union hd).1) $$ H
  icases H' with ⟨H1, H2⟩
  isplitl [H1]
  · iexists f; iexact H1
  · iexists f; iexact H2
/-- and joined. -/
theorem join_any (c : Dev nD) (b : Ref sig .tc) (S T : Finset b.ty.Idx) (hd : Disjoint S T) (hc : S ∪ T = Finset.univ) :
    (iprop((∃ f : Buf (Elt F) ((c : Thread nD τ).loc b), ((c : Thread nD τ).loc b) ↦[S]{fullShare} f)
          ∗ ∃ f : Buf (Elt F) ((c : Thread nD τ).loc b), ((c : Thread nD τ).loc b) ↦[T]{fullShare} f) : sProp 𝕄)
      ⊢ iprop(∃ f : Buf (Elt F) ((c : Thread nD τ).loc b), ((c : Thread nD τ).loc b) ↦{fullShare} f) := by
  iintro ⟨⟨%f, H1⟩, ⟨%g, H2⟩⟩
  iexists (T.piecewise g f)
  iapply (show iprop((((c : Thread nD τ).loc b) ↦[S]{fullShare} f) ∗ ((c : Thread nD τ).loc b) ↦[T]{fullShare} g) ⊢ (((c : Thread nD τ).loc b) ↦{fullShare} (T.piecewise g f) : sProp 𝕄) from
    (pointsTo_join hd).trans (Entails.of_eq (by rw [hc])))
  isplitl [H1]
  · iexact H1
  · iexact H2

theorem dst_set0 : (dstM 0).view.set = loS := View.set_slice_whole _ _
theorem dst_set1 : (dstM 1).view.set = loS := View.set_slice_whole _ _
theorem dst_set2 : (dstM 2).view.set = hiS := View.set_slice_whole _ _
theorem dst_set3 : (dstM 3).view.set = hiS := View.set_slice_whole _ _

/-- The two row buffers, whatever they hold. -/
def rowBufs (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

theorem halves_out (c : Dev nD) : (rowBufs c : sProp 𝕄) ⊢ bigSepL [0, 1, 2, 3] (halfAny c) := by
  rw [four_chain]
  unfold rowBufs halfAny
  rw [dst_set0, dst_set1, dst_set2, dst_set3]
  iintro ⟨Hx, Hd⟩
  ihave Hx' := (cut_any c cc0_scratch0 loS hiS lo_hi_disjoint lo_hi_cover) $$ Hx
  ihave Hd' := (cut_any c cc0_scratch1 loS hiS lo_hi_disjoint lo_hi_cover) $$ Hd
  icases Hx' with ⟨H0, H2⟩
  icases Hd' with ⟨H1, H3⟩
  isplitl [H0]; · iexact H0
  isplitl [H1]; · iexact H1
  isplitl [H2]; · iexact H2
  iexact H3

theorem halves_back (c : Dev nD) : (bigSepL [0, 1, 2, 3] (halfAny c) : sProp 𝕄) ⊢ rowBufs c := by
  rw [four_chain]
  unfold rowBufs halfAny
  rw [dst_set0, dst_set1, dst_set2, dst_set3]
  iintro ⟨H0, H1, H2, H3⟩
  isplitl [H0 H2]
  · iapply (join_any c cc0_scratch0 loS hiS lo_hi_disjoint lo_hi_cover)
    isplitl [H0]
    · iexact H0
    · iexact H2
  · iapply (join_any c cc0_scratch1 loS hiS lo_hi_disjoint lo_hi_cover)
    isplitl [H1]
    · iexact H1
    · iexact H3

/-! ## The arguments -/

/-- A part of a buffer lent out; it is whole again when the part is back. -/
theorem lend (ℓ : Loc nD τ sig) (S : Finset (Idx ℓ)) (q : PosShare TreeShare) (f : Buf (Elt F) ℓ) :
    (ℓ ↦{q} f : sProp 𝕄) ⊢ iprop((ℓ ↦[S]{q} f) ∗ ((ℓ ↦[S]{q} f) -∗ ℓ ↦{q} f)) := by
  iintro H
  ihave H' := ((pointsTo_split_subset (Finset.subset_univ S)).1) $$ H
  icases H' with ⟨H1, H2⟩
  isplitl [H1]; · iexact H1
  iintro H1
  iapply ((pointsTo_split_subset (Finset.subset_univ S)).2)
  isplitl [H1]
  · iexact H1
  · iexact H2

/-- Two parts of a buffer lent out, each at a half of the share. -/
theorem lend_two (ℓ : Loc nD τ sig) (S T : Finset (Idx ℓ)) (f : Buf (Elt F) ℓ) :
    (ℓ ↦{fullShare} f : sProp 𝕄) ⊢ iprop(((ℓ ↦[S]{fullShare.left} f) ∗ (ℓ ↦[T]{fullShare.right} f))
      ∗ (((ℓ ↦[S]{fullShare.left} f) ∗ (ℓ ↦[T]{fullShare.right} f)) -∗ ℓ ↦{fullShare} f)) := by
  iintro H
  ihave H' := ((pointsTo_share (PosShare.mem_left_op_right fullShare)).1) $$ H
  icases H' with ⟨Hl, Hr⟩
  ihave Hl' := (lend ℓ S fullShare.left f) $$ Hl
  ihave Hr' := (lend ℓ T fullShare.right f) $$ Hr
  icases Hl' with ⟨Hs, Hl⟩
  icases Hr' with ⟨Ht, Hr⟩
  isplitl [Hs Ht]
  · isplitl [Hs]
    · iexact Hs
    · iexact Ht
  iintro ⟨Hs, Ht⟩
  iapply ((pointsTo_share (PosShare.mem_left_op_right fullShare)).2)
  isplitl [Hs Hl]
  · iapply Hl; iexact Hs
  · iapply Hr; iexact Ht

/-- The two arguments at their contents. -/
def args (c : Dev nD) : sProp 𝕄 :=
  iprop((((c : Thread nD τ).loc main_arg0) ↦{fullShare} m ((c : Thread nD τ).loc main_arg0))
    ∗ ((c : Thread nD τ).loc main_arg1) ↦{fullShare} m ((c : Thread nD τ).loc main_arg1))

theorem row0 (c : Dev nD) : rowPts m c 0 = (((c : Thread nD τ).loc main_arg0) ↦[(srcM c 0).view.set]{fullShare.left} m ((c : Thread nD τ).loc main_arg0)) := rfl
theorem row1 (c : Dev nD) : rowPts m c 1 = (((c : Thread nD τ).loc main_arg1) ↦[(srcM c 1).view.set]{fullShare.left} m ((c : Thread nD τ).loc main_arg1)) := rfl
theorem row2 (c : Dev nD) : rowPts m c 2 = (((c : Thread nD τ).loc main_arg0) ↦[(srcM c 2).view.set]{fullShare.right} m ((c : Thread nD τ).loc main_arg0)) := rfl
theorem row3 (c : Dev nD) : rowPts m c 3 = (((c : Thread nD τ).loc main_arg1) ↦[(srcM c 3).view.set]{fullShare.right} m ((c : Thread nD τ).loc main_arg1)) := rfl

/-- The four parts that the local copies read, lent from the arguments. -/
theorem args_lend (c : Dev nD) :
    args m c ⊢ iprop(bigSepL [0, 1, 2, 3] (rowPts m c) ∗ (bigSepL [0, 1, 2, 3] (rowPts m c) -∗ args m c)) := by
  rw [four_chain, row0, row1, row2, row3]
  unfold args
  iintro ⟨Hx, Hd⟩
  ihave Hx' := (lend_two ((c : Thread nD τ).loc main_arg0) (srcM c 0).view.set (srcM c 2).view.set (m ((c : Thread nD τ).loc main_arg0))) $$ Hx
  ihave Hd' := (lend_two ((c : Thread nD τ).loc main_arg1) (srcM c 1).view.set (srcM c 3).view.set (m ((c : Thread nD τ).loc main_arg1))) $$ Hd
  icases Hx' with ⟨⟨H0, H2⟩, Hx⟩
  icases Hd' with ⟨⟨H1, H3⟩, Hd⟩
  isplitl [H0 H1 H2 H3]
  · isplitl [H0]; · iexact H0
    isplitl [H1]; · iexact H1
    isplitl [H2]; · iexact H2
    iexact H3
  iintro ⟨H0, H1, H2, H3⟩
  isplitl [H0 H2 Hx]
  · iapply Hx
    isplitl [H0]
    · iexact H0
    · iexact H2
  · iapply Hd
    isplitl [H1]
    · iexact H1
    · iexact H3

end Cert.KernelIdeal.Body

end
-- ==== Proof.Exchange.lean ====
/-
The body, run once at a symbolic device.

From the arguments, the scratch buffers, the tokens of the duties that the device pays and the credits that are paid
to it, the body ends with the arguments as they were, every semaphore at zero and the staged result holding the sum of
the sixteen slots of the table.
-/
module

public import proofs.«01_k».proof.Proof.Memory

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## What a device starts from and ends with -/

/-- A device's positions, at the start of its cells' one round. -/
def positions (c : Dev nD) : sProp 𝕄 := bigSep Finset.univ fun i : KI => atPos ER (kcell (c, i)) 0 ∅ 0
/-- The tokens of the duties that it pays: a unit at every other barrier, its copies' departures and arrivals, its
    local copies. -/
def payToks (c : Dev nD) : sProp 𝕄 :=
  iprop((bigSepL fifteen fun p => dutyTok ER (barCell (sh p c)) 0 p.rev)
    ∗ (bigSepL fifteen fun p => iprop(dutyTok ER (sendCell p c) 0 0 ∗ dutyTok ER (recvCell p.rev (sh p c)) 0 0))
    ∗ bigSepL [0, 1, 2, 3] fun k => dutyTok ER (locCell k c) 0 0)
/-- The credits of its barrier and its receive cells, paid by the other devices. -/
def creds (c : Dev nD) : sProp 𝕄 :=
  iprop(cred (tallyAt (barCell c) () 15) ∗ bigSepL fifteen fun q => cred (tallyAt (recvCell q c) () N))
/-- The scratch buffers, whatever they hold. -/
def scratch (c : Dev nD) : sProp 𝕄 :=
  iprop(rowBufs c ∗ ∃ f : Buf (Elt F) ((c : Thread nD τ).loc cc0_scratch2), ((c : Thread nD τ).loc cc0_scratch2) ↦{fullShare} f)
/-- Its cells, all at zero. -/
def closed (c : Dev nD) : sProp 𝕄 := bigSep Finset.univ fun i : KI => semVal (kcell (c, i)) 0

/-! ## The end of the cells -/

/-- A cell all whose duties lie behind the device's position. -/
def over (c : Dev nD) (i : KI) : sProp 𝕄 :=
  iprop(∃ R, ⌜∀ r, R ≤ r → (Rd (F := F) m).duties (kcell (c, i)) r = ∅⌝ ∗ atPos ER (kcell (c, i)) R ∅ 0)

theorem over_one (c : Dev nD) (i : KI) : (atPos ER (kcell (c, i)) 1 ∅ 0 : sProp 𝕄) ⊢ over m c i := by
  unfold over
  iintro H
  iexists 1
  isplitr
  · ipureintro; exact duties_later m _
  iexact H

theorem role_idle : ∀ b : Fin 2, role (ksem (.inr (.inr (.inr (.inr b))))) = .idle := by decide

theorem over_idle (c : Dev nD) (b : Fin 2) :
    (atPos ER (kcell (c, .inr (.inr (.inr (.inr b))))) 0 ∅ 0 : sProp 𝕄) ⊢ over m c (.inr (.inr (.inr (.inr b)))) := by
  unfold over
  iintro H
  iexists 0
  isplitr
  · ipureintro; exact duties_idle m _ (role_idle b)
  iexact H

theorem over_close (K : Dev nD × KI → ℕ) (c : Dev nD) (i : KI) :
    iprop(recs m K ∗ over m c i) ⊢ (|={Set.univ}=> semVal (kcell (c, i)) 0 : sProp 𝕄) := by
  unfold over
  iintro ⟨#Hr, ⟨%R, %hR, Hat⟩⟩
  iapply (Rounds.cell_close ER (Rd m) (Set.mem_univ (K (c, i))) (fun h => h) (R := R) hR)
  isplitr; · iapply (recs_inv m K (c, i)); iexact Hr
  iexact Hat

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all (K : Dev nD × KI → ℕ) (c : Dev nD) :
    iprop(recs m K ∗ bigSep Finset.univ (over m c)) ⊢ (|={Set.univ}=> closed c : sProp 𝕄) :=
  (with_persistent fun i _ => over_close m K c i).trans (bigSep_fupd _ _)

/-! ## The sum -/

theorem zeros3 : (![0, 0, 0] : Fin 3 → Nat) = fun _ => 0 := funext fun a => by fin_cases a <;> rfl
theorem zeros2 : (![0, 0] : Fin 2 → Nat) = fun _ => 0 := funext fun a => by fin_cases a <;> rfl

theorem write_out (f w : (cc0_stg0_0 : Ref sig .tc).ty.Contents (Elt F)) :
    (((Memref.whole cc0_stg0_0 : Memref sig .tc .vmem S2x2048 .f32).access (Rect.unit (s := S2x2048) ![0, 0] S2x2048.size inb_S2x2048_S2x2048_0_0)) :
      View sig .tc _ _ _).write (Elt F) f w Finset.univ = w :=
  Memref.write_access_unit_zero_univ (Elt F) cc0_stg0_0 zeros2 _ f w

theorem step_total (c : Dev nD) (q : PosShare TreeShare) (Q : PUnit → sProp 𝕄) :
    iprop((((c : Thread nD τ).loc cc0_scratch2) ↦{q} table m)
        ∗ ∃ g : Buf (Elt F) ((c : Thread nD τ).loc cc0_stg0_0), ((c : Thread nD τ).loc cc0_stg0_0) ↦{fullShare} g)
      ⊢ iprop((((((c : Thread nD τ).loc cc0_scratch2) ↦{q} table m) ∗ ((c : Thread nD τ).loc cc0_stg0_0) ↦{fullShare} k0_pay11 (table m)) -∗ Q ⟨⟩)
          -∗ WP c (total (Memref.whole cc0_stg0_0)) Q) := by
  unfold total WP
  simp only [Prog.lift, Prog.bind_op, Prog.bind_ret, Prog.pure_eq_ret]
  iintro ⟨Ht, ⟨%g, Ho⟩⟩ HQ
  iapply (wp_load 𝒱₀ (c : Thread nD τ) none Set.univ (m := allB) (Finset.subset_univ _)) $$ Ht
  iintro Ht
  rw [show allB.view.readAt (Elt F) (Rect.unit (s := S16x2x2048) ![0, 0, 0] S16x2x2048.size inb_S16x2x2048_S16x2x2048_0_0_0).toLoadRect (table m) = table m
    from Memref.readAt_unit_zero (Elt F) cc0_scratch2 zeros3 _ _]
  iapply (wp_load 𝒱₀ (c : Thread nD τ) none Set.univ (m := Memref.whole cc0_stg0_0) (Finset.subset_univ _)) $$ Ho
  iintro Ho
  iapply (wp_store 𝒱₀ (c : Thread nD τ) none Set.univ (m := Memref.whole cc0_stg0_0)
    (r := Rect.unit (s := S2x2048) ![0, 0] S2x2048.size inb_S2x2048_S2x2048_0_0) (Mk := Finset.univ) (f := g) (Finset.subset_univ _)) $$ Ho
  iintro Ho
  rw [write_out, wp_ret]
  imodintro
  iapply HQ
  isplitl [Ht]; · iexact Ht
  iexact Ho

/-! ## The body -/

def bodyPre (K : Dev nD × KI → ℕ) (c : Dev nD) : sProp 𝕄 :=
  iprop((recs m K ∗ levAts L lv ∗ positions c ∗ payToks c ∗ creds c ∗ args m c) ∗ scratch c ∗ owing c (O₀ c)
    ∗ ∃ g : Buf (Elt F) ((c : Thread nD τ).loc cc0_stg0_0), ((c : Thread nD τ).loc cc0_stg0_0) ↦{fullShare} g)

def bodyPost (c : Dev nD) : sProp 𝕄 :=
  iprop((scratch c ∗ args m c ∗ closed c) ∗ owing c 0 ∗ ((c : Thread nD τ).loc cc0_stg0_0) ↦{fullShare} k0_pay11 (table m))

theorem run_signals (K : Dev nD × KI → ℕ) (c : Dev nD) (Q : PUnit → sProp 𝕄) :
    iprop(recs m K ∗ owing c (O₀ c) ∗ bigSepL fifteen fun p => iprop(dutyTok ER (barCell (sh p c)) 0 p.rev ∗ ∃ f, slotPts (sh p c) c fullShare f))
      ⊢ iprop((owing c (owedB c []) -∗ Q ⟨⟩) -∗ WP c (signals c) Q) := by
  rw [show O₀ c = owedB c fifteen from rfl]
  iintro H HQ
  iapply (wp_each c (recs m K) (fun l => owing c (owedB c l)) _ (fun _ => iprop(emp)) _ (step_signal m K c) fifteen Q) $$ H
  iintro ⟨HO, -⟩
  iapply HQ
  iexact HO

theorem run_sends (K : Dev nD × KI → ℕ) (c : Dev nD) (Q : PUnit → sProp 𝕄) :
    iprop(recs m K ∗ owing c (owedB c []) ∗ bigSepL fifteen fun p => iprop((dutyTok ER (sendCell p c) 0 0 ∗ dutyTok ER (recvCell p.rev (sh p c)) 0 0)
        ∗ slotPts c c (shr p.castSucc) (table m) ∗ ∃ f, slotPts c (sh p c) fullShare f))
      ⊢ iprop(((owing c 0 ∗ bigSepL fifteen fun p => cred (tallyAt (sendCell p c) () N)) -∗ Q ⟨⟩) -∗ WP c (sends c) Q) := by
  rw [show owedB c [] = owedR c fifteen from rfl, show (0 : CellTallies nD τ sig Unit) = owedR c [] from rfl]
  iintro H HQ
  iapply (wp_each c (recs m K) (fun l => owing c (owedR c l)) _ (fun p => cred (tallyAt (sendCell p c) () N)) _
    (fun p l Q => step_send m K c p l _ (sendDev_eq p c) Q) fifteen Q) $$ H
  iintro H
  iapply HQ
  iexact H

theorem run_recvs (K : Dev nD × KI → ℕ) (c : Dev nD) (Q : PUnit → sProp 𝕄) :
    iprop(recs m K ∗ owing c 0 ∗ bigSepL fifteen fun q => iprop(cred (tallyAt (recvCell q c) () N) ∗ atPos ER (recvCell q c) 0 ∅ 0))
      ⊢ iprop(((owing c 0 ∗ bigSepL fifteen fun q => iprop(slotPts (sh q c) c fullShare (table m) ∗ atPos ER (recvCell q c) 1 ∅ 0)) -∗ Q ⟨⟩)
          -∗ WP c (recvs c) Q) := by
  iintro H HQ
  iapply (wp_each c (recs m K) (fun _ => owing c 0) _ (fun q => iprop(slotPts (sh q c) c fullShare (table m) ∗ atPos ER (recvCell q c) 1 ∅ 0)) _
    (fun q l Q => by
      iintro ⟨Hr, HO, H⟩
      iapply (step_wait m K c (.inr (.inr (.inr (.inl q)))) 0 _ N (wpE_waitDma2_eq 𝒱₀ (c : Thread nD τ) none Set.univ) (expect_recv m c q).symm _ (rest_recv m c q))
      isplitl [Hr]; · iexact Hr
      isplitl [HO]; · iexact HO
      isplitl [H]; · iexact H
      rw [MayWait_zero]; iempintro) fifteen Q) $$ H
  iintro H
  iapply HQ
  iexact H

theorem run_leaves (K : Dev nD × KI → ℕ) (c : Dev nD) (Q : PUnit → sProp 𝕄) :
    iprop(recs m K ∗ owing c 0 ∗ bigSepL fifteen fun p => iprop(cred (tallyAt (sendCell p c) () N) ∗ atPos ER (sendCell p c) 0 ∅ 0))
      ⊢ iprop(((owing c 0 ∗ bigSepL fifteen fun p => iprop(slotPts c c (shr p.castSucc) (table m) ∗ atPos ER (sendCell p c) 1 ∅ 0)) -∗ Q ⟨⟩)
          -∗ WP c (leaves c) Q) := by
  iintro H HQ
  iapply (wp_each c (recs m K) (fun _ => owing c 0) _ (fun p => iprop(slotPts c c (shr p.castSucc) (table m) ∗ atPos ER (sendCell p c) 1 ∅ 0)) _
    (fun p l Q => by
      iintro ⟨Hr, HO, H⟩
      iapply (step_wait m K c (.inr (.inr (.inl p))) 0 _ N (wpE_waitDma2_eq 𝒱₀ (c : Thread nD τ) none Set.univ) (expect_send m c p).symm _ (rest_send m c p))
      isplitl [Hr]; · iexact Hr
      isplitl [HO]; · iexact HO
      isplitl [H]; · iexact H
      rw [MayWait_zero]; iempintro) fifteen Q) $$ H
  iintro H
  iapply HQ
  iexact H

/-- From the local copies to the own slot. -/
theorem run_compute (K : Dev nD × KI → ℕ) (c : Dev nD) (Q : PUnit → sProp 𝕄) :
    iprop(recs m K ∗ levAts L lv ∗ owing c (owedB c []) ∗ (bigSepL [0, 1, 2, 3] fun k => dutyTok ER (locCell k c) 0 0)
        ∗ (bigSepL [0, 1, 2, 3] fun k => atPos ER (locCell k c) 0 ∅ 0) ∗ bigSepL [0, 1, 2, 3] (rowPts m c) ∗ bigSepL [0, 1, 2, 3] (halfAny c)
        ∗ ∃ f, slotPts c c fullShare f)
      ⊢ iprop(((owing c (owedB c []) ∗ (bigSepL [0, 1, 2, 3] fun k => atPos ER (locCell k c) 1 ∅ 0) ∗ bigSepL [0, 1, 2, 3] (rowPts m c)
          ∗ bigSepL [0, 1, 2, 3] (halfAny c) ∗ slotPts c c fullShare (table m)) -∗ Q ⟨⟩) -∗ WP c (compute c) Q) := by
  rw [compute_eq]
  unfold WP
  rw [wp_bind]
  simp only [four_chain]
  iintro ⟨#Hr, #Hl, HO, Ht, Hat, Hrow, Hh, Hs⟩ HQ
  iapply (wp_each c (recs m K) (fun _ => iprop(emp)) _ (fun k => cred (tallyAt (locCell k c) () (M k))) _ (step_copy m K c) [0, 1, 2, 3] _) $$ [Ht Hrow Hh]
  · isplitr; · iexact Hr
    isplitr; · iempintro
    iapply (Entails.of_eq (four_chain _).symm)
    icases Ht with ⟨Ht0, Ht1, Ht2, Ht3⟩
    icases Hrow with ⟨Hr0, Hr1, Hr2, Hr3⟩
    icases Hh with ⟨Hh0, Hh1, Hh2, Hh3⟩
    isplitl [Ht0 Hr0 Hh0]
    · isplitl [Ht0]; · iexact Ht0
      isplitl [Hr0] <;> iassumption
    isplitl [Ht1 Hr1 Hh1]
    · isplitl [Ht1]; · iexact Ht1
      isplitl [Hr1] <;> iassumption
    isplitl [Ht2 Hr2 Hh2]
    · isplitl [Ht2]; · iexact Ht2
      isplitl [Hr2] <;> iassumption
    · isplitl [Ht3]; · iexact Ht3
      isplitl [Hr3] <;> iassumption
  iintro ⟨-, Hc⟩
  ihave Hc' := (Entails.of_eq (four_chain fun k => (cred (tallyAt (locCell k c) () (M k)) : sProp 𝕄))) $$ Hc
  icases Hc' with ⟨Hc0, Hc1, Hc2, Hc3⟩
  icases Hat with ⟨Ha0, Ha1, Ha2, Ha3⟩
  rw [wp_bind]
  iapply (step_fetch m K c 0 _) $$ [HO Hc0 Ha0]
  · isplitr; · iexact Hr
    isplitr; · iexact Hl
    isplitl [HO]; · iexact HO
    isplitl [Hc0] <;> iassumption
  iintro ⟨HO, Hh0, Hr0, Ha0⟩
  rw [wp_bind]
  iapply (step_fetch m K c 1 _) $$ [HO Hc1 Ha1]
  · isplitr; · iexact Hr
    isplitr; · iexact Hl
    isplitl [HO]; · iexact HO
    isplitl [Hc1] <;> iassumption
  iintro ⟨HO, Hh1, Hr1, Ha1⟩
  rw [wp_bind]
  iapply (step_fetch m K c 2 _) $$ [HO Hc2 Ha2]
  · isplitr; · iexact Hr
    isplitr; · iexact Hl
    isplitl [HO]; · iexact HO
    isplitl [Hc2] <;> iassumption
  iintro ⟨HO, Hh2, Hr2, Ha2⟩
  rw [wp_bind]
  iapply (step_fetch m K c 3 _) $$ [HO Hc3 Ha3]
  · isplitr; · iexact Hr
    isplitr; · iexact Hl
    isplitl [HO]; · iexact HO
    isplitl [Hc3] <;> iassumption
  iintro ⟨HO, Hh3, Hr3, Ha3⟩
  iapply (step_fill m c Q) $$ Hs
  iintro Hs
  iapply HQ
  isplitl [HO]; · iexact HO
  isplitl [Ha0 Ha1 Ha2 Ha3]
  · isplitl [Ha0]; · iexact Ha0
    isplitl [Ha1]; · iexact Ha1
    isplitl [Ha2] <;> iassumption
  isplitl [Hr0 Hr1 Hr2 Hr3]
  · isplitl [Hr0]; · iexact Hr0
    isplitl [Hr1]; · iexact Hr1
    isplitl [Hr2] <;> iassumption
  isplitl [Hh0 Hh1 Hh2 Hh3]
  · isplitl [Hh0]; · iexact Hh0
    isplitl [Hh1]; · iexact Hh1
    isplitl [Hh2] <;> iassumption
  iexact Hs

theorem zip (Φ Ψ : Fin 15 → sProp 𝕄) : iprop(bigSepL fifteen Φ ∗ bigSepL fifteen Ψ) ⊢ bigSepL fifteen (fun p => iprop(Φ p ∗ Ψ p)) :=
  Entails.of_eq (fifteen_sep Φ Ψ).symm

/-- The positions of all cells after the exchange. -/
theorem positions_over (c : Dev nD) :
    iprop(atPos ER (barCell c) 1 ∅ 0 ∗ (bigSepL [0, 1, 2, 3] fun k => atPos ER (locCell k c) 1 ∅ 0) ∗ (bigSepL fifteen fun p => atPos ER (sendCell p c) 1 ∅ 0)
        ∗ (bigSepL fifteen fun q => atPos ER (recvCell q c) 1 ∅ 0) ∗ bigSep Finset.univ fun b : Fin 2 => atPos ER (kcell (c, .inr (.inr (.inr (.inr b))))) 0 ∅ 0)
      ⊢ (bigSep Finset.univ (over m c) : sProp 𝕄) := by
  rw [cells_split]
  exact BIClass.sep_mono (over_one m c (.inl 0)) (BIClass.sep_mono (bigSepL_mono fun k _ => over_one m c (.inr (.inl k)))
    (BIClass.sep_mono (bigSepL_mono fun p _ => over_one m c (.inr (.inr (.inl p))))
      (BIClass.sep_mono (bigSepL_mono fun q _ => over_one m c (.inr (.inr (.inr (.inl q))))) (bigSep_mono fun b _ => over_idle m c b))))

theorem run_bar (K : Dev nD × KI → ℕ) (c : Dev nD) (Q : PUnit → sProp 𝕄) :
    iprop(recs m K ∗ levAts L lv ∗ owing c (owedB c []) ∗ cred (tallyAt (barCell c) () 15) ∗ atPos ER (barCell c) 0 ∅ 0)
      ⊢ iprop(((owing c (owedB c []) ∗ (bigSepL fifteen fun p => iprop(∃ f, slotPts c (sh p c) fullShare f)) ∗ atPos ER (barCell c) 1 ∅ 0) -∗ Q ⟨⟩)
          -∗ WP c (semWaitWord barS 15#32) Q) := by
  rw [← fifteen_eq]
  iintro ⟨Hr, #Hl, HO, Hc, Hat⟩
  iapply (step_wait m K c (.inl 0) (owedB c []) (.semWait barS ((15#32 : BitVec 32).toInt)) 15 (fun X => wpE_semWait_eq 𝒱₀ (c : Thread nD τ) none Set.univ (k := 15) X)
    (expect_bar m c).symm _ (rest_bar m c))
  isplitl [Hr]; · iexact Hr
  isplitl [HO]; · iexact HO
  isplitl [Hc Hat]
  · isplitl [Hc]; · iexact Hc
    iexact Hat
  iapply (mayWait_bar c fifteen); iexact Hl

set_option maxHeartbeats 1000000 in
/-- The body on device `c`. -/
theorem run_body (K : Dev nD × KI → ℕ) (c : Dev nD) (Q : PUnit → sProp 𝕄) :
    bodyPre m K c ⊢ iprop((bodyPost m c -∗ Q ⟨⟩) -∗ WP c (body (Memref.whole cc0_stg0_0)) Q) := by
  unfold bodyPre positions payToks creds scratch body
  simp only [Prog.lift, Prog.bind_op, Prog.bind_ret, wp_deviceId, cells_split]
  iintro ⟨⟨#Hr, #Hl, ⟨HaB, HaL, HaS, HaR, HaI⟩, ⟨HtB, HtX, HtL⟩, ⟨HcB, HcR⟩, Hargs⟩, ⟨Hrow, Htab⟩, HO, Hout⟩ HQ
  ihave Hargs' := (args_lend m c) $$ Hargs
  icases Hargs' with ⟨Hrows, Hargs⟩
  ihave Htab' := (any_around c) $$ Htab
  icases Htab' with ⟨Hown, Hoth⟩
  ihave Hh := (halves_out c) $$ Hrow
  -- the signals hand out the fifteen other slots
  rw [wp_bind]
  iapply (run_signals m K c _) $$ [HO HtB Hoth]
  · isplitr; · iexact Hr
    isplitl [HO]; · iexact HO
    iapply (Entails.of_eq (fifteen_sep (fun p => dutyTok ER (barCell (sh p c)) 0 p.rev) (fun p => iprop(∃ f, slotPts (sh p c) c fullShare f))).symm)
    isplitl [HtB] <;> iassumption
  iintro HO
  -- the own slot
  rw [wp_bind]
  iapply (run_compute m K c _) $$ [HO HtL HaL Hrows Hh Hown]
  · isplitr; · iexact Hr
    isplitr; · iexact Hl
    isplitl [HO]; · iexact HO
    isplitl [HtL]; · iexact HtL
    isplitl [HaL]; · iexact HaL
    isplitl [Hrows]; · iexact Hrows
    isplitl [Hh]; · iexact Hh
    iexact Hown
  iintro ⟨HO, HaL, Hrows, Hh, Hown⟩
  -- the barrier brings the own slot of every other device's table
  rw [wp_bind]
  iapply (run_bar m K c _) $$ [HO HcB HaB]
  · isplitr; · iexact Hr
    isplitr; · iexact Hl
    isplitl [HO]; · iexact HO
    isplitl [HcB]; · iexact HcB
    iexact HaB
  iintro ⟨HO, Hdst, HaB⟩
  ihave Hown' := (Entails.of_eq (shares c c (table m))) $$ Hown
  icases Hown' with ⟨Hkept, Hsrc⟩
  -- the copies
  rw [wp_bind]
  iapply (run_sends m K c _) $$ [HO HtX Hsrc Hdst]
  · isplitr; · iexact Hr
    isplitl [HO]; · iexact HO
    iapply (zip _ _)
    isplitl [HtX]; · iexact HtX
    iapply (zip _ _)
    isplitl [Hsrc] <;> iassumption
  iintro ⟨HO, HcS⟩
  rw [wp_bind]
  iapply (run_recvs m K c _) $$ [HO HcR HaR]
  · isplitr; · iexact Hr
    isplitl [HO]; · iexact HO
    iapply (zip _ _)
    isplitl [HcR]; · iexact HcR
    iexact HaR
  iintro ⟨HO, Hgot⟩
  ihave Hgot' := (Entails.of_eq (fifteen_sep (fun q => slotPts (sh q c) c fullShare (table m)) (fun q => atPos ER (recvCell q c) 1 ∅ 0))) $$ Hgot
  icases Hgot' with ⟨Hoth, HaR⟩
  ihave Hoth' := (Entails.of_eq (others_shares c (table m))) $$ Hoth
  icases Hoth' with ⟨Hoth, Hrest⟩
  -- the sum reads the kept share of the whole table
  rw [wp_bind]
  iapply (step_total m c (shr 15) _) $$ [Hkept Hoth Hout]
  · isplitl [Hkept Hoth]
    · iapply (Entails.of_eq (whole_around c (shr 15) (table m)).symm)
      isplitl [Hkept] <;> iassumption
    iexact Hout
  iintro ⟨Hw, Hout⟩
  ihave Hw' := (Entails.of_eq (whole_around c (shr 15) (table m))) $$ Hw
  icases Hw' with ⟨Hkept, Hoth⟩
  -- the own copies have left
  iapply (wp_fupd frame (wpE (defs₀ (F := F)) 𝒱₀ (c : Thread nD τ) none) Set.univ (leaves c) Q)
  iapply (run_leaves m K c _) $$ [HO HcS HaS]
  · isplitr; · iexact Hr
    isplitl [HO]; · iexact HO
    iapply (zip _ _)
    isplitl [HcS]; · iexact HcS
    iexact HaS
  iintro ⟨HO, Hgot⟩
  ihave Hgot' := (Entails.of_eq (fifteen_sep (fun p => slotPts c c (shr p.castSucc) (table m)) (fun p => atPos ER (sendCell p c) 1 ∅ 0))) $$ Hgot
  icases Hgot' with ⟨Hsrc, HaS⟩
  imod (close_all m K c) $$ [HaB HaL HaS HaR HaI] with Hz
  · isplitr; · iexact Hr
    iapply (positions_over m c)
    isplitl [HaB]; · iexact HaB
    isplitl [HaL]; · iexact HaL
    isplitl [HaS]; · iexact HaS
    isplitl [HaR]; · iexact HaR
    iexact HaI
  imodintro
  iapply HQ
  unfold bodyPost scratch
  isplitr [HO Hout]
  · isplitl [Hh Hkept Hsrc Hoth Hrest]
    · isplitl [Hh]; · iapply (halves_back c); iexact Hh
      iexists (table m)
      iapply (Entails.of_eq (whole_around c fullShare (table m)).symm)
      isplitl [Hkept Hsrc]
      · iapply (Entails.of_eq (shares c c (table m)).symm)
        isplitl [Hkept] <;> iassumption
      · iapply (Entails.of_eq (others_shares c (table m)).symm)
        isplitl [Hoth] <;> iassumption
    isplitl [Hargs Hrows]
    · iapply Hargs; iexact Hrows
    iexact Hz
  isplitl [HO]; · iexact HO
  iexact Hout

end Cert.KernelIdeal.Body

end
-- ==== Proof.Deal.lean ====
/-
What the launch deals to each device.

At the launch every cell of every device gets its invariant; a duty's token goes to the device that pays it, and the
units that a device's cells are owed come to that device as credits. The tokens travel around the devices: the one of
duty `p` of a barrier goes `p + 1` places on, and the one of receive cell `q` goes to the device whose copy arrives
there.
-/
module

public import proofs.«01_k».proof.Proof.Exchange
public import proofs.«01_k».proof.Proof.Gen.KernelIdeal.Launch

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## Cells and tokens -/

theorem ownSemFacts : Pipeline.OwnSemFacts cfg0.spec osem := by decide +kernel

theorem ksem_inj : Function.Injective ksem := by decide +kernel
theorem kcell_inj : Function.Injective (kcell : Dev nD × KI → GSem nD τ sig) := by
  rintro ⟨c, i⟩ ⟨c', i'⟩ h
  have h1 : c = c' := congrArg (fun g : GSem nD τ sig => g.1.1) h
  have h2 : i = i' := ksem_inj (congrArg Prod.snd h)
  rw [h1, h2]

/-- All cells of all devices. -/
def allCells : Finset (GSem nD τ sig) := Finset.univ.map ⟨kcell, kcell_inj⟩

/-- The duties of a device's cells. -/
abbrev TI : Type := Fin 15 ⊕ (Fin 15 ⊕ (Fin 15 ⊕ Fin 4))
def duty : TI → SemLoc sig × ℕ × Fin 15
  | .inl p => (.reg barS, 0, p)
  | .inr (.inl p) => (.dma (sendSem p), 0, 0)
  | .inr (.inr (.inl q)) => (.dma (recvSem q), 0, 0)
  | .inr (.inr (.inr k)) => (.dma (locS k), 0, 0)
theorem duty_inj : Function.Injective duty := by decide +kernel

abbrev tokOf (x : Dev nD × TI) : GSem nD τ sig × ℕ × Fin 15 := (((x.1 : Thread nD τ), (duty x.2).1), (duty x.2).2)
theorem tokOf_inj : Function.Injective tokOf := by
  rintro ⟨c, i⟩ ⟨c', i'⟩ h
  have h1 : c = c' := congrArg (fun g : GSem nD τ sig × ℕ × Fin 15 => g.1.1.1) h
  have h2 : i = i' := duty_inj (Prod.ext (congrArg (fun g : GSem nD τ sig × ℕ × Fin 15 => g.1.2) h) (congrArg (fun g : GSem nD τ sig × ℕ × Fin 15 => g.2) h))
  rw [h1, h2]
def allToks : Finset (GSem nD τ sig × ℕ × Fin 15) := Finset.univ.map ⟨tokOf, tokOf_inj⟩

def u₀ : UU :=
  (initOf (Pipeline.cells cfgs cellOf_inj) (Pipeline.launchToks cfgs cellOf_inj), initOf allCells allToks)

/-- The tokens of the duties of a device's own cells. -/
def toks (c : Dev nD) : sProp 𝕄 :=
  iprop((bigSep Finset.univ fun p : Fin 15 => dutyTok ER (barCell c) 0 p)
    ∗ (bigSep Finset.univ fun p : Fin 15 => dutyTok ER (sendCell p c) 0 0)
    ∗ (bigSep Finset.univ fun q : Fin 15 => dutyTok ER (recvCell q c) 0 0)
    ∗ bigSep Finset.univ fun k : Fin 4 => dutyTok ER (locCell k c) 0 0)

/-- What a device gets first, -/
def dealt (c : Dev nD) : sProp 𝕄 :=
  iprop((bigSep Finset.univ fun i : KI => roundState ER (Rd m) (kcell (c, i)) 0)
    ∗ (bigSep Finset.univ fun i : KI => iprop(atPos ER (kcell (c, i)) 0 ∅ 0 ∗ reached ER (kcell (c, i)) 0)) ∗ toks c)
/-- and what it holds when the cells have their invariants and the tokens have been passed on. -/
def ready (c : Dev nD) : sProp 𝕄 := iprop((∃ K, recs m K) ∗ positions c ∗ payToks c)

theorem toks_all : bigSep allToks (fun x => (dutyTok ER x.1 x.2.1 x.2.2 : sProp 𝕄)) = bigSep Finset.univ fun c : Dev nD => toks c := by
  unfold allToks; rw [bigSep_map, bigSep_univ_prod]
  exact bigSep_congr fun c _ => by
    unfold toks; rw [bigSep_univ_sum, bigSep_univ_sum, bigSep_univ_sum]; rfl

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun i : KI => Φ (kcell (c, i)) := by
    unfold allCells; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_all) $$ Htok
  unfold dealt; simp only [bigSep_sep']
  isplitl [Hst']; · iexact Hst'
  isplitl [Hat' Hr']
  · isplitl [Hat'] <;> iassumption
  iexact Htok'

/-! ## The semaphores at zero -/

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells at zero are its barrier and the kernel's own semaphores. -/
theorem closed_eq (c : Dev nD) : (closed c : sProp 𝕄)
    = iprop(unscopedSems0 c ∗ Pipeline.ownSems0 (Ix := Unit) (Name := ℕ) (U := UU) (Lvl := ℕ) (Val := Elt F) (τ := τ) osem c) := by
  unfold closed Pipeline.ownSems0
  rw [unscopedSems0_eq, bigSep_univ_sum, bigSep_univ_of_subsingleton (0 : Fin 1)]; rfl

theorem alloc_one (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : KI => iprop(∃ κ : ℕ, cellInv ER (Rd m) κ (kcell (c, i))))
          ∗ (bigSep Finset.univ fun i : KI => iprop(atPos ER (kcell (c, i)) 0 ∅ 0 ∗ reached ER (kcell (c, i)) 0)) ∗ toks c) := by
  unfold dealt
  iintro ⟨Hos, Hus, Hst, Hat, Htok⟩
  ihave Hv := (Entails.of_eq (closed_eq (F := F) c).symm) $$ [Hos Hus]
  · isplitl [Hus] <;> iassumption
  imod (show iprop(closed c ∗ bigSep Finset.univ fun i : KI => roundState ER (Rd m) (kcell (c, i)) 0)
      ⊢ (|={Set.univ}=> bigSep Finset.univ fun i : KI => iprop(∃ κ : ℕ, cellInv ER (Rd m) κ (kcell (c, i))) : sProp 𝕄) from by
        unfold closed
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens passed on -/

/-- A device's place in a family and the position it is seen from, swapped: the `p + 1` places are gone once around. -/
def turn : Dev nD × Fin 15 ≃ Dev nD × Fin 15 :=
  Function.Involutive.toPerm (fun x => (sh x.2 x.1, x.2.rev)) fun x => by
    show (sh x.2.rev (sh x.2 x.1), x.2.rev.rev) = x
    rw [sh_rev, Fin.rev_rev]

theorem turned (Ψ : Dev nD → Fin 15 → sProp 𝕄) :
    (bigSep Finset.univ fun c => bigSep Finset.univ fun p => Ψ c p) = bigSep Finset.univ fun c => bigSep Finset.univ fun p : Fin 15 => Ψ (sh p c) p.rev := by
  rw [← bigSep_univ_prod (fun x : Dev nD × Fin 15 => Ψ x.1 x.2), bigSep_univ_equiv turn, bigSep_univ_prod]; rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep',
    turned (fun c p => dutyTok ER (barCell c) 0 p), turned (fun c q => dutyTok ER (recvCell q c) 0 0)]
  simp only [← fifteen_eq, ← four_eq, bigSep_sep']
  iintro ⟨H1, H2, H3, H4⟩
  isplitl [H1]; · iexact H1
  isplitl [H2 H3]
  · isplitl [H2] <;> iassumption
  iexact H4

theorem regroup :
    (bigSep Finset.univ fun c : Dev nD => iprop((bigSep Finset.univ fun i : KI => iprop(∃ κ : ℕ, cellInv ER (Rd m) κ (kcell (c, i))))
          ∗ (bigSep Finset.univ fun i : KI => iprop(atPos ER (kcell (c, i)) 0 ∅ 0 ∗ reached ER (kcell (c, i)) 0)) ∗ toks c) : sProp 𝕄)
      ⊢ bigSep Finset.univ (ready m) := by
  rw [bigSep_sep', bigSep_sep', ← bigSep_univ_prod (fun ck : Dev nD × KI => iprop(∃ κ : ℕ, cellInv ER (Rd m) κ (kcell ck))),
    bigSep_congr (s := Finset.univ) (fun (c : Dev nD) _ => bigSep_sep' Finset.univ (fun i : KI => (atPos ER (kcell (c, i)) 0 ∅ 0 : sProp 𝕄)) (fun i => reached ER (kcell (c, i)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd m) κ (kcell ck) : sProp 𝕄))) $$ HI
  icases HK with ⟨%K, #HI⟩
  ihave Htk := (toks_around (F := F)) $$ Htok
  iapply (with_persistent (R := recs m K) (Φ := fun c => iprop(positions c ∗ payToks c)) fun c _ => show _ ⊢ ready m c from by
    unfold ready
    iintro ⟨#H, Hp, Ht⟩
    isplitr; · iexists K; iexact H
    isplitl [Hp] <;> iassumption)
  isplitr
  · unfold recs; isplitl; · iexact HI
    iexact HR
  · iapply (Entails.of_eq (bigSep_sep' Finset.univ (fun c : Dev nD => positions c) payToks).symm)
    isplitl [Hat]
    · unfold positions; iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => alloc_one m c).trans (bigSep_fupd _ _)).trans (BI.fupd_mono (regroup m))

/-! ## The credits -/

theorem recvSem_inj : Function.Injective (recvSem : Fin 15 → DmaSem sig) := by decide +kernel

theorem bar_ne (q : Fin 15) : (SemLoc.reg barS : SemLoc sig) ≠ .dma (recvSem q) := fun h => by injection h

theorem tally_bar (d c : Dev nD) : (tallyAt (barCell d) () 1 : CellTallies nD τ sig Unit) (barCell c) () = if d = c then 1 else 0 := by
  rw [tallyAt_apply]
  refine if_congr ⟨fun h => congrArg (fun g : GSem nD τ sig => g.1.1) h.1.symm, fun h => ⟨by rw [h], rfl⟩⟩ rfl rfl
theorem tally_recv (q' q : Fin 15) (d c : Dev nD) :
    (tallyAt (recvCell q' d) () N : CellTallies nD τ sig Unit) (recvCell q c) () = N * if q' = q ∧ d = c then 1 else 0 := by
  rw [tallyAt_apply, mul_ite, Nat.mul_one, Nat.mul_zero]
  refine if_congr ⟨fun h => ⟨recvSem_inj (SemLoc.dma.inj (congrArg Prod.snd h.1.symm)), congrArg (fun g : GSem nD τ sig => g.1.1) h.1.symm⟩,
    fun h => ⟨by rw [h.1, h.2], rfl⟩⟩ rfl rfl
theorem tally_bar_recv (q : Fin 15) (d c : Dev nD) : (tallyAt (barCell d) () 1 : CellTallies nD τ sig Unit) (recvCell q c) () = 0 := by
  rw [tallyAt_apply]
  exact if_neg fun h => bar_ne q (congrArg Prod.snd h.1).symm
theorem tally_recv_bar (q : Fin 15) (d c : Dev nD) : (tallyAt (recvCell q d) () N : CellTallies nD τ sig Unit) (barCell c) () = 0 := by
  rw [tallyAt_apply]
  exact if_neg fun h => bar_ne q (congrArg Prod.snd h.1)

theorem owedR_apply (d : Dev nD) (g : GSem nD τ sig) : ∀ l : List (Fin 15),
    owedR d l g () = (l.map fun p => (tallyAt (recvCell p.rev (sh p d)) () N : CellTallies nD τ sig Unit) g ()).sum
  | [] => rfl
  | p :: l => by
    rw [List.map_cons, List.sum_cons, ← owedR_apply d g l, Nat.add_comm]; rfl
theorem owedB_apply (d : Dev nD) (g : GSem nD τ sig) : ∀ l : List (Fin 15),
    owedB d l g () = (l.map fun p => (tallyAt (barCell (sh p d)) () 1 : CellTallies nD τ sig Unit) g ()).sum + owedR d fifteen g ()
  | [] => (Nat.zero_add _).symm
  | p :: l => by
    rw [List.map_cons, List.sum_cons, Nat.add_assoc, ← owedB_apply d g l, Nat.add_comm]; rfl

theorem units_bar : ∀ c : Dev nD, ∑ d : Dev nD, (fifteen.map fun p => if sh p d = c then 1 else 0).sum = 15 := by decide +kernel
theorem units_recv : ∀ (q : Fin 15) (c : Dev nD), ∑ d : Dev nD, (fifteen.map fun p => if p.rev = q ∧ sh p d = c then 1 else 0).sum = 1 := by decide +kernel

theorem map_zero (f : Fin 15 → ℕ) (h : ∀ p, f p = 0) (l : List (Fin 15)) : (l.map f).sum = 0 := by
  induction l with
  | nil => rfl
  | cons p l ih => rw [List.map_cons, List.sum_cons, h, ih]

theorem owed_bar (d c : Dev nD) : O₀ d (barCell c) () = (fifteen.map fun p => if sh p d = c then 1 else 0).sum := by
  unfold O₀
  rw [owedB_apply, owedR_apply, map_zero _ (fun p => tally_recv_bar _ _ _), Nat.add_zero]
  exact congrArg List.sum (List.map_congr_left fun p _ => tally_bar _ _)
theorem owed_recv (q : Fin 15) (d c : Dev nD) : O₀ d (recvCell q c) () = N * (fifteen.map fun p => if p.rev = q ∧ sh p d = c then 1 else 0).sum := by
  unfold O₀
  rw [owedB_apply, map_zero _ (fun p => tally_bar_recv _ _ _), Nat.zero_add, owedR_apply, ← List.sum_map_mul_left]
  exact congrArg List.sum (List.map_congr_left fun p _ => tally_recv _ _ _ _)

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, units_bar]
theorem launch_recv (q : Fin 15) (c : Dev nD) :
    tallyOn (recvCell q c) (launchCredit (Pipeline.owing O₀) 0 (recvCell q c)) = (tallyAt (recvCell q c) () N : CellTallies nD τ sig Unit) := by
  unfold tallyAt; refine congrArg _ (Finsupp.ext fun u => ?_); cases u
  rw [Pipeline.launchCredit_owing, Finsupp.single_eq_same, Finset.sum_congr rfl fun d _ => owed_recv q d c, ← Finset.mul_sum, units_recv, Nat.mul_one]

theorem creds_intro (c : Dev nD) : (Pipeline.launchCred O₀ c : sProp 𝕄) ⊢ creds c := by
  unfold Pipeline.launchCred creds
  rw [bigSep_univ_at _ (SemLoc.reg barS), launch_bar]
  refine sep_mono_right ?_
  rw [← fifteen_eq]
  have hs : Finset.univ.map ⟨fun q => SemLoc.dma (recvSem q), fun q q' h => recvSem_inj (SemLoc.dma.inj h)⟩ ⊆ (Finset.univ : Finset (SemLoc sig)).erase (SemLoc.reg barS) := by
    intro x hx
    obtain ⟨q, -, rfl⟩ := Finset.mem_map.mp hx
    exact Finset.mem_erase.mpr ⟨(bar_ne q).symm, Finset.mem_univ _⟩
  refine (bigSep_subset hs).trans ?_
  rw [bigSep_map]
  exact bigSep_mono fun q _ => show (cred (tallyOn (recvCell q c) (launchCredit (Pipeline.owing O₀) 0 (recvCell q c))) : sProp 𝕄) ⊢ cred (tallyAt (recvCell q c) () N)
    from Entails.of_eq (congrArg cred (launch_recv q c))

end Cert.KernelIdeal.Body

end
-- ==== Proof.Launch.lean ====
/-
The run of the kernel on all sixteen devices, at any float values.

Every weakly fair execution ends with the result of every device holding the sum of the sixteen slots of the table,
the arguments as they were and every semaphore at zero.
-/
module

public import proofs.«01_k».proof.Proof.Deal
public import proofs.«01_k».proof.Proof.Gen.KernelIdeal.Points
public import proofs.«01_k».proof.Proof.Gen.KernelIdeal.Frame
public import Idealize.ShloMosaic.Lib.Pipeline.CollectiveSegs
public import Idealize.ShloMosaic.Lib.Quiescent

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data: one window, the result, and one point -/

/-- What the body starts from, -/
def start (c : Dev nD) : sProp 𝕄 := iprop(ready m c ∗ creds c ∗ levAts L lv ∗ args m c)
def Φ₀ (c : Dev nD) : sProp 𝕄 := iprop(start m c ∗ scratch c)
/-- and what it leaves. -/
def Φ₁ (c : Dev nD) : sProp 𝕄 := iprop(scratch c ∗ args m c ∗ closed c)

def dats (_ : Fin 1) (c : Dev nD) : Dat τ (Elt F) Unit ℕ UU ℕ cfg0 c where
  A w := m ((cfg0.win w).arr.view.loc (c : Thread nD τ))
  after w _ := match w with
    | ⟨0, _⟩ => k0_pay11 (table m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged result holding given contents. -/
def staged (c : Dev nD) (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0) ↦{fullShare} f)

set_option maxRecDepth 4000 in
def pointPre (c : Dev nD) : sProp 𝕄 :=
  iprop(Φ₀ m c ∗ (dats m 0 c).owesAt () t0_0.castSucc ∗ ∃ d, staged c ((dats m 0 c).before (0 : Fin 1) t0_0 d))
set_option maxRecDepth 4000 in
def pointPost (c : Dev nD) : sProp 𝕄 :=
  iprop(Φ₁ m c ∗ (dats m 0 c).owesAt () t0_0.succ ∗ staged c (k0_pay11 (table m)))

theorem owes_in (c : Dev nD) : ((dats m 0 c).owesAt () t0_0.castSucc : sProp 𝕄) ⊢ owing c (O₀ c) := by
  unfold Dat.owesAt Pipeline.owesWithin owing
  iintro ⟨%W, -, H⟩
  iexists W; iexact H
theorem owes_out (c : Dev nD) : (owing c 0 : sProp 𝕄) ⊢ (dats m 0 c).owesAt () t0_0.succ := by
  unfold Dat.owesAt Pipeline.owesWithin owing
  iintro ⟨%W, H⟩
  iexists W
  isplitr
  · ipureintro; exact fun _ _ => Or.inl trivial
  iexact H

set_option maxRecDepth 4000 in
theorem run_point (c : Dev nD) : pointPre m c ⊢ WP c (body (Memref.whole cc0_stg0_0)) (fun _ => pointPost m c) := by
  unfold pointPre Φ₀ start ready staged
  iintro ⟨⟨⟨⟨⟨%K, Hr⟩, Hpos, Htok⟩, Hcr, Hl, Hargs⟩, Hscr⟩, HO, ⟨%d, %f, -, Hout⟩⟩
  ihave HO' := (owes_in m c) $$ HO
  iapply (run_body m K c _) $$ [Hr Hpos Htok Hcr Hl Hargs Hscr HO' Hout]
  · unfold bodyPre
    isplitl [Hr Hpos Htok Hcr Hl Hargs]
    · isplitl [Hr]; · iexact Hr
      isplitl [Hl]; · iexact Hl
      isplitl [Hpos]; · iexact Hpos
      isplitl [Htok]; · iexact Htok
      isplitl [Hcr]; · iexact Hcr
      iexact Hargs
    isplitl [Hscr]; · iexact Hscr
    isplitl [HO']; · iexact HO'
    iexists f; iexact Hout
  unfold bodyPost pointPost Φ₁ staged
  iintro ⟨H, HO, Hout⟩
  isplitl [H]; · iexact H
  isplitl [HO]; · iapply (owes_out m c); iexact HO
  iexists _
  isplitr; · ipureintro; rfl
  iexact Hout

set_option maxRecDepth 100000 in
/-- The pipeline's obligation on device `c`. -/
theorem body_obligation (c : Dev nD) : BodyObligation (dats (F := F) m 0 c) (defs₀ (F := F)) 𝒱₀ () Set.univ := fun t => by
  rw [fin_N0 t]
  rw [bigSep_W0, bigSep_W0]
  have h : bodyAt0 (F := F) t0_0 = body (Memref.whole cc0_stg0_0) := cc0_body_eq _ _ _ _ _ _ _
  show _ ⊢ wp frame (wpE (defs₀ (F := F)) 𝒱₀ c none) Set.univ (bodyAt0 t0_0) _
  rw [h]
  simp only [owns_whole]
  exact run_point m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  rw [Pipeline.unscopedRestP_none]
  iintro ⟨Hu, Hl, Hcr, -, Hg⟩
  ihave Ha := (Entails.of_eq (unscopedRest0_eq c (fun b => m ((c : Thread nD τ).loc b)))) $$ Hu
  ihave Hc := (creds_intro (F := F) c) $$ Hcr
  imodintro
  unfold start
  isplitl
  · isplitl [Hg]; · iexact Hg
    isplitl [Hc]; · iexact Hc
    isplitl [Hl]; · iexact Hl
    unfold args; iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ scratch rowBufs
  iintro ⟨Hs, -, Hr⟩
  ihave Hr' := (Entails.of_eq (scopedRest0_eq c)) $$ Hr
  icases Hr' with ⟨H0, H1, H2⟩
  isplitl [Hs]; · iexact Hs
  isplitl [H0 H1]
  · isplitl [H0]
    · iexact H0
    · iexact H1
  iexact H2

/-- What is left beside the own semaphores and the scratch buffers. -/
def rest (c : Dev nD) : sProp 𝕄 := iprop(unscopedSems0 c ∗ args m c)

theorem phi1_exit (c : Dev nD) :
    (dats m 0 c).Φ (Fin.last cfg0.N) ⊢ iprop(rest m c ∗ Pipeline.ownSems0 osem c ∗ Pipeline.scopedRest cfg0.spec c) := by
  rw [show (dats m 0 c).Φ (Fin.last cfg0.N) = Φ₁ m c from rfl]
  unfold Φ₁ scratch rowBufs rest
  iintro ⟨⟨⟨H0, H1⟩, H2⟩, Ha, Hz⟩
  ihave Hz' := (Entails.of_eq (closed_eq (F := F) c)) $$ Hz
  icases Hz' with ⟨Hu, Ho⟩
  isplitl [Hu Ha]
  · isplitl [Hu] <;> iassumption
  isplitl [Ho]; · iexact Ho
  iapply (Entails.of_eq (scopedRest0_eq c).symm)
  isplitl [H0]; · iexact H0
  isplitl [H1]; · iexact H1
  iexact H2

theorem stage_low : ∀ (w : Fin cfg0.W) (s : Fin (cfg0.win w).nbuf), role (.dma ((cfg0.win w).sem s)) = .idle := by decide +kernel

theorem waits (c : Dev nD) : (levAts L lv : sProp 𝕄) ⊢ Pipeline.cellsWaits cfgs (dats m) () 0 c :=
  Pipeline.cellsWaits_intro cfgs (dats m) () 0 c fun w s t => by
    have h0 : lv ((c : Thread nD τ), .dma ((cfg0.win w).sem s)) () = 0 := by unfold lv; rw [stage_low]
    rcases t with ⟨_ | _, ht⟩
    · exact mayWait_low c _ h0 fifteen
    · exact mayWait_none c _ h0

/-- What a device's memory holds at the end, read off what it holds then. -/
def Read (c : Dev nD) (s : MemSt nD τ sig (Elt F)) : Prop :=
  (∀ sm : SemLoc sig, sm.isScoped .tc = false → s.sem ((c.tc : Thread nD τ), sm) = 0)
    ∧ s.mem ((c.tc : Thread nD τ).loc main_arg0) = m ((c.tc : Thread nD τ).loc main_arg0)
    ∧ s.mem ((c.tc : Thread nD τ).loc main_arg1) = m ((c.tc : Thread nD τ).loc main_arg1)

theorem read_one (s' : Phys nD τ sig (Elt F)) (ℓ : Loc nD τ sig) (f : Buf (Elt F) ℓ) :
    iprop((ℓ ↦{fullShare} f) ∗ SI s') ⊢ (⌜s'.mem.mem ℓ = f⌝ : sProp 𝕄) :=
  (sep_comm (M := 𝕄)).trans <| SI_pointsTo_agree.trans (Laws.pure_mono fun h => funext fun i => h i (Finset.mem_univ i))

theorem read_rest (c : Dev nD) (s' : Phys nD τ sig (Elt F)) :
    iprop(rest m c ∗ emp ∗ SI s') ⊢ |={Set.univ}=> (iprop(⌜Read m c s'.mem⌝ ∗ SI s') : sProp 𝕄) := by
  unfold rest args
  iintro ⟨⟨Hu, H0, H1⟩, -, HSI⟩
  ihave %h0 := (read_one s' ((c : Thread nD τ).loc main_arg0) (m ((c : Thread nD τ).loc main_arg0))) $$ [H0 HSI]
  · isplitl [H0] <;> iassumption
  ihave %h1 := (read_one s' ((c : Thread nD τ).loc main_arg1) (m ((c : Thread nD τ).loc main_arg1))) $$ [H1 HSI]
  · isplitl [H1] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, h0, h1⟩
  iexact HSI

/-- The end of a run: the result array as the pipeline leaves it, the arguments as they were, all semaphores at zero. -/
def Done (r : PUnit × MemSt nD τ sig (Elt F)) : Prop :=
  (∀ c : Dev nD, r.2.mem ((c.tc : Thread nD τ).loc main_v1) = (dats m 0 c).arrAt (0 : Fin 1) cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1))
  ∧ r.2.sem = fun _ => 0

set_option maxRecDepth 8000 in
theorem run_main : θ_run defs (onTc (τ := τ) (main (F := F))) ⟨m, fun _ => 0, ρ⟩ (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m) (hout := phi1_exit m)
    (QY := Read m) (hY := read_rest m)
    (hQ := fun _ h hs => ⟨fun c => ⟨(h c).1 0, (h c).2.2.2.1, (h c).2.2.2.2⟩, sem_eq_zero hs fun c => (h c).2.2.1⟩)

end Cert.KernelIdeal.Body

end
-- ==== Proof.Rows.lean ====
/-
Which rows the devices take.

Half `b` of device `j`'s rows begins, in the whole arrays, `2048` rows on for the second place along the axis that cuts
the arrays, and in the cut `1024` rows on for the second place along the first axis and `256` for each place along the
third. So the sixteen devices, two halves and 128 rows name each of the 4096 rows once, and a sum over the rows is the
sum of what the devices add up.
-/
module

public import Mathlib.Algebra.BigOperators.Fin
public import Mathlib.Data.Fintype.BigOperators
public import Mathlib.Data.EReal.Basic
public import Mathlib.Tactic.Ring

@[expose] public section

namespace Cert.KernelIdeal.Body

/-- The position of device `j`'s rows among the sixteen groups of 256. -/
def place (j : Fin 16) : Nat := 8 * (j.val / 4 % 2) + 4 * (j.val / 8) + j.val % 4

theorem place_lt : ∀ j, place j < 16 := by decide
theorem place_inj : ∀ j j', place j = place j' → j = j' := by decide

/-- The row of the whole arrays that is row `i` of half `b` of device `j`. -/
def row (j : Fin 16) (b : Fin 2) (i : Fin 128) : Fin 4096 :=
  ⟨256 * place j + 128 * b.val + i.val, by have := place_lt j; omega⟩

theorem row_bijective : Function.Bijective fun p : Fin 16 × Fin 2 × Fin 128 => row p.1 p.2.1 p.2.2 := by
  refine (Fintype.bijective_iff_injective_and_card _).2 ⟨?_, by simp⟩
  rintro ⟨j, b, i⟩ ⟨j', b', i'⟩ h
  have h := congrArg Fin.val h
  simp only [row] at h
  have hj : j = j' := place_inj j j' (by omega)
  have hb : b = b' := Fin.ext (by omega)
  have hi : i = i' := Fin.ext (by omega)
  rw [hj, hb, hi]

/-- The sum over the rows, as the devices add it up. -/
theorem sum_rows {M : Type} [AddCommMonoid M] (g : Fin 4096 → M) :
    ∑ R, g R = ∑ j, ((0 + ∑ i, g (row j 0 i)) + ∑ i, g (row j 1 i)) := by
  rw [← row_bijective.sum_comp g, Fintype.sum_prod_type]
  refine Finset.sum_congr rfl fun j _ => ?_
  rw [Fintype.sum_prod_type, Fin.sum_univ_two, zero_add]

end Cert.KernelIdeal.Body
-- ==== Proof.Scalars.lean ====
/-
One row's normalisation over the extended reals.

The kernel multiplies by the reciprocal root of the variance plus a constant, the reference by one over the root. The
variance is never negative, whatever the row holds, and the constant is positive, so the two are equal.
-/
module

public import Idealize.ShloMosaic.Lib.Pointwise

@[expose] public section

noncomputable section

namespace Cert.KernelIdeal.Body

open Idealize.ShloMosaic

/-- The length of a row, as a float constant. -/
abbrev len : EReal := Ideal.ofBits .f32 0x45000000#32
/-- What is added to the variance. -/
abbrev eps : EReal := Ideal.ofBits .f32 0x3727C5AC#32

theorem len_eq : len = ((2048 : ℝ) : EReal) := by
  simp [len, Ideal.ofBits, Ideal.ieee, -EReal.coe_mul]; norm_num

theorem eps_pos : 0 < eps := by
  simp [eps, Ideal.ofBits, Ideal.ieee, -EReal.coe_mul]

/-- The mean of a row. -/
def mean (f : Fin 2048 → EReal) : EReal := Ideal.div (∑ k, f k) len
/-- Its variance. -/
def var (f : Fin 2048 → EReal) : EReal := Ideal.div (∑ k, (f k - mean f) * (f k - mean f)) len
/-- Element `l` of the normalised row. -/
def hat (f : Fin 2048 → EReal) (l : Fin 2048) : EReal := (f l - mean f) * Ideal.rsqrt (var f + eps)

theorem square_nonneg (x : EReal) : 0 ≤ x * x := by
  rcases le_total 0 x with h | h
  · exact mul_nonneg h h
  · induction x with
    | bot => simp
    | top => simp at h
    | coe r => exact_mod_cast mul_self_nonneg r

theorem div_len_nonneg (x : EReal) (h : 0 ≤ x) : 0 ≤ Ideal.div x len := by
  rw [len_eq, Ideal.div_coe (by norm_num)]
  exact mul_nonneg h (by exact_mod_cast (by norm_num : (0 : ℝ) ≤ 1 / 2048))

theorem radicand_pos (f : Fin 2048 → EReal) : 0 < var f + eps :=
  lt_of_lt_of_le eps_pos (le_add_of_nonneg_left (div_len_nonneg _ (Finset.sum_nonneg fun _ _ => square_nonneg _)))

/-- One over the root is the reciprocal root, of a positive number. -/
theorem one_div_sqrt (v : EReal) (h : 0 < v) : Ideal.div 1 (Ideal.sqrt v) = Ideal.rsqrt v := by
  induction v with
  | bot => simp at h
  | top => simp [Ideal.div]
  | coe r =>
    have hr : 0 < r := by exact_mod_cast h
    have hs : Real.sqrt r ≠ 0 := (Real.sqrt_pos.mpr hr).ne'
    rw [Ideal.sqrt_coe, Ideal.rsqrt_coe, if_neg hr.not_gt, if_neg hr.not_gt, if_neg hr.ne', Ideal.div_coe hs, one_mul,
      one_div]

/-- The reference's normalised row is the kernel's. -/
theorem hat_eq (f : Fin 2048 → EReal) (l : Fin 2048) :
    (f l - mean f) * Ideal.div 1 (Ideal.sqrt (var f + eps)) = hat f l := by
  rw [one_div_sqrt _ (radicand_pos f), hat]

end Cert.KernelIdeal.Body

end
-- ==== Proof.KernelValue.lean ====
/-
What the kernel computes, at an index.

The result on every device is the sum of the sixteen slots; slot `j` holds, for each column, the sum over device `j`'s
two halves of the products with the normalised rows, and the sum of the rows themselves.
-/
module

public import proofs.«01_k».proof.Proof.Launch
public import proofs.«01_k».proof.Proof.Rows
public import proofs.«01_k».proof.Proof.Scalars
public import Idealize.ShloMosaic.Lib.Pipeline.ValueKit
public import Idealize.ShloMosaic.Lib.LayoutAt

@[expose] public section

noncomputable section

namespace Cert.KernelIdeal.Body

open Idealize.ShloMosaic Idealize.ShloMosaic.TcCoe Idealize.SL.Sem Cert.KernelIdeal.Gen

/-- The result array at the end: the sum of the slots. -/
theorem result_eq {F : FTy → Type} [FloatOps F] (m : (ℓ : Loc nD τ sig) → Buf (Elt F) ℓ) (c : Dev nD) :
    (dats m 0 c).arrAt (0 : Fin 1) cfg0.N = k0_pay11 (table m) := by
  refine (dats m 0 c).arrAt_eq_of_after_last 0 t0_0 (by decide +kernel) _ fun j => ?_
  blk_simp
  rfl

/-! ## A slot -/

/-- One half's products with its normalised rows, summed over its rows. -/
def gHalf (x d : Vec Ideal S128x2048 .f32) (l : Fin 2048) : EReal :=
  ∑ i : Fin 128, d (ix2 i l) * hat (fun k => x (ix2 i k)) l

set_option maxRecDepth 16384 in
theorem gRow_apply (x0 d0 x1 d1 : Vec Ideal S128x2048 .f32) (l : Fin 2048) :
    gRow x0 d0 x1 d1 (ix3 0 0 l) = (0 + gHalf x0 d0 l) + gHalf x1 d1 l := by
  pointwise [gRow, gHalf, hat, var, mean, k0_pay1, k0_pay3, k0_pay4, k0_pay6, k0_pay7, k0_pay8, k0_pay9]

set_option maxRecDepth 16384 in
theorem bRow_apply (d0 d1 : Vec Ideal S128x2048 .f32) (l : Fin 2048) :
    bRow d0 d1 (ix3 0 0 l) = (0 + ∑ i : Fin 128, d0 (ix2 i l)) + ∑ i : Fin 128, d1 (ix2 i l) := by
  pointwise [bRow, k0_pay2, k0_pay5, k0_pay10]

theorem total_apply (v : Vec Ideal S16x2x2048 .f32) (a : Fin 2) (l : Fin 2048) :
    k0_pay11 v (ix2 a l) = ∑ j : Fin 16, v (ix3 j a l) := by
  pointwise [k0_pay11]

/-! ## The rows of the whole arrays -/

theorem off1_eq : ∀ (b : Fin 2) (d : Dev nD), k0_off1 d (BitVec.ofNat 32 (128 * b.val))
    = ![1024 * (d.val / 8) + 256 * (d.val % 4) + 128 * b.val, 0] := by decide +kernel

/-- Device `c`'s part of a whole array. -/
abbrev part (X : (⟨2, ![4096, 2048]⟩ : Shape).Idx → EReal) (c : Dev nD) : (⟨2, ![2048, 2048]⟩ : Shape).Idx → EReal :=
  Layout.blockN ⟨2, ![2048, 2048]⟩ ⟨2, ![4096, 2048]⟩ (Layout.meshBlock [2, 2, 4] ![[1], []] c) X

/-- Row `i` of half `b` of device `c`'s rows, in its part: row `row c b i` of the whole array. -/
theorem part_row (X : (⟨2, ![4096, 2048]⟩ : Shape).Idx → EReal) (c : Dev nD) (b : Fin 2) (i : Fin 128) (k : Fin 2048)
    (y : (⟨2, ![2048, 2048]⟩ : Shape).Idx) (h0 : (y 0).val = 1024 * (c.val / 8) + 256 * (c.val % 4) + 128 * b.val + i.val)
    (h1 : (y 1).val = k.val) : part X c y = X (ix2 (row c b i) k) := by
  refine congrArg X (funext fun a => Fin.ext ?_)
  fin_cases a
  · show Layout.meshLin [2, 2, 4] c.val [1] * 2048 + (y 0).val = 256 * place c + 128 * b.val + i.val
    rw [h0]
    simp [Layout.meshLin, Layout.meshCoord, Layout.cutSize, place]
    omega
  · show Layout.meshLin [2, 2, 4] c.val [] * 2048 + (y 1).val = k.val
    rw [h1]
    simp [Layout.meshLin]

variable (m : (ℓ : Loc nD τ sig) → Buf (Elt Ideal) ℓ) (X D : (⟨2, ![4096, 2048]⟩ : Shape).Idx → EReal)

theorem xs_apply (c : Dev nD) (h : m ((c.tc : Thread nD τ).loc main_arg0) = part X c) (b : Fin 2) (i : Fin 128) (k : Fin 2048) :
    xs m c b (ix2 i k) = X (ix2 (row c b i) k) := by
  unfold xs
  rw [View.read_apply, h]
  refine (cast_eq _ _).trans (part_row X c b i k _ ?_ ?_)
  · show k0_off1 c (BitVec.ofNat 32 (128 * b.val)) 0 + 1 * i.val = _
    rw [off1_eq]; simp
  · show k0_off1 c (BitVec.ofNat 32 (128 * b.val)) 1 + 1 * k.val = _
    rw [off1_eq]; simp

theorem ds_apply (c : Dev nD) (h : m ((c.tc : Thread nD τ).loc main_arg1) = part D c) (b : Fin 2) (i : Fin 128) (k : Fin 2048) :
    ds m c b (ix2 i k) = D (ix2 (row c b i) k) := by
  unfold ds
  rw [View.read_apply, h]
  refine (cast_eq _ _).trans (part_row D c b i k _ ?_ ?_)
  · show k0_off1 c (BitVec.ofNat 32 (128 * b.val)) 0 + 1 * i.val = _
    rw [off1_eq]; simp
  · show k0_off1 c (BitVec.ofNat 32 (128 * b.val)) 1 + 1 * k.val = _
    rw [off1_eq]; simp

/-! ## The result -/

/-- The sum of a column's products with the normalised rows, over the whole arrays. -/
def dgamma (l : Fin 2048) : EReal := ∑ R : Fin 4096, D (ix2 R l) * hat (fun k => X (ix2 R k)) l
/-- The sum of a column. -/
def dbeta (l : Fin 2048) : EReal := ∑ R : Fin 4096, D (ix2 R l)

theorem table_zero (j : Fin 16) (l : Fin 2048) : table m (ix3 j 0 l) = gPart m j (ix3 0 0 l) := by
  refine (if_pos (rfl : (0 : ℕ) = 0)).trans ?_
  exact congrArg (gPart m j) (funext fun a => by fin_cases a <;> rfl)

theorem table_one (j : Fin 16) (l : Fin 2048) : table m (ix3 j 1 l) = bPart m j (ix3 0 0 l) := by
  refine (if_neg (by decide : ¬ (1 : ℕ) = 0)).trans ?_
  exact congrArg (bPart m j) (funext fun a => by fin_cases a <;> rfl)

/-- The kernel's first row is the sum over all rows of the whole arrays, -/
theorem kernel_dgamma (hX : ∀ c : Dev nD, m ((c.tc : Thread nD τ).loc main_arg0) = part X c)
    (hD : ∀ c : Dev nD, m ((c.tc : Thread nD τ).loc main_arg1) = part D c) (l : Fin 2048) :
    k0_pay11 (table m) (ix2 0 l) = dgamma X D l := by
  rw [total_apply, dgamma, sum_rows]
  refine Finset.sum_congr rfl fun j _ => ?_
  rw [table_zero, gPart, gRow_apply]
  simp only [gHalf, xs_apply m X j (hX j), ds_apply m D j (hD j)]

/-- and so is its second. -/
theorem kernel_dbeta (hD : ∀ c : Dev nD, m ((c.tc : Thread nD τ).loc main_arg1) = part D c) (l : Fin 2048) :
    k0_pay11 (table m) (ix2 1 l) = dbeta D l := by
  rw [total_apply, dbeta, sum_rows]
  refine Finset.sum_congr rfl fun j _ => ?_
  rw [table_one, bPart, bRow_apply]
  simp only [ds_apply m D j (hD j)]

end Cert.KernelIdeal.Body

end
-- ==== Proof.RefValue.lean ====
/-
What the reference computes, at an index: the same two sums over the rows of the whole arrays.
-/
module

public import proofs.«01_k».proof.Proof.Gen.ReferenceIdeal.Run
public import proofs.«01_k».proof.Proof.KernelValue

@[expose] public section

noncomputable section

namespace Cert.ReferenceIdeal.Body

open Idealize.ShloMosaic Idealize.ShloMosaic.TcCoe Idealize.SL.Sem Cert.ReferenceIdeal.Gen Cert.KernelIdeal.Body
open Cert.ReferenceIdeal

variable (X D : FVec Ideal S4096x2048 .f32)

/-- Rows with one number each, repeated along the row. -/
abbrev spread (v : FVec Ideal S4096x1 .f32) : FVec Ideal S4096x2048 .f32 :=
  broadcastInDim S4096x2048 ![0, 1] bcast_S4096x1_S4096x2048_0_1 v
/-- One number in every row. -/
abbrev fill (c : FVec Ideal S_ .f32) : FVec Ideal S4096x1 .f32 := broadcastInDim S4096x1 ![] bcast_S_S4096x1 c
/-- The sum of each row. -/
abbrev rowSum (v : FVec Ideal S4096x2048 .f32) : FVec Ideal S4096x1 .f32 :=
  broadcastInDim S4096x1 ![0] bcast_S4096_S4096x1_0 (Host.reduceAdd v (constant S_ .f32 0x00000000#32) reducesTo_S4096x2048_S4096_d1 h_S_)
/-- The sum of each column, as a row. -/
abbrev colSum (v : FVec Ideal S4096x2048 .f32) : FVec Ideal S1x2048 .f32 :=
  broadcastInDim S1x2048 ![1] bcast_S2048_S1x2048_1 (Host.reduceAdd v (constant S_ .f32 0x00000000#32) reducesTo_S4096x2048_S2048_d0 h_S_)
/-- The length of a row less the integer zero, by which the variance divides. -/
abbrev count : FVec Ideal S_ .f32 := subf (constant S_ .f32 0x45000000#32) (sitofp .f32 (constantI S_ 32 0#32))

/-- The array less each row's mean, -/
def centred : FVec Ideal S4096x2048 .f32 := subf X (spread (Host.divf (rowSum X) (fill (constant S_ .f32 0x45000000#32))))
/-- each row's variance, with the guard on its divisor, -/
def variance : FVec Ideal S4096x1 .f32 :=
  select (broadcastInDim S4096x1 ![] bcast_S_S4096x1 (cmpf .ogt (count : FVec Ideal S_ .f32) (constant S_ .f32 0x00000000#32)))
    (Host.divf (rowSum (mulf (centred X) (centred X))) (fill count)) (fill (id (constant S_ .f32 0x7FC00000#32)))
/-- one over its root, -/
def scale : FVec Ideal S4096x1 .f32 :=
  Host.divf (fill (constant S_ .f32 0x3F800000#32)) (Host.sqrt (addf (variance X) (fill (constant S_ .f32 0x3727C5AC#32))))
/-- and the reference's result. -/
def result : FVec Ideal S2x2048 .f32 :=
  concatenate S2x2048 0 [⟨S1x2048, colSum (mulf D (mulf (centred X) (spread (scale X))))⟩, ⟨S1x2048, colSum D⟩]
    concatenates_S1x2048_S1x2048_S2x2048_d0

theorem centred_apply (R : Fin 4096) (l : Fin 2048) :
    centred X (ix2 R l) = X (ix2 R l) - mean fun k => X (ix2 R k) := by
  pointwise [centred, mean]

theorem count_pos : (0 : EReal) < len := by
  rw [len_eq]; exact_mod_cast (by norm_num : (0 : ℝ) < 2048)

theorem count_apply : (count : FVec Ideal S_ .f32) = fun _ => len := by
  funext i
  show len - ((((0#32 : BitVec 32).toInt : ℤ) : ℝ) : EReal) = len
  simp

theorem variance_apply (R : Fin 4096) : variance X (ix2 R 0) = var fun k => X (ix2 R k) := by
  unfold variance
  rw [count_apply]
  pointwise [centred_apply, var]
  exact if_pos count_pos

theorem scale_apply (R : Fin 4096) :
    scale X (ix2 R 0) = Ideal.div 1 (Ideal.sqrt (var (fun k => X (ix2 R k)) + eps)) := by
  pointwise [scale, variance_apply]

/-- The reference's first row. -/
theorem result_dgamma (l : Fin 2048) : result X D (ix2 0 l) = dgamma X D l := by
  pointwise [result, centred_apply, scale_apply, dgamma]
  exact Finset.sum_congr rfl fun R _ => congrArg (D (ix2 R l) * ·) (hat_eq (fun k => X (ix2 R k)) l)

/-- And its second. -/
theorem result_dbeta (l : Fin 2048) : result X D (ix2 1 l) = dbeta D l := by
  pointwise [result, dbeta]

end Cert.ReferenceIdeal.Body

end
-- ==== Proof.lean ====
/-
The claims, from two runs: the kernel's (Proof/Launch.lean, for any float values) and the reference's. The kernel and
its idealization have the same text, so the kernel's frame is the idealization's run at the bit patterns. The results
are equal because both are the two sums over the rows of the whole arrays (Proof/KernelValue.lean, Proof/RefValue.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- Run over any float values, the kernel leaves the arguments unchanged and every semaphore at zero. -/
theorem frame {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0 :=
  (θ_run KernelIdeal.defs _ _).mono (fun _ h => ⟨fun c => (h.1 c).2, h.2⟩) (KernelIdeal.Body.run_main m ρ)

/-- The two body tables have the same text. -/
theorem bodies_eq {F : FTy → Type} [FloatOps F] : Kernel.defs₀ (F := F) = KernelIdeal.defs₀ (F := F) :=
  congrArg Defs.onTc (funext fun l => funext fun x => match l, x with
    | 0, _ => rfl
    | ⟨_ + 1, h⟩, _ => absurd h (Nat.not_lt.2 (Nat.le_add_left _ _)))

theorem defs_eq {F : FTy → Type} [FloatOps F] : Kernel.defs (F := F) = KernelIdeal.defs (F := F) :=
  congrArg (Pipeline.defs Kernel.pcfgs) bodies_eq

/-- The kernel's frame. -/
theorem frame_kernel : Cert.quiescent_Kernel := fun m ρ _ => by
  have h := frame (F := Bits) m ρ
  rw [← defs_eq] at h
  exact h

/-- The same of its idealization. -/
theorem frame_kernelIdeal : Cert.quiescent_KernelIdeal := fun m ρ _ => frame (F := Ideal) m ρ

/-- The same of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where each device holds its part of the reference's arguments, the kernel's result is the reference's. -/
theorem result_eq (m : (ℓ : Loc KernelIdeal.nD KernelIdeal.τ KernelIdeal.sig) → Buf (Elt Ideal) ℓ)
    (X D : (⟨2, ![4096, 2048]⟩ : Shape).Idx → EReal)
    (hX : ∀ c : Dev KernelIdeal.nD, m ((c.tc : Thread KernelIdeal.nD KernelIdeal.τ).loc KernelIdeal.main_arg0) = KernelIdeal.Body.part X c)
    (hD : ∀ c : Dev KernelIdeal.nD, m ((c.tc : Thread KernelIdeal.nD KernelIdeal.τ).loc KernelIdeal.main_arg1) = KernelIdeal.Body.part D c)
    (c : Dev KernelIdeal.nD) :
    (KernelIdeal.Body.dats m 0 c).arrAt (0 : Fin 1) KernelIdeal.cfg0.N = ReferenceIdeal.Body.result X D := by
  rw [KernelIdeal.Body.result_eq]
  funext i
  obtain ⟨a, l, rfl⟩ : ∃ (a : Fin 2) (l : Fin 2048), i = ix2 a l := ⟨i 0, i 1, eq_ix2 i⟩
  fin_cases a
  · exact (KernelIdeal.Body.kernel_dgamma m X D hX hD l).trans (ReferenceIdeal.Body.result_dgamma X D l).symm
  · exact (KernelIdeal.Body.kernel_dbeta m D hD l).trans (ReferenceIdeal.Body.result_dbeta X D l).symm

/-- The value claim. -/
theorem algebraic : Cert.algebraic_KernelIdeal_ReferenceIdeal := fun m ρ m' ρ' _ h =>
  ⟨ReferenceIdeal.Body.result (m' ((0 : Dev ReferenceIdeal.nD).tc.loc ReferenceIdeal.main_arg0)) (m' ((0 : Dev ReferenceIdeal.nD).tc.loc ReferenceIdeal.main_arg1)),
    (θ_run KernelIdeal.defs _ _).mono
      (fun _ hr c => ⟨(hr.1 c).1.trans (result_eq m _ _ (fun c => (h c).1) (fun c => (h c).2) c), (hr.1 c).2⟩)
      (KernelIdeal.Body.run_main (F := Ideal) m ρ),
    (θ_run ReferenceIdeal.defs _ _).mono (fun _ hr => hr 0) (ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
